-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rg_finite [hPre_rg_finite : Cert.Pre_rg_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rg_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_rg_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_rg_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rg_finite [hPre_rg_finite : Cert.Pre_rg_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rg_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_rg_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_rg_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_rg_finite [hKernelIdeal : Cert.KernelIdeal.Facts] [hPre_rg_finite : Cert.Pre_rg_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rg_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_rg_finite [hReferenceIdeal : Cert.ReferenceIdeal.Facts] [hPre_rg_finite : Cert.Pre_rg_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rg_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "decay" .f32 0xC0B8AA3B#32 (((-4) * (Real.log 2)⁻¹ : ℝ) : EReal)

def algebraic_KernelIdeal_ReferenceIdeal_pre_rg_finite [hKernelIdeal : Cert.KernelIdeal.Facts] [hReferenceIdeal : Cert.ReferenceIdeal.Facts] [hPre_rg_finite : Cert.Pre_rg_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rg_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v97_3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v139) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v27_0)) (v1 : (c : Dev Cert.Kernel3Ideal.nD) → Buf (Elt Ideal) ((c.tc : Thread Cert.Kernel3Ideal.nD Cert.Kernel3Ideal.τ).loc Cert.Kernel3Ideal.main_v27_1)) (v2 : (c : Dev Cert.Kernel3Ideal.nD) → Buf (Elt Ideal) ((c.tc : Thread Cert.Kernel3Ideal.nD Cert.Kernel3Ideal.τ).loc Cert.Kernel3Ideal.main_v27_2)) (v3 : (c : Dev Cert.Kernel3Ideal.nD) → Buf (Elt Ideal) ((c.tc : Thread Cert.Kernel3Ideal.nD Cert.Kernel3Ideal.τ).loc Cert.Kernel3Ideal.main_v27_3)) (v4 : (c : Dev Cert.Kernel3Ideal.nD) → Buf (Elt Ideal) ((c.tc : Thread Cert.Kernel3Ideal.nD Cert.Kernel3Ideal.τ).loc Cert.Kernel3Ideal.main_v27_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27_0) = v0 c
          ∧ r.2.mem ((c.tc : Thread Cert.Kernel3Ideal.nD Cert.Kernel3Ideal.τ).loc Cert.Kernel3Ideal.main_v27_1) = v1 c
          ∧ r.2.mem ((c.tc : Thread Cert.Kernel3Ideal.nD Cert.Kernel3Ideal.τ).loc Cert.Kernel3Ideal.main_v27_2) = v2 c
          ∧ r.2.mem ((c.tc : Thread Cert.Kernel3Ideal.nD Cert.Kernel3Ideal.τ).loc Cert.Kernel3Ideal.main_v27_3) = v3 c
          ∧ r.2.mem ((c.tc : Thread Cert.Kernel3Ideal.nD Cert.Kernel3Ideal.τ).loc Cert.Kernel3Ideal.main_v27_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_v44) = v3 c
          ∧ r.2.mem ((c.tc : Thread Cert.Reference3Ideal.nD Cert.Reference3Ideal.τ).loc Cert.Reference3Ideal.main_v47) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_rg_finite : Cert.Pre_rg_finite.Facts),
    quiescent_Kernel (hKernel := hKernel)
    ∧ quiescent_KernelIdeal (hKernelIdeal := hKernelIdeal)
    ∧ quiescent_KernelIdeal_pre_rg_finite (hKernelIdeal := hKernelIdeal) (hPre_rg_finite := hPre_rg_finite)
    ∧ quiescent_ReferenceIdeal (hReferenceIdeal := hReferenceIdeal)
    ∧ quiescent_ReferenceIdeal_pre_rg_finite (hReferenceIdeal := hReferenceIdeal) (hPre_rg_finite := hPre_rg_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_rg_finite (hKernelIdeal := hKernelIdeal) (hReferenceIdeal := hReferenceIdeal) (hPre_rg_finite := hPre_rg_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_rg_finite.lean ====
abbrev S8x2048x256 : Shape := ⟨3, ![8, 2048, 256]⟩
abbrev S2x4x256 : Shape := ⟨3, ![2, 4, 256]⟩
abbrev S2x2x2x4x64x64 : Shape := ⟨6, ![2, 2, 2, 4, 64, 64]⟩
abbrev S2x2x2x256 : Shape := ⟨4, ![2, 2, 2, 256]⟩
abbrev S2x2x256 : Shape := ⟨3, ![2, 2, 256]⟩
abbrev S2x8x256 : Shape := ⟨3, ![2, 8, 256]⟩
abbrev S_ : Shape := ⟨0, ![]⟩

class Facts : Prop where
  bcast_S_S8x2048x256 : S_.BroadcastsInDim S8x2048x256 (![] : Fin 0 → Fin S8x2048x256.rank)
  bcast_S_S2x4x256 : S_.BroadcastsInDim S2x4x256 (![] : Fin 0 → Fin S2x4x256.rank)
  bcast_S_S2x2x256 : S_.BroadcastsInDim S2x2x256 (![] : Fin 0 → Fin S2x2x256.rank)

variable [Facts]

def fn {F : FTy → Type} [FloatOps F] (main_arg0 : FVec F S8x2048x256 .f32) (main_arg1 : FVec F S2x4x256 .f32) (main_arg2 : FVec F S2x2x2x4x64x64 .f32) (main_arg3 : FVec F S2x2x2x256 .f32) (main_arg4 : FVec F S2x2x256 .f32) (main_arg5 : FVec F S2x8x256 .f32) : IVec S8x2048x256 1 × IVec S2x4x256 1 × IVec S2x2x256 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_v3 : FVec F S2x4x256 .f32 := Host.absf main_arg1
  let main_cst_0 : FVec F S_ .f32 := constant S_ .f32 0x7F800000#32
  let main_v4 : FVec F S2x4x256 .f32 := broadcastInDim S2x4x256 ![] bcast_S_S2x4x256 main_cst_0
  let main_v5 : IVec S2x4x256 1 := cmpf .olt main_v3 main_v4
  let main_cst_1 : FVec F S_ .f32 := constant S_ .f32 0xFF800000#32
  let main_v6 : FVec F S2x2x256 .f32 := broadcastInDim S2x2x256 ![] bcast_S_S2x2x256 main_cst_1
  let main_v7 : IVec S2x2x256 1 := cmpf .ogt main_arg4 main_v6
  (main_v2, main_v5, main_v7)
-- ==== Kernel.lean ====
abbrev S8x2048x256 : Shape := ⟨3, ![8, 2048, 256]⟩
abbrev S2x4x256 : Shape := ⟨3, ![2, 4, 256]⟩
abbrev S2x2x2x4x64x64 : Shape := ⟨6, ![2, 2, 2, 4, 64, 64]⟩
abbrev S2x2x2x256 : Shape := ⟨4, ![2, 2, 2, 256]⟩
abbrev S2x2x256 : Shape := ⟨3, ![2, 2, 256]⟩
abbrev S2x8x256 : Shape := ⟨3, ![2, 8, 256]⟩
abbrev S4x4 : Shape := ⟨2, ![4, 4]⟩
abbrev S_ : Shape := ⟨0, ![]⟩
abbrev S2x2x2x4x64x1x64 : Shape := ⟨7, ![2, 2, 2, 4, 64, 1, 64]⟩
abbrev S4x1x4x1 : Shape := ⟨4, ![4, 1, 4, 1]⟩
abbrev S1x1x1x4x1x4x1 : Shape := ⟨7, ![1, 1, 1, 4, 1, 4, 1]⟩
abbrev S2x2x2x4x64x4x64 : Shape := ⟨7, ![2, 2, 2, 4, 64, 4, 64]⟩
abbrev S2x2x2x256x256 : Shape := ⟨5, ![2, 2, 2, 256, 256]⟩
abbrev S2x256x2x2x256 : Shape := ⟨5, ![2, 256, 2, 2, 256]⟩
abbrev S2x256x1024 : Shape := ⟨3, ![2, 256, 1024]⟩
abbrev S2x1x1024 : Shape := ⟨3, ![2, 1, 1024]⟩
abbrev S2048x8x256 : Shape := ⟨3, ![2048, 8, 256]⟩
abbrev S256x8x8x256 : Shape := ⟨4, ![256, 8, 8, 256]⟩
abbrev S1x4x256 : Shape := ⟨3, ![1, 4, 256]⟩
abbrev S1x256x1024 : Shape := ⟨3, ![1, 256, 1024]⟩
abbrev S1x1x1024 : Shape := ⟨3, ![1, 1, 1024]⟩
abbrev S1x2x256 : Shape := ⟨3, ![1, 2, 256]⟩
abbrev S32x8x8x256 : Shape := ⟨4, ![32, 8, 8, 256]⟩
abbrev S259x8x256 : Shape := ⟨3, ![259, 8, 256]⟩
abbrev S2x256x8x256 : Shape := ⟨4, ![2, 256, 8, 256]⟩
abbrev S2x256 : Shape := ⟨2, ![2, 256]⟩
abbrev S256x8x256 : Shape := ⟨3, ![256, 8, 256]⟩
abbrev S1x8x256 : Shape := ⟨3, ![1, 8, 256]⟩
abbrev S1x1x256 : Shape := ⟨3, ![1, 1, 256]⟩
abbrev S1x256 : Shape := ⟨2, ![1, 256]⟩
abbrev S2048x256 : Shape := ⟨2, ![2048, 256]⟩
abbrev S1x256x512 : Shape := ⟨3, ![1, 256, 512]⟩
abbrev S256x512 : Shape := ⟨2, ![256, 512]⟩
abbrev S2048x512 : Shape := ⟨2, ![2048, 512]⟩
abbrev S1x1x512 : Shape := ⟨3, ![1, 1, 512]⟩
abbrev S1x512 : Shape := ⟨2, ![1, 512]⟩
abbrev S1x256x8x256 : Shape := ⟨4, ![1, 256, 8, 256]⟩
abbrev S8x256 : Shape := ⟨2, ![8, 256]⟩
abbrev S1x1x8x256 : Shape := ⟨4, ![1, 1, 8, 256]⟩

abbrev nBuf : Space → Nat
  | .hbm => 34
  | .vmem => 16
  | .smem => 0
  | _ => 0

abbrev bufTy : (tb : Table) → Fin (tcTables nBuf tb) → BufTy
  | .hbm, ⟨0, _⟩ => ⟨S8x2048x256, .f32⟩
  | .hbm, ⟨1, _⟩ => ⟨S2x4x256, .f32⟩
  | .hbm, ⟨2, _⟩ => ⟨S2x2x2x4x64x64, .f32⟩
  | .hbm, ⟨3, _⟩ => ⟨S2x2x2x256, .f32⟩
  | .hbm, ⟨4, _⟩ => ⟨S2x2x256, .f32⟩
  | .hbm, ⟨5, _⟩ => ⟨S2x8x256, .f32⟩
  | .hbm, ⟨6, _⟩ => ⟨S4x4, .i32⟩
  | .hbm, ⟨7, _⟩ => ⟨S4x4, .i32⟩
  | .hbm, ⟨8, _⟩ => ⟨S_, .i32⟩
  | .hbm, ⟨9, _⟩ => ⟨S4x4, .i32⟩
  | .hbm, ⟨10, _⟩ => ⟨S4x4, .i32⟩
  | .hbm, ⟨11, _⟩ => ⟨S4x4, .i1⟩
  | .hbm, ⟨12, _⟩ => ⟨S4x4, .f32⟩
  | .hbm, ⟨13, _⟩ => ⟨S_, .f32⟩
  | .hbm, ⟨14, _⟩ => ⟨S2x2x2x4x64x64, .f32⟩
  | .hbm, ⟨15, _⟩ => ⟨S2x2x2x4x64x64, .f32⟩
  | .hbm, ⟨16, _⟩ => ⟨S2x2x2x4x64x1x64, .f32⟩
  | .hbm, ⟨17, _⟩ => ⟨S4x1x4x1, .f32⟩
  | .hbm, ⟨18, _⟩ => ⟨S1x1x1x4x1x4x1, .f32⟩
  | .hbm, ⟨19, _⟩ => ⟨S2x2x2x4x64x4x64, .f32⟩
  | .hbm, ⟨20, _⟩ => ⟨S2x2x2x4x64x4x64, .f32⟩
  | .hbm, ⟨21, _⟩ => ⟨S2x2x2x4x64x4x64, .f32⟩
  | .hbm, ⟨22, _⟩ => ⟨S2x2x2x256x256, .f32⟩
  | .hbm, ⟨23, _⟩ => ⟨S2x256x2x2x256, .f32⟩
  | .hbm, ⟨24, _⟩ => ⟨S2x256x1024, .f32⟩
  | .hbm, ⟨25, _⟩ => ⟨S2x256x1024, .bf16⟩
  | .hbm, ⟨26, _⟩ => ⟨S2x1x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2048x8x256, .f32⟩
  | .hbm, ⟨31, _⟩ => ⟨S256x8x8x256, .f32⟩
  | .hbm, ⟨32, _⟩ => ⟨S256x8x8x256, .f32⟩
  | .hbm, ⟨33, _⟩ => ⟨S2x8x256, .f32⟩
  | .local _ .vmem, ⟨0, _⟩ => ⟨S2048x8x256, .f32⟩
  | .local _ .vmem, ⟨1, _⟩ => ⟨S1x4x256, .f32⟩
  | .local _ .vmem, ⟨2, _⟩ => ⟨S1x256x1024, .bf16⟩
  | .local _ .vmem, ⟨3, _⟩ => ⟨S1x1x1024, .f32⟩
  | .local _ .vmem, ⟨4, _⟩ => ⟨S1x2x256, .f32⟩
  | .local _ .vmem, ⟨5, _⟩ => ⟨S2x8x256, .f32⟩
  | .local _ .vmem, ⟨6, _⟩ => ⟨S32x8x8x256, .f32⟩
  | .local _ .vmem, ⟨7, _⟩ => ⟨S32x8x8x256, .f32⟩
  | .local _ .vmem, ⟨8, _⟩ => ⟨S32x8x8x256, .f32⟩
  | .local _ .vmem, ⟨9, _⟩ => ⟨S32x8x8x256, .f32⟩
  | .local _ .vmem, ⟨10, _⟩ => ⟨S2x8x256, .f32⟩
  | .local _ .vmem, ⟨11, _⟩ => ⟨S259x8x256, .f32⟩
  | .local _ .vmem, ⟨12, _⟩ => ⟨S2x256x8x256, .f32⟩
  | .local _ .vmem, ⟨13, _⟩ => ⟨S2x256x8x256, .f32⟩
  | .local _ .vmem, ⟨14, _⟩ => ⟨S2x256x8x256, .f32⟩
  | .local _ .vmem, ⟨15, _⟩ => ⟨S2x8x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let c256_i32 : BitVec 32 := 256#32
  let v20 : BitVec 32 := Scalar.muli arg0 c256_i32
  let v21 : Index := Scalar.indexCast v20
  let c0_7 : Index := 0#32
  let c0_8 : Index := 0#32
  ![v21.toNat, 0, 0]
def k0_off2 (i : grid0.Coords) : Fin 3 → Nat :=
  let arg0 : BitVec 32 := BitVec.ofNat 32 (i 0).val
  let c256_i32 : BitVec 32 := 256#32
  let v20 : BitVec 32 := Scalar.muli arg0 c256_i32
  let c1_i32 : BitVec 32 := 1#32
  let v27 : BitVec 32 := Scalar.subi v20 c1_i32
  let c0_i32_11 : BitVec 32 := 0#32
  let v28 : BitVec 32 := Scalar.addi v27 c0_i32_11
  let c0_i32_12 : BitVec 32 := 0#32
  let v29 : BitVec 32 := Scalar.maxsi v28 c0_i32_12
  let v30 : Index := Scalar.indexCast v29
  let c0_13 : Index := 0#32
  let c0_14 : Index := 0#32
  ![v30.toNat, 0, 0]
def k0_off3 (i : grid0.Coords) (c0_i32_20 : BitVec 32) : Fin 3 → Nat :=
  let arg0 : BitVec 32 := BitVec.ofNat 32 (i 0).val
  let c256_i32 : BitVec 32 := 256#32
  let v20 : BitVec 32 := Scalar.muli arg0 c256_i32
  let c256_i32_19 : BitVec 32 := 256#32
  let v41 : BitVec 32 := Scalar.addi v20 c256_i32_19
  let v42 : BitVec 32 := Scalar.addi v41 c0_i32_20
  let c2047_i32 : BitVec 32 := 2047#32
  let v43 : BitVec 32 := Scalar.minsi v42 c2047_i32
  let v44 : Index := Scalar.indexCast v43
  let c0_21 : Index := 0#32
  let c0_22 : Index := 0#32
  ![v44.toNat, 0, 0]
def k0_off4 (i : grid0.Coords) : Fin 3 → Nat :=
  let c7_i32 : BitVec 32 := 7#32
  let arg0 : BitVec 32 := BitVec.ofNat 32 (i 0).val
  let v19 : BitVec 32 := Scalar.subi c7_i32 arg0
  let c256_i32_74 : BitVec 32 := 256#32
  let v138 : BitVec 32 := Scalar.muli v19 c256_i32_74
  let v139 : Index := Scalar.indexCast v138
  let c0_75 : Index := 0#32
  let c0_76 : Index := 0#32
  ![v139.toNat, 0, 0]
def k0_off5 (i : grid0.Coords) : Fin 3 → Nat :=
  let c7_i32 : BitVec 32 := 7#32
  let arg0 : BitVec 32 := BitVec.ofNat 32 (i 0).val
  let v19 : BitVec 32 := Scalar.subi c7_i32 arg0
  let c256_i32_74 : BitVec 32 := 256#32
  let v138 : BitVec 32 := Scalar.muli v19 c256_i32_74
  let c1_i32_80 : BitVec 32 := 1#32
  let v145 : BitVec 32 := Scalar.subi v138 c1_i32_80
  let c0_i32_81 : BitVec 32 := 0#32
  let v146 : BitVec 32 := Scalar.addi v145 c0_i32_81
  let c0_i32_82 : BitVec 32 := 0#32
  let v147 : BitVec 32 := Scalar.maxsi v146 c0_i32_82
  let v148 : Index := Scalar.indexCast v147
  let c0_83 : Index := 0#32
  let c0_84 : Index := 0#32
  ![v148.toNat, 0, 0]
def k0_off6 (i : grid0.Coords) (c0_i32_90 : BitVec 32) : Fin 3 → Nat :=
  let c7_i32 : BitVec 32 := 7#32
  let arg0 : BitVec 32 := BitVec.ofNat 32 (i 0).val
  let v19 : BitVec 32 := Scalar.subi c7_i32 arg0
  let c256_i32_74 : BitVec 32 := 256#32
  let v138 : BitVec 32 := Scalar.muli v19 c256_i32_74
  let c256_i32_89 : BitVec 32 := 256#32
  let v159 : BitVec 32 := Scalar.addi v138 c256_i32_89
  let v160 : BitVec 32 := Scalar.addi v159 c0_i32_90
  let c2047_i32_91 : BitVec 32 := 2047#32
  let v161 : BitVec 32 := Scalar.minsi v160 c2047_i32_91
  let v162 : Index := Scalar.indexCast v161
  let c0_92 : Index := 0#32
  let c0_93 : Index := 0#32
  ![v162.toNat, 0, 0]
@[reducible] def k0_t1_loop : Scf.Loop 32 :=
  let c0_i32_155 : BitVec 32 := 0#32
  let c256_i32_156 : BitVec 32 := 256#32
  let v260 : BitVec 32 := Scalar.addi c0_i32_155 c256_i32_156
  let c1_i32_157 : BitVec 32 := 1#32
  ⟨c0_i32_155, v260, c1_i32_157⟩
def k0_off7 (k0_t1 : Fin k0_t1_loop.trips) : Fin 4 → Nat :=
  let c0_187 : Index := 0#32
  let c0_i32_155 : BitVec 32 := 0#32
  let c1_i32_157 : BitVec 32 := 1#32
  let arg15 : BitVec 32 := Scf.iv c0_i32_155 c1_i32_157 k0_t1
  let v284 : Index := Scalar.indexCast arg15
  let c0_188 : Index := 0#32
  let c0_189 : Index := 0#32
  ![0, v284.toNat, 0, 0]
def k0_off8 (k0_t1 : Fin k0_t1_loop.trips) : Fin 4 → Nat :=
  let c1_196 : Index := 1#32
  let c255_i32 : BitVec 32 := 255#32
  let c0_i32_155 : BitVec 32 := 0#32
  let c1_i32_157 : BitVec 32 := 1#32
  let arg15 : BitVec 32 := Scf.iv c0_i32_155 c1_i32_157 k0_t1
  let v296 : BitVec 32 := Scalar.subi c255_i32 arg15
  let v297 : Index := Scalar.indexCast v296
  let c0_197 : Index := 0#32
  let c0_198 : Index := 0#32
  ![1, v297.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2048x8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x8x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x8x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "decay" => some (((-4) * (Real.log 2)⁻¹ : ℝ) : EReal)
  | _ => none
-- ==== ReferenceIdeal.lean ====
abbrev S8x2048x256 : Shape := ⟨3, ![8, 2048, 256]⟩
abbrev S2x4x256 : Shape := ⟨3, ![2, 4, 256]⟩
abbrev S2x2x2x4x64x64 : Shape := ⟨6, ![2, 2, 2, 4, 64, 64]⟩
abbrev S2x2x2x256 : Shape := ⟨4, ![2, 2, 2, 256]⟩
abbrev S2x2x256 : Shape := ⟨3, ![2, 2, 256]⟩
abbrev S2x8x256 : Shape := ⟨3, ![2, 8, 256]⟩
abbrev S1x4x256 : Shape := ⟨3, ![1, 4, 256]⟩
abbrev S4x256 : Shape := ⟨2, ![4, 256]⟩
abbrev S_ : Shape := ⟨0, ![]⟩
abbrev S8x2051x256 : Shape := ⟨3, ![8, 2051, 256]⟩
abbrev S1x256 : Shape := ⟨2, ![1, 256]⟩
abbrev S256 : Shape := ⟨1, ![256]⟩
abbrev S1x1x256 : Shape := ⟨3, ![1, 1, 256]⟩
abbrev S8x2048x4x64 : Shape := ⟨4, ![8, 2048, 4, 64]⟩
abbrev S1x2x2x4x64x64 : Shape := ⟨6, ![1, 2, 2, 4, 64, 64]⟩
abbrev S2x2x4x64x64 : Shape := ⟨5, ![2, 2, 4, 64, 64]⟩
abbrev S4x2x2x64x8x2048 : Shape := ⟨6, ![4, 2, 2, 64, 8, 2048]⟩
abbrev S2x2x8x2048x4x64 : Shape := ⟨6, ![2, 2, 8, 2048, 4, 64]⟩
abbrev S2x2x8x2048x256 : Shape := ⟨5, ![2, 2, 8, 2048, 256]⟩
abbrev S1x2x2x256 : Shape := ⟨4, ![1, 2, 2, 256]⟩
abbrev S2x2x1x1x256 : Shape := ⟨5, ![2, 2, 1, 1, 256]⟩
abbrev S2x1x8x2048x256 : Shape := ⟨5, ![2, 1, 8, 2048, 256]⟩
abbrev S2x8x2048x256 : Shape := ⟨4, ![2, 8, 2048, 256]⟩
abbrev S1x2x256 : Shape := ⟨3, ![1, 2, 256]⟩
abbrev S2x256 : Shape := ⟨2, ![2, 256]⟩
abbrev S2x1x1x256 : Shape := ⟨4, ![2, 1, 1, 256]⟩
abbrev S1x8x2048x256 : Shape := ⟨4, ![1, 8, 2048, 256]⟩
abbrev S2048x8x256 : Shape := ⟨3, ![2048, 8, 256]⟩
abbrev S2048x1x8x256 : Shape := ⟨4, ![2048, 1, 8, 256]⟩
abbrev S2048x2x8x256 : Shape := ⟨4, ![2048, 2, 8, 256]⟩
abbrev S1x2x8x256 : Shape := ⟨4, ![1, 2, 8, 256]⟩
abbrev S256x8x8x256 : Shape := ⟨4, ![256, 8, 8, 256]⟩

abbrev nBuf : Space → Nat
  | .hbm => 161
  | .vmem => 0
  | .smem => 0
  | _ => 0

abbrev hbmTy0_0 (i : Nat) : BufTy := match i % 128 with
  | 0 => ⟨S8x2048x256, .f32⟩
  | 1 => ⟨S2x4x256, .f32⟩
  | 2 => ⟨S2x2x2x4x64x64, .f32⟩
  | 3 => ⟨S2x2x2x256, .f32⟩
  | 4 => ⟨S2x2x256, .f32⟩
  | 5 => ⟨S2x8x256, .f32⟩
  | 6 => ⟨S1x4x256, .f32⟩
  | 7 => ⟨S4x256, .f32⟩
  | 8 => ⟨S_, .i32⟩
  | 9 => ⟨S_, .f32⟩
  | 10 => ⟨S8x2051x256, .f32⟩
  | 11 => ⟨S1x256, .f32⟩
  | 12 => ⟨S256, .f32⟩
  | 13 => ⟨S8x2048x256, .f32⟩
  | 14 => ⟨S1x1x256, .f32⟩
  | 15 => ⟨S8x2048x256, .f32⟩
  | 16 => ⟨S8x2048x256, .f32⟩
  | 17 => ⟨S1x256, .f32⟩
  | 18 => ⟨S256, .f32⟩
  | 19 => ⟨S8x2048x256, .f32⟩
  | 20 => ⟨S1x1x256, .f32⟩
  | 21 => ⟨S8x2048x256, .f32⟩
  | 22 => ⟨S8x2048x256, .f32⟩
  | 23 => ⟨S8x2048x256, .f32⟩
  | 24 => ⟨S1x256, .f32⟩
  | 25 => ⟨S256, .f32⟩
  | 26 => ⟨S8x2048x256, .f32⟩
  | 27 => ⟨S1x1x256, .f32⟩
  | 28 => ⟨S8x2048x256, .f32⟩
  | 29 => ⟨S8x2048x256, .f32⟩
  | 30 => ⟨S8x2048x256, .f32⟩
  | 31 => ⟨S1x256, .f32⟩
  | 32 => ⟨S256, .f32⟩
  | 33 => ⟨S8x2048x256, .f32⟩
  | 34 => ⟨S1x1x256, .f32⟩
  | 35 => ⟨S8x2048x256, .f32⟩
  | 36 => ⟨S8x2048x256, .f32⟩
  | 37 => ⟨S8x2048x256, .f32⟩
  | 38 => ⟨S8x2048x4x64, .f32⟩
  | 39 => ⟨S1x2x2x4x64x64, .f32⟩
  | 40 => ⟨S2x2x4x64x64, .f32⟩
  | 41 => ⟨S4x2x2x64x8x2048, .f32⟩
  | 42 => ⟨S2x2x8x2048x4x64, .f32⟩
  | 43 => ⟨S2x2x8x2048x256, .f32⟩
  | 44 => ⟨S1x2x2x256, .f32⟩
  | 45 => ⟨S2x2x256, .f32⟩
  | 46 => ⟨S2x2x1x1x256, .f32⟩
  | 47 => ⟨S2x2x8x2048x256, .f32⟩
  | 48 => ⟨S2x2x8x2048x256, .f32⟩
  | 49 => ⟨S2x1x8x2048x256, .f32⟩
  | 50 => ⟨S2x8x2048x256, .f32⟩
  | 51 => ⟨S2x8x2048x256, .f32⟩
  | 52 => ⟨S2x8x2048x256, .f32⟩
  | 53 => ⟨S_, .f32⟩
  | 54 => ⟨S2x8x2048x256, .f32⟩
  | 55 => ⟨S2x8x2048x256, .f32⟩
  | 56 => ⟨S_, .f32⟩
  | 57 => ⟨S2x8x2048x256, .f32⟩
  | 58 => ⟨S2x8x2048x256, .f32⟩
  | 59 => ⟨S2x1x8x2048x256, .f32⟩
  | 60 => ⟨S2x8x2048x256, .f32⟩
  | 61 => ⟨S2x8x2048x256, .f32⟩
  | 62 => ⟨S2x8x2048x256, .f32⟩
  | 63 => ⟨S_, .f32⟩
  | 64 => ⟨S2x8x2048x256, .f32⟩
  | 65 => ⟨S2x8x2048x256, .f32⟩
  | 66 => ⟨S_, .f32⟩
  | 67 => ⟨S2x8x2048x256, .f32⟩
  | 68 => ⟨S2x8x2048x256, .f32⟩
  | 69 => ⟨S_, .f32⟩
  | 70 => ⟨S2x8x2048x256, .f32⟩
  | 71 => ⟨S2x8x2048x256, .f32⟩
  | 72 => ⟨S1x2x256, .f32⟩
  | 73 => ⟨S2x256, .f32⟩
  | 74 => ⟨S2x256, .f32⟩
  | 75 => ⟨S_, .f32⟩
  | 76 => ⟨S2x256, .f32⟩
  | 77 => ⟨S2x256, .f32⟩
  | 78 => ⟨S2x256, .f32⟩
  | 79 => ⟨S2x256, .f32⟩
  | 80 => ⟨S2x256, .i1⟩
  | 81 => ⟨S2x256, .f32⟩
  | 82 => ⟨S2x256, .f32⟩
  | 83 => ⟨S2x256, .f32⟩
  | 84 => ⟨S2x256, .f32⟩
  | 85 => ⟨S2x256, .f32⟩
  | 86 => ⟨S2x256, .f32⟩
  | 87 => ⟨S2x256, .f32⟩
  | 88 => ⟨S2x256, .f32⟩
  | 89 => ⟨S2x1x1x256, .f32⟩
  | 90 => ⟨S2x8x2048x256, .f32⟩
  | 91 => ⟨S2x8x2048x256, .f32⟩
  | 92 => ⟨S2x8x2048x256, .f32⟩
  | 93 => ⟨S_, .f32⟩
  | 94 => ⟨S2x8x2048x256, .f32⟩
  | 95 => ⟨S2x8x2048x256, .f32⟩
  | 96 => ⟨S2x8x2048x256, .f32⟩
  | 97 => ⟨S2x8x2048x256, .f32⟩
  | 98 => ⟨S2x8x2048x256, .f32⟩
  | 99 => ⟨S1x8x2048x256, .f32⟩
  | 100 => ⟨S2x8x2048x256, .f32⟩
  | 101 => ⟨S2x8x2048x256, .f32⟩
  | 102 => ⟨S2x8x2048x256, .f32⟩
  | 103 => ⟨S1x8x2048x256, .f32⟩
  | 104 => ⟨S8x2048x256, .f32⟩
  | 105 => ⟨S2048x8x256, .f32⟩
  | 106 => ⟨S1x8x2048x256, .f32⟩
  | 107 => ⟨S8x2048x256, .f32⟩
  | 108 => ⟨S2048x8x256, .f32⟩
  | 109 => ⟨S2048x8x256, .f32⟩
  | 110 => ⟨S2048x1x8x256, .f32⟩
  | 111 => ⟨S2048x1x8x256, .f32⟩
  | 112 => ⟨S2048x2x8x256, .f32⟩
  | 113 => ⟨S1x8x2048x256, .f32⟩
  | 114 => ⟨S8x2048x256, .f32⟩
  | 115 => ⟨S2048x8x256, .f32⟩
  | 116 => ⟨S1x8x2048x256, .f32⟩
  | 117 => ⟨S8x2048x256, .f32⟩
  | 118 => ⟨S2048x8x256, .f32⟩
  | 119 => ⟨S2048x8x256, .f32⟩
  | 120 => ⟨S2048x1x8x256, .f32⟩
  | 121 => ⟨S2048x1x8x256, .f32⟩
  | 122 => ⟨S2048x2x8x256, .f32⟩
  | 123 => ⟨S_, .f32⟩
  | 124 => ⟨S2048x2x8x256, .f32⟩
  | 125 => ⟨S_, .i32⟩
  | 126 => ⟨S2048x2x8x256, .f32⟩
  | 127 => ⟨S2048x2x8x256, .f32⟩
  | _ => ⟨S8x2048x256, .f32⟩

abbrev hbmTy0_1 (i : Nat) : BufTy := match i % 128 with
  | 0 => ⟨S_, .i32⟩
  | 1 => ⟨S2x8x256, .f32⟩
  | 2 => ⟨S2048x2x8x256, .f32⟩
  | 3 => ⟨S_, .i32⟩
  | 4 => ⟨S_, .i1⟩
  | 5 => ⟨S_, .i32⟩
  | 6 => ⟨S_, .i32⟩
  | 7 => ⟨S_, .i32⟩
  | 8 => ⟨S1x2x8x256, .f32⟩
  | 9 => ⟨S2x8x256, .f32⟩
  | 10 => ⟨S_, .i32⟩
  | 11 => ⟨S_, .i32⟩
  | 12 => ⟨S_, .i32⟩
  | 13 => ⟨S1x2x8x256, .f32⟩
  | 14 => ⟨S2x8x256, .f32⟩
  | 15 => ⟨S2x8x256, .f32⟩
  | 16 => ⟨S2x8x256, .f32⟩
  | 17 => ⟨S1x2x8x256, .f32⟩
  | 18 => ⟨S_, .i32⟩
  | 19 => ⟨S_, .i32⟩
  | 20 => ⟨S_, .i32⟩
  | 21 => ⟨S2048x2x8x256, .f32⟩
  | 22 => ⟨S_, .i32⟩
  | 23 => ⟨S_, .i32⟩
  | 24 => ⟨S2048x1x8x256, .f32⟩
  | 25 => ⟨S2048x8x256, .f32⟩
  | 26 => ⟨S256x8x8x256, .f32⟩
  | 27 => ⟨S256x8x8x256, .f32⟩
  | 28 => ⟨S2048x1x8x256, .f32⟩
  | 29 => ⟨S2048x8x256, .f32⟩
  | 30 => ⟨S2048x8x256, .f32⟩
  | 31 => ⟨S256x8x8x256, .f32⟩
  | 32 => ⟨S256x8x8x256, .f32⟩
  | _ => ⟨S8x2048x256, .f32⟩

abbrev hbmTy (i : Nat) : BufTy := match i / 128 with
  | 0 => hbmTy0_0 i
  | 1 => hbmTy0_1 i
  | _ => ⟨S8x2048x256, .f32⟩

abbrev bufTy : (tb : Table) → Fin (tcTables nBuf tb) → BufTy
  | .hbm, ⟨i, _⟩ => hbmTy i
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst : Ref sig .tc := ⟨.hbm, 53, rfl⟩
abbrev main_v45 : Ref sig .tc := ⟨.hbm, 54, rfl⟩
abbrev main_v46 : Ref sig .tc := ⟨.hbm, 55, rfl⟩
abbrev main_cst_0 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_1 : Ref sig .tc := ⟨.hbm, 63, rfl⟩
abbrev main_v53 : Ref sig .tc := ⟨.hbm, 64, rfl⟩
abbrev main_v54 : Ref sig .tc := ⟨.hbm, 65, rfl⟩
abbrev main_cst_2 : Ref sig .tc := ⟨.hbm, 66, rfl⟩
abbrev main_v55 : Ref sig .tc := ⟨.hbm, 67, rfl⟩
abbrev main_v56 : Ref sig .tc := ⟨.hbm, 68, rfl⟩
abbrev main_cst_3 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_4 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_5 : Ref sig .tc := ⟨.hbm, 123, rfl⟩
abbrev main_v96 : Ref sig .tc := ⟨.hbm, 124, rfl⟩
abbrev main_c_6 : Ref sig .tc := ⟨.hbm, 125, rfl⟩
abbrev main_v97_0 : Ref sig .tc := ⟨.hbm, 126, rfl⟩
abbrev main_v97_1 : Ref sig .tc := ⟨.hbm, 127, rfl⟩
abbrev main_v97_2 : Ref sig .tc := ⟨.hbm, 128, rfl⟩
abbrev main_v97_3 : Ref sig .tc := ⟨.hbm, 129, rfl⟩
abbrev main_v97_4 : Ref sig .tc := ⟨.hbm, 130, rfl⟩
abbrev main_while0c_c_11 : Ref sig .tc := ⟨.hbm, 131, rfl⟩
abbrev main_while0c_v107 : Ref sig .tc := ⟨.hbm, 132, rfl⟩
abbrev main_while0b_call4_c : Ref sig .tc := ⟨.hbm, 133, rfl⟩
abbrev main_while0b_call4_c_0 : Ref sig .tc := ⟨.hbm, 134, rfl⟩
abbrev main_while0b_call4_c_1 : Ref sig .tc := ⟨.hbm, 135, rfl⟩
abbrev main_while0b_call4_v0 : Ref sig .tc := ⟨.hbm, 136, rfl⟩
abbrev main_while0b_v107 : Ref sig .tc := ⟨.hbm, 137, rfl⟩
abbrev main_while0b_call5_c : Ref sig .tc := ⟨.hbm, 138, rfl⟩
abbrev main_while0b_call5_c_0 : Ref sig .tc := ⟨.hbm, 139, rfl⟩
abbrev main_while0b_call5_c_1 : Ref sig .tc := ⟨.hbm, 140, rfl⟩
abbrev main_while0b_call5_v0 : Ref sig .tc := ⟨.hbm, 141, rfl⟩
abbrev main_while0b_v108 : Ref sig .tc := ⟨.hbm, 142, rfl⟩
abbrev main_while0b_v109 : Ref sig .tc := ⟨.hbm, 143, rfl⟩
abbrev main_while0b_v110 : Ref sig .tc := ⟨.hbm, 144, rfl⟩
abbrev main_while0b_call6_v0 : Ref sig .tc := ⟨.hbm, 145, rfl⟩
abbrev main_while0b_call6_c : Ref sig .tc := ⟨.hbm, 146, rfl⟩
abbrev main_while0b_call6_c_0 : Ref sig .tc := ⟨.hbm, 147, rfl⟩
abbrev main_while0b_call6_c_1 : Ref sig .tc := ⟨.hbm, 148, rfl⟩
abbrev main_while0b_v111 : Ref sig .tc := ⟨.hbm, 149, rfl⟩
abbrev main_while0b_c_11 : Ref sig .tc := ⟨.hbm, 150, rfl⟩
abbrev main_while0b_v112 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8x2048x1024 : Shape := ⟨3, ![8, 2048, 1024]⟩
abbrev S8x2048x256 : Shape := ⟨3, ![8, 2048, 256]⟩
abbrev S8x2048x512 : Shape := ⟨3, ![8, 2048, 512]⟩
abbrev S8x2048x768 : Shape := ⟨3, ![8, 2048, 768]⟩
abbrev S2x16x6144 : Shape := ⟨3, ![2, 16, 6144]⟩
abbrev S2x1024 : Shape := ⟨2, ![2, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1024 : Shape := ⟨1, ![1024]⟩
abbrev S2x1x1024 : Shape := ⟨3, ![2, 1, 1024]⟩
abbrev S2x16x6x1x1024 : Shape := ⟨5, ![2, 16, 6, 1, 1024]⟩
abbrev S1x1024 : Shape := ⟨2, ![1, 1024]⟩
abbrev S2048x8x256 : Shape := ⟨3, ![2048, 8, 256]⟩
abbrev S2048x2048 : Shape := ⟨2, ![2048, 2048]⟩
abbrev S8x256x8x256 : Shape := ⟨4, ![8, 256, 8, 256]⟩
abbrev S256x8x8x256 : Shape := ⟨4, ![256, 8, 8, 256]⟩
abbrev S8x64x32x512 : Shape := ⟨4, ![8, 64, 32, 512]⟩
abbrev S1x512x1024 : Shape := ⟨3, ![1, 512, 1024]⟩
abbrev S512x256 : Shape := ⟨2, ![512, 256]⟩
abbrev S1x64x8x512 : Shape := ⟨4, ![1, 64, 8, 512]⟩
abbrev S1x512x512 : Shape := ⟨3, ![1, 512, 512]⟩
abbrev S64x1x8x256 : Shape := ⟨4, ![64, 1, 8, 256]⟩
abbrev S1x512x256 : Shape := ⟨3, ![1, 512, 256]⟩
abbrev S1x1x1024 : Shape := ⟨3, ![1, 1, 1024]⟩
abbrev S1x1024x1024 : Shape := ⟨3, ![1, 1024, 1024]⟩
abbrev S1x1x1x1x1024 : Shape := ⟨5, ![1, 1, 1, 1, 1024]⟩
abbrev S1x1024x4096 : Shape := ⟨3, ![1, 1024, 4096]⟩
abbrev S1x4096x1024 : Shape := ⟨3, ![1, 4096, 1024]⟩
abbrev S512x128 : Shape := ⟨2, ![512, 128]⟩
abbrev S512 : Shape := ⟨1, ![512]⟩
abbrev S512x1 : Shape := ⟨2, ![512, 1]⟩
abbrev S1x256 : Shape := ⟨2, ![1, 256]⟩
abbrev S1x64x1x512 : Shape := ⟨4, ![1, 64, 1, 512]⟩
abbrev S64x512 : Shape := ⟨2, ![64, 512]⟩
abbrev S512x512 : Shape := ⟨2, ![512, 512]⟩
abbrev S1x128 : Shape := ⟨2, ![1, 128]⟩
abbrev S64x8x256 : Shape := ⟨3, ![64, 8, 256]⟩
abbrev S512x1024 : Shape := ⟨2, ![512, 1024]⟩
abbrev S1024x1024 : Shape := ⟨2, ![1024, 1024]⟩

abbrev nBuf : Space → Nat
  | .hbm => 28
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S8x2048x512, .f32⟩
  | .hbm, ⟨3, _⟩ => ⟨S8x2048x768, .f32⟩
  | .hbm, ⟨4, _⟩ => ⟨S8x2048x256, .f32⟩
  | .hbm, ⟨5, _⟩ => ⟨S8x2048x256, .f32⟩
  | .hbm, ⟨6, _⟩ => ⟨S2x16x6144, .f32⟩
  | .hbm, ⟨7, _⟩ => ⟨S2x1024, .f32⟩
  | .hbm, ⟨8, _⟩ => ⟨S2x1024x1024, .f32⟩
  | .hbm, ⟨9, _⟩ => ⟨S2x1024, .f32⟩
  | .hbm, ⟨10, _⟩ => ⟨S2x1024x4096, .f32⟩
  | .hbm, ⟨11, _⟩ => ⟨S2x4096x1024, .f32⟩
  | .hbm, ⟨12, _⟩ => ⟨S1024, .f32⟩
  | .hbm, ⟨13, _⟩ => ⟨S2x1x1024, .f32⟩
  | .hbm, ⟨14, _⟩ => ⟨S2x1x1024, .f32⟩
  | .hbm, ⟨15, _⟩ => ⟨S2x1024x1024, .bf16⟩
  | .hbm, ⟨16, _⟩ => ⟨S2x1024x4096, .bf16⟩
  | .hbm, ⟨17, _⟩ => ⟨S2x4096x1024, .bf16⟩
  | .hbm, ⟨18, _⟩ => ⟨S2x16x6x1x1024, .f32⟩
  | .hbm, ⟨19, _⟩ => ⟨S1x1024, .f32⟩
  | .hbm, ⟨20, _⟩ => ⟨S2048x8x256, .f32⟩
  | .hbm, ⟨21, _⟩ => ⟨S2048x2048, .f32⟩
  | .hbm, ⟨22, _⟩ => ⟨S8x256x8x256, .f32⟩
  | .hbm, ⟨23, _⟩ => ⟨S256x8x8x256, .f32⟩
  | .hbm, ⟨24, _⟩ => ⟨S8x256x8x256, .f32⟩
  | .hbm, ⟨25, _⟩ => ⟨S256x8x8x256, .f32⟩
  | .hbm, ⟨26, _⟩ => ⟨S8x64x32x512, .f32⟩
  | .hbm, ⟨27, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x256, .f32⟩
  | .local _ .vmem, ⟨3, _⟩ => ⟨S512x256, .f32⟩
  | .local _ .vmem, ⟨4, _⟩ => ⟨S1x64x8x512, .f32⟩
  | .local _ .vmem, ⟨5, _⟩ => ⟨S1x64x8x512, .f32⟩
  | .local _ .vmem, ⟨6, _⟩ => ⟨S1x512x512, .f32⟩
  | .local _ .vmem, ⟨7, _⟩ => ⟨S1x512x512, .f32⟩
  | .local _ .vmem, ⟨8, _⟩ => ⟨S64x1x8x256, .f32⟩
  | .local _ .vmem, ⟨9, _⟩ => ⟨S64x1x8x256, .f32⟩
  | .local _ .vmem, ⟨10, _⟩ => ⟨S64x1x8x256, .f32⟩
  | .local _ .vmem, ⟨11, _⟩ => ⟨S64x1x8x256, .f32⟩
  | .local _ .vmem, ⟨12, _⟩ => ⟨S1x512x256, .f32⟩
  | .local _ .vmem, ⟨13, _⟩ => ⟨S1x512x256, .f32⟩
  | .local _ .vmem, ⟨14, _⟩ => ⟨S1x1x1024, .f32⟩
  | .local _ .vmem, ⟨15, _⟩ => ⟨S1x1024x1024, .bf16⟩
  | .local _ .vmem, ⟨16, _⟩ => ⟨S1x1x1x1x1024, .f32⟩
  | .local _ .vmem, ⟨17, _⟩ => ⟨S1x1x1x1x1024, .f32⟩
  | .local _ .vmem, ⟨18, _⟩ => ⟨S1x1x1x1x1024, .f32⟩
  | .local _ .vmem, ⟨19, _⟩ => ⟨S1x1x1x1x1024, .f32⟩
  | .local _ .vmem, ⟨20, _⟩ => ⟨S1x1x1x1x1024, .f32⟩
  | .local _ .vmem, ⟨21, _⟩ => ⟨S1x1x1x1x1024, .f32⟩
  | .local _ .vmem, ⟨22, _⟩ => ⟨S1x1x1x1x1024, .f32⟩
  | .local _ .vmem, ⟨23, _⟩ => ⟨S1x1x1x1x1024, .f32⟩
  | .local _ .vmem, ⟨24, _⟩ => ⟨S1x1x1024, .f32⟩
  | .local _ .vmem, ⟨25, _⟩ => ⟨S1x1024x4096, .bf16⟩
  | .local _ .vmem, ⟨26, _⟩ => ⟨S1x4096x1024, .bf16⟩
  | .local _ .vmem, ⟨27, _⟩ => ⟨S1x1024, .f32⟩
  | .local _ .vmem, ⟨28, _⟩ => ⟨S1x512x1024, .f32⟩
  | .local _ .vmem, ⟨29, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, arg0.toNat, c2_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, arg1.toNat, c2_i32.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, arg1.toNat, c3_i32.toNat, c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c0_i32 : BitVec 32 := 0#32
  let c0_i32_0 : BitVec 32 := 0#32
  let c0_i32_1 : BitVec 32 := 0#32
  ![c1_i32.toNat, arg1.toNat, c4_i32.toNat, c0_i32.toNat, c0_i32_0.toNat]

def cc0_transform_12 (i : grid0.Coords) : Fin 5 → Nat :=
  let arg0 : BitVec 32 := BitVec.ofNat 32 (i 0).val
  let arg1 : BitVec 32 := BitVec.ofNat 32 (i 1).val
  let c1_i32 : BitVec 32 := 1#32
  let c5_i32 : BitVec 32 := 5#32
  let c0_i32 : BitVec 32 := 0#32
  let c0_i32_0 : BitVec 32 := 0#32
  let c0_i32_1 : BitVec 32 := 0#32
  ![c1_i32.toNat, arg1.toNat, c5_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x4096x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference2Ideal.lean ====
abbrev S8x2048x1024 : Shape := ⟨3, ![8, 2048, 1024]⟩
abbrev S8x2048x256 : Shape := ⟨3, ![8, 2048, 256]⟩
abbrev S8x2048x512 : Shape := ⟨3, ![8, 2048, 512]⟩
abbrev S8x2048x768 : Shape := ⟨3, ![8, 2048, 768]⟩
abbrev S2x16x6144 : Shape := ⟨3, ![2, 16, 6144]⟩
abbrev S2x1024 : Shape := ⟨2, ![2, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1024 : Shape := ⟨1, ![1024]⟩
abbrev S1x8x6144 : Shape := ⟨3, ![1, 8, 6144]⟩
abbrev S8x6144 : Shape := ⟨2, ![8, 6144]⟩
abbrev S8x1x6x1024 : Shape := ⟨4, ![8, 1, 6, 1024]⟩
abbrev S1x1024 : Shape := ⟨2, ![1, 1024]⟩
abbrev S256 : Shape := ⟨1, ![256]⟩
abbrev S8x2048x4x64 : Shape := ⟨4, ![8, 2048, 4, 64]⟩
abbrev S_ : Shape := ⟨0, ![]⟩
abbrev S8x2048x4 : Shape := ⟨3, ![8, 2048, 4]⟩
abbrev S8x2048x4x1 : Shape := ⟨4, ![8, 2048, 4, 1]⟩
abbrev S1x1x256 : Shape := ⟨3, ![1, 1, 256]⟩
abbrev S8x64x32x512 : Shape := ⟨4, ![8, 64, 32, 512]⟩
abbrev S8x32x64x512 : Shape := ⟨4, ![8, 32, 64, 512]⟩
abbrev S512 : Shape := ⟨1, ![512]⟩
abbrev S8x2048x4x128 : Shape := ⟨4, ![8, 2048, 4, 128]⟩
abbrev S1x1x512 : Shape := ⟨3, ![1, 1, 512]⟩
abbrev S8x1x1x1024 : Shape := ⟨4, ![8, 1, 1, 1024]⟩
abbrev S8x1x1024 : Shape := ⟨3, ![8, 1, 1024]⟩
abbrev S1x1024x1024 : Shape := ⟨3, ![1, 1024, 1024]⟩
abbrev S1024x1024 : Shape := ⟨2, ![1024, 1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩

abbrev nBuf : Space → Nat
  | .hbm => 177
  | .vmem => 0
  | .smem => 0
  | _ => 0

abbrev hbmTy0_0 (i : Nat) : BufTy := match i % 128 with
  | 0 => ⟨S8x2048x1024, .f32⟩
  | 1 => ⟨S8x2048x256, .f32⟩
  | 2 => ⟨S8x2048x512, .f32⟩
  | 3 => ⟨S8x2048x768, .f32⟩
  | 4 => ⟨S8x2048x256, .f32⟩
  | 5 => ⟨S8x2048x256, .f32⟩
  | 6 => ⟨S2x16x6144, .f32⟩
  | 7 => ⟨S2x1024, .f32⟩
  | 8 => ⟨S2x1024x1024, .f32⟩
  | 9 => ⟨S2x1024, .f32⟩
  | 10 => ⟨S2x1024x4096, .f32⟩
  | 11 => ⟨S2x4096x1024, .f32⟩
  | 12 => ⟨S1024, .f32⟩
  | 13 => ⟨S1x8x6144, .f32⟩
  | 14 => ⟨S8x6144, .f32⟩
  | 15 => ⟨S8x1x6x1024, .f32⟩
  | 16 => ⟨S1x1024, .f32⟩
  | 17 => ⟨S1024, .f32⟩
  | 18 => ⟨S8x2048x512, .f32⟩
  | 19 => ⟨S8x2048x256, .f32⟩
  | 20 => ⟨S256, .f32⟩
  | 21 => ⟨S8x2048x4x64, .f32⟩
  | 22 => ⟨S8x2048x4x64, .f32⟩
  | 23 => ⟨S_, .f32⟩
  | 24 => ⟨S8x2048x4, .f32⟩
  | 25 => ⟨S8x2048x4x1, .f32⟩
  | 26 => ⟨S_, .f32⟩
  | 27 => ⟨S8x2048x4x1, .f32⟩
  | 28 => ⟨S8x2048x4x1, .f32⟩
  | 29 => ⟨S_, .f32⟩
  | 30 => ⟨S8x2048x4x1, .f32⟩
  | 31 => ⟨S8x2048x4x1, .f32⟩
  | 32 => ⟨S8x2048x4x1, .f32⟩
  | 33 => ⟨S8x2048x4x64, .f32⟩
  | 34 => ⟨S8x2048x4x64, .f32⟩
  | 35 => ⟨S8x2048x256, .f32⟩
  | 36 => ⟨S1x1x256, .f32⟩
  | 37 => ⟨S8x2048x256, .f32⟩
  | 38 => ⟨S8x2048x256, .f32⟩
  | 39 => ⟨S8x64x32x512, .f32⟩
  | 40 => ⟨S8x32x64x512, .f32⟩
  | 41 => ⟨S8x2048x512, .f32⟩
  | 42 => ⟨S512, .f32⟩
  | 43 => ⟨S8x2048x4x128, .f32⟩
  | 44 => ⟨S8x2048x4x128, .f32⟩
  | 45 => ⟨S_, .f32⟩
  | 46 => ⟨S8x2048x4, .f32⟩
  | 47 => ⟨S8x2048x4x1, .f32⟩
  | 48 => ⟨S_, .f32⟩
  | 49 => ⟨S8x2048x4x1, .f32⟩
  | 50 => ⟨S8x2048x4x1, .f32⟩
  | 51 => ⟨S_, .f32⟩
  | 52 => ⟨S8x2048x4x1, .f32⟩
  | 53 => ⟨S8x2048x4x1, .f32⟩
  | 54 => ⟨S8x2048x4x1, .f32⟩
  | 55 => ⟨S8x2048x4x128, .f32⟩
  | 56 => ⟨S8x2048x4x128, .f32⟩
  | 57 => ⟨S8x2048x512, .f32⟩
  | 58 => ⟨S1x1x512, .f32⟩
  | 59 => ⟨S8x2048x512, .f32⟩
  | 60 => ⟨S8x2048x512, .f32⟩
  | 61 => ⟨S8x2048x512, .f32⟩
  | 62 => ⟨S8x2048x512, .f32⟩
  | 63 => ⟨S_, .f32⟩
  | 64 => ⟨S8x2048x512, .f32⟩
  | 65 => ⟨S8x2048x512, .f32⟩
  | 66 => ⟨S_, .f32⟩
  | 67 => ⟨S8x2048x512, .f32⟩
  | 68 => ⟨S8x2048x512, .f32⟩
  | 69 => ⟨S8x2048x512, .f32⟩
  | 70 => ⟨S8x2048x256, .f32⟩
  | 71 => ⟨S8x2048x256, .f32⟩
  | 72 => ⟨S8x2048x256, .f32⟩
  | 73 => ⟨S_, .f32⟩
  | 74 => ⟨S8x2048x256, .f32⟩
  | 75 => ⟨S8x2048x256, .f32⟩
  | 76 => ⟨S8x2048x256, .f32⟩
  | 77 => ⟨S_, .f32⟩
  | 78 => ⟨S8x2048x256, .f32⟩
  | 79 => ⟨S8x2048x256, .f32⟩
  | 80 => ⟨S8x2048x256, .f32⟩
  | 81 => ⟨S_, .f32⟩
  | 82 => ⟨S8x2048x256, .f32⟩
  | 83 => ⟨S8x2048x256, .f32⟩
  | 84 => ⟨S_, .f32⟩
  | 85 => ⟨S8x2048x256, .f32⟩
  | 86 => ⟨S8x2048x256, .f32⟩
  | 87 => ⟨S8x2048x256, .f32⟩
  | 88 => ⟨S8x2048x256, .f32⟩
  | 89 => ⟨S256, .f32⟩
  | 90 => ⟨S8x2048x4x64, .f32⟩
  | 91 => ⟨S8x2048x4x64, .f32⟩
  | 92 => ⟨S_, .f32⟩
  | 93 => ⟨S8x2048x4, .f32⟩
  | 94 => ⟨S8x2048x4x1, .f32⟩
  | 95 => ⟨S_, .f32⟩
  | 96 => ⟨S8x2048x4x1, .f32⟩
  | 97 => ⟨S8x2048x4x1, .f32⟩
  | 98 => ⟨S_, .f32⟩
  | 99 => ⟨S8x2048x4x1, .f32⟩
  | 100 => ⟨S8x2048x4x1, .f32⟩
  | 101 => ⟨S8x2048x4x1, .f32⟩
  | 102 => ⟨S8x2048x4x64, .f32⟩
  | 103 => ⟨S8x2048x4x64, .f32⟩
  | 104 => ⟨S8x2048x256, .f32⟩
  | 105 => ⟨S1x1x256, .f32⟩
  | 106 => ⟨S8x2048x256, .f32⟩
  | 107 => ⟨S8x2048x256, .f32⟩
  | 108 => ⟨S8x2048x1024, .f32⟩
  | 109 => ⟨S8x1x1x1024, .f32⟩
  | 110 => ⟨S8x1x1024, .f32⟩
  | 111 => ⟨S1x1024x1024, .f32⟩
  | 112 => ⟨S1024x1024, .f32⟩
  | 113 => ⟨S8x2048x1024, .f32⟩
  | 114 => ⟨S8x2048x1024, .f32⟩
  | 115 => ⟨S8x2048x1024, .f32⟩
  | 116 => ⟨S8x2048x1024, .f32⟩
  | 117 => ⟨S1x1024, .f32⟩
  | 118 => ⟨S1024, .f32⟩
  | 119 => ⟨S8x2048x1024, .f32⟩
  | 120 => ⟨S_, .f32⟩
  | 121 => ⟨S8x2048, .f32⟩
  | 122 => ⟨S8x2048x1, .f32⟩
  | 123 => ⟨S_, .f32⟩
  | 124 => ⟨S8x2048x1, .f32⟩
  | 125 => ⟨S8x2048x1, .f32⟩
  | 126 => ⟨S_, .f32⟩
  | 127 => ⟨S8x2048x1, .f32⟩
  | _ => ⟨S8x2048x1024, .f32⟩

abbrev hbmTy0_1 (i : Nat) : BufTy := match i % 128 with
  | 0 => ⟨S8x2048x1, .f32⟩
  | 1 => ⟨S8x2048x1, .f32⟩
  | 2 => ⟨S8x2048x1024, .f32⟩
  | 3 => ⟨S8x2048x1024, .f32⟩
  | 4 => ⟨S1x1x1024, .f32⟩
  | 5 => ⟨S8x2048x1024, .f32⟩
  | 6 => ⟨S8x2048x1024, .f32⟩
  | 7 => ⟨S8x1x1x1024, .f32⟩
  | 8 => ⟨S8x1x1024, .f32⟩
  | 9 => ⟨S_, .f32⟩
  | 10 => ⟨S8x1x1024, .f32⟩
  | 11 => ⟨S8x1x1024, .f32⟩
  | 12 => ⟨S8x2048x1024, .f32⟩
  | 13 => ⟨S8x2048x1024, .f32⟩
  | 14 => ⟨S8x1x1x1024, .f32⟩
  | 15 => ⟨S8x1x1024, .f32⟩
  | 16 => ⟨S8x2048x1024, .f32⟩
  | 17 => ⟨S8x2048x1024, .f32⟩
  | 18 => ⟨S8x1x1x1024, .f32⟩
  | 19 => ⟨S8x1x1024, .f32⟩
  | 20 => ⟨S1x1024x4096, .f32⟩
  | 21 => ⟨S1024x4096, .f32⟩
  | 22 => ⟨S8x2048x4096, .f32⟩
  | 23 => ⟨S_, .f32⟩
  | 24 => ⟨S8x2048x4096, .f32⟩
  | 25 => ⟨S8x2048x4096, .f32⟩
  | 26 => ⟨S8x2048x4096, .f32⟩
  | 27 => ⟨S1x4096x1024, .f32⟩
  | 28 => ⟨S4096x1024, .f32⟩
  | 29 => ⟨S8x2048x1024, .f32⟩
  | 30 => ⟨S8x2048x1024, .f32⟩
  | 31 => ⟨S8x2048x1024, .f32⟩
  | 32 => ⟨S8x2048x1024, .f32⟩
  | 33 => ⟨S8x2048x1024, .f32⟩
  | 34 => ⟨S_, .f32⟩
  | 35 => ⟨S8x2048, .f32⟩
  | 36 => ⟨S8x2048x1, .f32⟩
  | 37 => ⟨S_, .f32⟩
  | 38 => ⟨S8x2048x1, .f32⟩
  | 39 => ⟨S8x2048x1, .f32⟩
  | 40 => ⟨S_, .f32⟩
  | 41 => ⟨S8x2048x1, .f32⟩
  | 42 => ⟨S8x2048x1, .f32⟩
  | 43 => ⟨S8x2048x1, .f32⟩
  | 44 => ⟨S8x2048x1024, .f32⟩
  | 45 => ⟨S8x2048x1024, .f32⟩
  | 46 => ⟨S1x1x1024, .f32⟩
  | 47 => ⟨S8x2048x1024, .f32⟩
  | 48 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_cst_13 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_14 : Ref sig .tc := ⟨.hbm, 120, rfl⟩
abbrev main_v92 : Ref sig .tc := ⟨.hbm, 121, rfl⟩
abbrev main_v93 : Ref sig .tc := ⟨.hbm, 122, rfl⟩
abbrev main_cst_15 : Ref sig .tc := ⟨.hbm, 123, rfl⟩
abbrev main_v94 : Ref sig .tc := ⟨.hbm, 124, rfl⟩
abbrev main_v95 : Ref sig .tc := ⟨.hbm, 125, rfl⟩
abbrev main_cst_16 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_17 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_call0_cst : Ref sig .tc := ⟨.hbm, 151, rfl⟩
abbrev main_call0_v0 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_18 : Ref sig .tc := ⟨.hbm, 162, rfl⟩
abbrev main_v128 : Ref sig .tc := ⟨.hbm, 163, rfl⟩
abbrev main_v129 : Ref sig .tc := ⟨.hbm, 164, rfl⟩
abbrev main_cst_19 : Ref sig .tc := ⟨.hbm, 165, rfl⟩
abbrev main_v130 : Ref sig .tc := ⟨.hbm, 166, rfl⟩
abbrev main_v131 : Ref sig .tc := ⟨.hbm, 167, rfl⟩
abbrev main_cst_20 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x16x6144 : Shape := ⟨3, ![2, 16, 6144]⟩
abbrev S2x1024 : Shape := ⟨2, ![2, 1024]⟩
abbrev S2x1024x3344 : Shape := ⟨3, ![2, 1024, 3344]⟩
abbrev S2x1024x768 : Shape := ⟨3, ![2, 1024, 768]⟩
abbrev S2x1024x256 : Shape := ⟨3, ![2, 1024, 256]⟩
abbrev S2x1024x512 : Shape := ⟨3, ![2, 1024, 512]⟩
abbrev S2x1024x1792 : Shape := ⟨3, ![2, 1024, 1792]⟩
abbrev S_ : Shape := ⟨0, ![]⟩
abbrev S2x1024x112 : Shape := ⟨3, ![2, 1024, 112]⟩
abbrev S2x1024x1536 : Shape := ⟨3, ![2, 1024, 1536]⟩
abbrev S2x1024x16 : Shape := ⟨3, ![2, 1024, 16]⟩
abbrev S2x1024x1664 : Shape := ⟨3, ![2, 1024, 1664]⟩
abbrev S2x1x1024 : Shape := ⟨3, ![2, 1, 1024]⟩
abbrev S2x16x6x1x1024 : Shape := ⟨5, ![2, 16, 6, 1, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x32x64x1024 : Shape := ⟨4, ![8, 32, 64, 1024]⟩
abbrev S8x32x64x768 : Shape := ⟨4, ![8, 32, 64, 768]⟩
abbrev S8x2048x1536 : Shape := ⟨3, ![8, 2048, 1536]⟩
abbrev S8x2048x128 : Shape := ⟨3, ![8, 2048, 128]⟩
abbrev S32x64x8x256 : Shape := ⟨4, ![32, 64, 8, 256]⟩
abbrev S1x32x16x1024 : Shape := ⟨4, ![1, 32, 16, 1024]⟩
abbrev S1x1x1x1x1024 : Shape := ⟨5, ![1, 1, 1, 1, 1024]⟩
abbrev S1x1x1024 : Shape := ⟨3, ![1, 1, 1024]⟩
abbrev S1x1024x1792 : Shape := ⟨3, ![1, 1024, 1792]⟩
abbrev S1x1024x1664 : Shape := ⟨3, ![1, 1024, 1664]⟩
abbrev S1x32x16x768 : Shape := ⟨4, ![1, 32, 16, 768]⟩
abbrev S1x512x1536 : Shape := ⟨3, ![1, 512, 1536]⟩
abbrev S1x512x128 : Shape := ⟨3, ![1, 512, 128]⟩
abbrev S32x16x8x256 : Shape := ⟨4, ![32, 16, 8, 256]⟩
abbrev S32x16x1024 : Shape := ⟨3, ![32, 16, 1024]⟩
abbrev S512x1024 : Shape := ⟨2, ![512, 1024]⟩
abbrev S1x1024 : Shape := ⟨2, ![1, 1024]⟩
abbrev S1024x1792 : Shape := ⟨2, ![1024, 1792]⟩
abbrev S512x1792 : Shape := ⟨2, ![512, 1792]⟩
abbrev S512x768 : Shape := ⟨2, ![512, 768]⟩
abbrev S32x16x768 : Shape := ⟨3, ![32, 16, 768]⟩
abbrev S512x256 : Shape := ⟨2, ![512, 256]⟩
abbrev S32x16x1x256 : Shape := ⟨4, ![32, 16, 1, 256]⟩
abbrev S1024x1664 : Shape := ⟨2, ![1024, 1664]⟩
abbrev S512x1664 : Shape := ⟨2, ![512, 1664]⟩
abbrev S512x1536 : Shape := ⟨2, ![512, 1536]⟩
abbrev S512x128 : Shape := ⟨2, ![512, 128]⟩

abbrev nBuf : Space → Nat
  | .hbm => 80
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S2x16x6144, .f32⟩
  | .hbm, ⟨2, _⟩ => ⟨S2x1024, .f32⟩
  | .hbm, ⟨3, _⟩ => ⟨S2x1024x3344, .f32⟩
  | .hbm, ⟨4, _⟩ => ⟨S2x1024x768, .f32⟩
  | .hbm, ⟨5, _⟩ => ⟨S2x1024x256, .f32⟩
  | .hbm, ⟨6, _⟩ => ⟨S2x1024x512, .f32⟩
  | .hbm, ⟨7, _⟩ => ⟨S2x1024x256, .f32⟩
  | .hbm, ⟨8, _⟩ => ⟨S2x1024x1792, .f32⟩
  | .hbm, ⟨9, _⟩ => ⟨S2x1024x1792, .bf16⟩
  | .hbm, ⟨10, _⟩ => ⟨S_, .f32⟩
  | .hbm, ⟨11, _⟩ => ⟨S2x1024x112, .f32⟩
  | .hbm, ⟨12, _⟩ => ⟨S2x1024x1536, .f32⟩
  | .hbm, ⟨13, _⟩ => ⟨S2x1024x16, .f32⟩
  | .hbm, ⟨14, _⟩ => ⟨S2x1024x1664, .f32⟩
  | .hbm, ⟨15, _⟩ => ⟨S2x1024x1664, .bf16⟩
  | .hbm, ⟨16, _⟩ => ⟨S2x1x1024, .f32⟩
  | .hbm, ⟨17, _⟩ => ⟨S2x16x6x1x1024, .f32⟩
  | .hbm, ⟨18, _⟩ => ⟨S512, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S_, .i32⟩
  | .hbm, ⟨34, _⟩ => ⟨S_, .i1⟩
  | .hbm, ⟨35, _⟩ => ⟨S512, .i1⟩
  | .hbm, ⟨36, _⟩ => ⟨S512, .i1⟩
  | .hbm, ⟨37, _⟩ => ⟨S512, .i1⟩
  | .hbm, ⟨38, _⟩ => ⟨S512, .i32⟩
  | .hbm, ⟨39, _⟩ => ⟨S512, .i32⟩
  | .hbm, ⟨40, _⟩ => ⟨S512, .i32⟩
  | .hbm, ⟨41, _⟩ => ⟨S_, .i32⟩
  | .hbm, ⟨42, _⟩ => ⟨S512, .i32⟩
  | .hbm, ⟨43, _⟩ => ⟨S512, .i32⟩
  | .hbm, ⟨44, _⟩ => ⟨S_, .i32⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S_, .i32⟩
  | .hbm, ⟨50, _⟩ => ⟨S512, .i32⟩
  | .hbm, ⟨51, _⟩ => ⟨S512, .i1⟩
  | .hbm, ⟨52, _⟩ => ⟨S512, .i32⟩
  | .hbm, ⟨53, _⟩ => ⟨S512, .i32⟩
  | .hbm, ⟨54, _⟩ => ⟨S_, .i32⟩
  | .hbm, ⟨55, _⟩ => ⟨S512, .i32⟩
  | .hbm, ⟨56, _⟩ => ⟨S512, .i1⟩
  | .hbm, ⟨57, _⟩ => ⟨S512, .i1⟩
  | .hbm, ⟨58, _⟩ => ⟨S_, .i32⟩
  | .hbm, ⟨59, _⟩ => ⟨S512, .i32⟩
  | .hbm, ⟨60, _⟩ => ⟨S512, .i32⟩
  | .hbm, ⟨61, _⟩ => ⟨S512, .i32⟩
  | .hbm, ⟨62, _⟩ => ⟨S512, .i32⟩
  | .hbm, ⟨63, _⟩ => ⟨S512x1, .i32⟩
  | .hbm, ⟨64, _⟩ => ⟨S1x512, .i32⟩
  | .hbm, ⟨65, _⟩ => ⟨S512x512, .i32⟩
  | .hbm, ⟨66, _⟩ => ⟨S512x512, .i32⟩
  | .hbm, ⟨67, _⟩ => ⟨S512x512, .i1⟩
  | .hbm, ⟨68, _⟩ => ⟨S_, .f32⟩
  | .hbm, ⟨69, _⟩ => ⟨S_, .f32⟩
  | .hbm, ⟨70, _⟩ => ⟨S512x512, .f32⟩
  | .hbm, ⟨71, _⟩ => ⟨S512x512, .f32⟩
  | .hbm, ⟨72, _⟩ => ⟨S512x512, .f32⟩
  | .hbm, ⟨73, _⟩ => ⟨S8x32x64x1024, .f32⟩
  | .hbm, ⟨74, _⟩ => ⟨S512x512, .bf16⟩
  | .hbm, ⟨75, _⟩ => ⟨S8x32x64x768, .bf16⟩
  | .hbm, ⟨76, _⟩ => ⟨S8x32x64x768, .f32⟩
  | .hbm, ⟨77, _⟩ => ⟨S8x2048x1536, .bf16⟩
  | .hbm, ⟨78, _⟩ => ⟨S8x2048x128, .f32⟩
  | .hbm, ⟨79, _⟩ => ⟨S32x64x8x256, .f32⟩
  | .local _ .vmem, ⟨0, _⟩ => ⟨S1x32x16x1024, .f32⟩
  | .local _ .vmem, ⟨1, _⟩ => ⟨S1x32x16x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1024, .f32⟩
  | .local _ .vmem, ⟨7, _⟩ => ⟨S1x1024x1792, .bf16⟩
  | .local _ .vmem, ⟨8, _⟩ => ⟨S1x1024x1664, .bf16⟩
  | .local _ .vmem, ⟨9, _⟩ => ⟨S512x512, .bf16⟩
  | .local _ .vmem, ⟨10, _⟩ => ⟨S1x32x16x768, .bf16⟩
  | .local _ .vmem, ⟨11, _⟩ => ⟨S1x32x16x768, .bf16⟩
  | .local _ .vmem, ⟨12, _⟩ => ⟨S1x32x16x768, .f32⟩
  | .local _ .vmem, ⟨13, _⟩ => ⟨S1x32x16x768, .f32⟩
  | .local _ .vmem, ⟨14, _⟩ => ⟨S1x512x1536, .bf16⟩
  | .local _ .vmem, ⟨15, _⟩ => ⟨S1x512x1536, .bf16⟩
  | .local _ .vmem, ⟨16, _⟩ => ⟨S1x512x128, .f32⟩
  | .local _ .vmem, ⟨17, _⟩ => ⟨S1x512x128, .f32⟩
  | .local _ .vmem, ⟨18, _⟩ => ⟨S32x16x8x256, .f32⟩
  | .local _ .vmem, ⟨19, _⟩ => ⟨S32x16x8x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v14 : Ref sig .tc := ⟨.hbm, 40, rfl⟩
abbrev main_c_0 : Ref sig .tc := ⟨.hbm, 41, rfl⟩
abbrev main_v15 : Ref sig .tc := ⟨.hbm, 42, rfl⟩
abbrev main_v16 : Ref sig .tc := ⟨.hbm, 43, rfl⟩
abbrev main_c_1 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_cst_2 : Ref sig .tc := ⟨.hbm, 68, rfl⟩
abbrev main_cst_3 : Ref sig .tc := ⟨.hbm, 69, rfl⟩
abbrev main_call2_v0 : Ref sig .tc := ⟨.hbm, 70, rfl⟩
abbrev main_call2_v1 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27_0 : Ref sig .tc := ⟨.hbm, 75, rfl⟩
abbrev main_v27_1 : Ref sig .tc := ⟨.hbm, 76, rfl⟩
abbrev main_v27_2 : Ref sig .tc := ⟨.hbm, 77, rfl⟩
abbrev main_v27_3 : Ref sig .tc := ⟨.hbm, 78, rfl⟩
abbrev main_v27_4 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 8], ![false, false]⟩

def k0_off1 (i : grid0.Coords) : Fin 4 → Nat :=
  let c0_31 : Index := 0#32
  let c0_32 : Index := 0#32
  let arg1 : BitVec 32 := BitVec.ofNat 32 (i 1).val
  let v44 : Index := Scalar.indexCast arg1
  let c0_33 : Index := 0#32
  ![0, 0, v44.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, arg1.toNat, c1_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x32x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x1664 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x16x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x16x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x16x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference3Ideal.lean ====
abbrev S8x2048x1024 : Shape := ⟨3, ![8, 2048, 1024]⟩
abbrev S2x16x6144 : Shape := ⟨3, ![2, 16, 6144]⟩
abbrev S2x1024 : Shape := ⟨2, ![2, 1024]⟩
abbrev S2x1024x3344 : Shape := ⟨3, ![2, 1024, 3344]⟩
abbrev S1x8x6144 : Shape := ⟨3, ![1, 8, 6144]⟩
abbrev S8x6144 : Shape := ⟨2, ![8, 6144]⟩
abbrev S8x1x6x1024 : Shape := ⟨4, ![8, 1, 6, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S1x1024x3344 : Shape := ⟨3, ![1, 1024, 3344]⟩
abbrev S1024x3344 : Shape := ⟨2, ![1024, 3344]⟩
abbrev S8x2048x3344 : Shape := ⟨3, ![8, 2048, 3344]⟩
abbrev S8x2048x2064 : Shape := ⟨3, ![8, 2048, 2064]⟩
abbrev S8x32x64x2064 : Shape := ⟨4, ![8, 32, 64, 2064]⟩
abbrev S8x64x32x2064 : Shape := ⟨4, ![8, 64, 32, 2064]⟩
abbrev S8x2048x768 : Shape := ⟨3, ![8, 2048, 768]⟩
abbrev S8x32x64x768 : Shape := ⟨4, ![8, 32, 64, 768]⟩
abbrev S8x2048x512 : Shape := ⟨3, ![8, 2048, 512]⟩
abbrev S8x32x64x512 : Shape := ⟨4, ![8, 32, 64, 512]⟩
abbrev S8x2048x256 : Shape := ⟨3, ![8, 2048, 256]⟩
abbrev S8x32x64x256 : Shape := ⟨4, ![8, 32, 64, 256]⟩
abbrev S8x2048x1536 : Shape := ⟨3, ![8, 2048, 1536]⟩
abbrev S8x2048x16 : Shape := ⟨3, ![8, 2048, 16]⟩
abbrev S8x2048x128 : Shape := ⟨3, ![8, 2048, 128]⟩
abbrev S32x64x8x256 : Shape := ⟨4, ![32, 64, 8, 256]⟩

abbrev nBuf : Space → Nat
  | .hbm => 60
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x16x6144, .f32⟩
  | .hbm, ⟨2, _⟩ => ⟨S2x1024, .f32⟩
  | .hbm, ⟨3, _⟩ => ⟨S2x1024x3344, .f32⟩
  | .hbm, ⟨4, _⟩ => ⟨S1x8x6144, .f32⟩
  | .hbm, ⟨5, _⟩ => ⟨S8x6144, .f32⟩
  | .hbm, ⟨6, _⟩ => ⟨S8x1x6x1024, .f32⟩
  | .hbm, ⟨7, _⟩ => ⟨S1x1024, .f32⟩
  | .hbm, ⟨8, _⟩ => ⟨S1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x1x1x1024, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x1x1x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S1x1024x3344, .f32⟩
  | .hbm, ⟨37, _⟩ => ⟨S1024x3344, .f32⟩
  | .hbm, ⟨38, _⟩ => ⟨S8x2048x3344, .f32⟩
  | .hbm, ⟨39, _⟩ => ⟨S8x2048x2064, .f32⟩
  | .hbm, ⟨40, _⟩ => ⟨S8x32x64x2064, .f32⟩
  | .hbm, ⟨41, _⟩ => ⟨S8x64x32x2064, .f32⟩
  | .hbm, ⟨42, _⟩ => ⟨S8x2048x2064, .f32⟩
  | .hbm, ⟨43, _⟩ => ⟨S8x2048x768, .f32⟩
  | .hbm, ⟨44, _⟩ => ⟨S8x32x64x768, .f32⟩
  | .hbm, ⟨45, _⟩ => ⟨S8x2048x512, .f32⟩
  | .hbm, ⟨46, _⟩ => ⟨S8x32x64x512, .f32⟩
  | .hbm, ⟨47, _⟩ => ⟨S8x2048x256, .f32⟩
  | .hbm, ⟨48, _⟩ => ⟨S8x32x64x256, .f32⟩
  | .hbm, ⟨49, _⟩ => ⟨S8x32x64x768, .f32⟩
  | .hbm, ⟨50, _⟩ => ⟨S8x2048x1536, .f32⟩
  | .hbm, ⟨51, _⟩ => ⟨S8x2048x16, .f32⟩
  | .hbm, ⟨52, _⟩ => ⟨S_, .i32⟩
  | .hbm, ⟨53, _⟩ => ⟨S_, .f32⟩
  | .hbm, ⟨54, _⟩ => ⟨S8x2048x128, .f32⟩
  | .hbm, ⟨55, _⟩ => ⟨S8x2048x256, .f32⟩
  | .hbm, ⟨56, _⟩ => ⟨S8x32x64x256, .f32⟩
  | .hbm, ⟨57, _⟩ => ⟨S32x64x8x256, .f32⟩
  | .hbm, ⟨58, _⟩ => ⟨S8x32x64x768, .bf16⟩
  | .hbm, ⟨59, _⟩ => ⟨S8x2048x1536, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_c : Ref sig .tc := ⟨.hbm, 52, rfl⟩
abbrev main_call0_v0 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Proof.RgBits.lean ====
module

public import proofs.«01_k».proof.Proof.Gen.Kernel.Loops
public import proofs.«01_k».proof.Proof.Gen.Kernel.Frame
public import Idealize.ShloMosaic.Lib.WholeRead
public import Idealize.ShloMosaic.Lib.Claim

@[expose] public section

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One grid point at which the carried state is taken from the initial states. -/
theorem runFirst (c : Dev nD) (i : grid0.Coords) (arg1 : Memref sig .tc .vmem S2048x8x256 .f32) (harg1 : arg1.IsWhole) (arg2 : Memref sig .tc .vmem S1x4x256 .f32) (harg2 : arg2.IsWhole) (arg3 : Memref sig .tc .vmem S1x256x1024 .bf16) (harg3 : arg3.IsWhole) (arg4 : Memref sig .tc .vmem S1x1x1024 .f32) (harg4 : arg4.IsWhole) (arg5 : Memref sig .tc .vmem S1x2x256 .f32) (harg5 : arg5.IsWhole) (arg6 : Memref sig .tc .vmem S2x8x256 .f32) (harg6 : arg6.IsWhole) (arg7 : Memref sig .tc .vmem S32x8x8x256 .f32) (harg7 : arg7.IsWhole) (arg8 : Memref sig .tc .vmem S32x8x8x256 .f32) (harg8 : arg8.IsWhole) (arg9 : Memref sig .tc .vmem S2x8x256 .f32) (harg9 : arg9.IsWhole) (arg10 : Memref sig .tc .vmem S259x8x256 .f32) (harg10 : arg10.IsWhole) (arg11 : Memref sig .tc .vmem S2x256x8x256 .f32) (harg11 : arg11.IsWhole) (arg12 : Memref sig .tc .vmem S2x256x8x256 .f32) (harg12 : arg12.IsWhole) (arg13 : Memref sig .tc .vmem S2x256x8x256 .f32) (harg13 : arg13.IsWhole) (arg14 : Memref sig .tc .vmem S2x8x256 .f32) (harg14 : arg14.IsWhole)
    (x1 : Vec F S2048x8x256 .f32) (x2 : Vec F S1x4x256 .f32) (x3 : Vec F S1x256x1024 .bf16) (x4 : Vec F S1x1x1024 .f32) (x5 : Vec F S1x2x256 .f32) (x6 : Vec F S2x8x256 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)
    (hc : Scalar.cmpi .ne (Scalar.extui (Scalar.cmpi .eq (BitVec.ofNat 32 (i 0).val) 0#32)) 0#32 = (1#1 : BitVec 1)) (E : Set ℕ) (K : PUnit → sProp 𝕄) :
        iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
            ∗ (iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g))) -∗ K ⟨⟩))
          ⊢ wp frame (wpE (defs₀ (F := F)) Variants.none c none) E (cc0_rglru i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_rglru_eq_skeleton]; unfold cc0_rglru_skel
  simp only [k0_part1_eq_skeleton, k0_part2_eq_skeleton, k0_part3_eq_skeleton, k0_part4_eq_skeleton, k0_part5_eq_skeleton, k0_part6_eq_skeleton, k0_part7_eq_skeleton, k0_part8_eq_skeleton]
  iintro ⟨H1, H2, H3, H4, H5, H6, H7, H8, H9, H10, H11, H12, H13, H14, Hk⟩
  sl_exec (disch := sl_exact hc)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

set_option maxHeartbeats 4000000 in
/-- One grid point at which the carried state is the last point's. -/
theorem runLater (c : Dev nD) (i : grid0.Coords) (arg1 : Memref sig .tc .vmem S2048x8x256 .f32) (harg1 : arg1.IsWhole) (arg2 : Memref sig .tc .vmem S1x4x256 .f32) (harg2 : arg2.IsWhole) (arg3 : Memref sig .tc .vmem S1x256x1024 .bf16) (harg3 : arg3.IsWhole) (arg4 : Memref sig .tc .vmem S1x1x1024 .f32) (harg4 : arg4.IsWhole) (arg5 : Memref sig .tc .vmem S1x2x256 .f32) (harg5 : arg5.IsWhole) (arg6 : Memref sig .tc .vmem S2x8x256 .f32) (harg6 : arg6.IsWhole) (arg7 : Memref sig .tc .vmem S32x8x8x256 .f32) (harg7 : arg7.IsWhole) (arg8 : Memref sig .tc .vmem S32x8x8x256 .f32) (harg8 : arg8.IsWhole) (arg9 : Memref sig .tc .vmem S2x8x256 .f32) (harg9 : arg9.IsWhole) (arg10 : Memref sig .tc .vmem S259x8x256 .f32) (harg10 : arg10.IsWhole) (arg11 : Memref sig .tc .vmem S2x256x8x256 .f32) (harg11 : arg11.IsWhole) (arg12 : Memref sig .tc .vmem S2x256x8x256 .f32) (harg12 : arg12.IsWhole) (arg13 : Memref sig .tc .vmem S2x256x8x256 .f32) (harg13 : arg13.IsWhole) (arg14 : Memref sig .tc .vmem S2x8x256 .f32) (harg14 : arg14.IsWhole)
    (x1 : Vec F S2048x8x256 .f32) (x2 : Vec F S1x4x256 .f32) (x3 : Vec F S1x256x1024 .bf16) (x4 : Vec F S1x1x1024 .f32) (x5 : Vec F S1x2x256 .f32) (x6 : Vec F S2x8x256 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)
    (hc : ¬ (Scalar.cmpi .ne (Scalar.extui (Scalar.cmpi .eq (BitVec.ofNat 32 (i 0).val) 0#32)) 0#32 = (1#1 : BitVec 1))) (E : Set ℕ) (K : PUnit → sProp 𝕄) :
        iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
            ∗ (iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g))) -∗ K ⟨⟩))
          ⊢ wp frame (wpE (defs₀ (F := F)) Variants.none c none) E (cc0_rglru i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_rglru_eq_skeleton]; unfold cc0_rglru_skel
  simp only [k0_part1_eq_skeleton, k0_part2_eq_skeleton, k0_part3_eq_skeleton, k0_part4_eq_skeleton, k0_part5_eq_skeleton, k0_part6_eq_skeleton, k0_part7_eq_skeleton, k0_part8_eq_skeleton]
  iintro ⟨H1, H2, H3, H4, H5, H6, H7, H8, H9, H10, H11, H12, H13, H14, Hk⟩
  sl_exec (disch := sl_exact hc)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

set_option maxHeartbeats 3200000 in
/-- One grid point: the inputs' buffers keep what they hold. -/
theorem tile (c : Dev nD) (i : grid0.Coords) (arg1 : Memref sig .tc .vmem S2048x8x256 .f32) (harg1 : arg1.IsWhole) (arg2 : Memref sig .tc .vmem S1x4x256 .f32) (harg2 : arg2.IsWhole) (arg3 : Memref sig .tc .vmem S1x256x1024 .bf16) (harg3 : arg3.IsWhole) (arg4 : Memref sig .tc .vmem S1x1x1024 .f32) (harg4 : arg4.IsWhole) (arg5 : Memref sig .tc .vmem S1x2x256 .f32) (harg5 : arg5.IsWhole) (arg6 : Memref sig .tc .vmem S2x8x256 .f32) (harg6 : arg6.IsWhole) (arg7 : Memref sig .tc .vmem S32x8x8x256 .f32) (harg7 : arg7.IsWhole) (arg8 : Memref sig .tc .vmem S32x8x8x256 .f32) (harg8 : arg8.IsWhole) (arg9 : Memref sig .tc .vmem S2x8x256 .f32) (harg9 : arg9.IsWhole) (arg10 : Memref sig .tc .vmem S259x8x256 .f32) (harg10 : arg10.IsWhole) (arg11 : Memref sig .tc .vmem S2x256x8x256 .f32) (harg11 : arg11.IsWhole) (arg12 : Memref sig .tc .vmem S2x256x8x256 .f32) (harg12 : arg12.IsWhole) (arg13 : Memref sig .tc .vmem S2x256x8x256 .f32) (harg13 : arg13.IsWhole) (arg14 : Memref sig .tc .vmem S2x8x256 .f32) (harg14 : arg14.IsWhole)
    (x1 : Vec F S2048x8x256 .f32) (x2 : Vec F S1x4x256 .f32) (x3 : Vec F S1x256x1024 .bf16) (x4 : Vec F S1x1x1024 .f32) (x5 : Vec F S1x2x256 .f32) (x6 : Vec F S2x8x256 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_rglru i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, Hk⟩
  obtain rfl := harg1.eq_unread e1
  obtain rfl := harg2.eq_unread e2
  obtain rfl := harg3.eq_unread e3
  obtain rfl := harg4.eq_unread e4
  obtain rfl := harg5.eq_unread e5
  obtain rfl := harg6.eq_unread e6
  by_cases hc : Scalar.cmpi .ne (Scalar.extui (Scalar.cmpi .eq (BitVec.ofNat 32 (i 0).val) 0#32)) 0#32 = (1#1 : BitVec 1)
  · iapply (runFirst c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc E K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H1, H2, H3, H4, H5, H6, ⟨%g7, H7⟩, ⟨%g8, H8⟩, ⟨%g9, H9⟩, ⟨%g10, H10⟩, ⟨%g11, H11⟩, ⟨%g12, H12⟩, ⟨%g13, H13⟩, ⟨%g14, H14⟩⟩
    iapply Hk
    isplitl [H1]
    · iexists _; isplitr; · ipureintro; exact harg1.read_unread x1
      iexact H1
    isplitl [H2]
    · iexists _; isplitr; · ipureintro; exact harg2.read_unread x2
      iexact H2
    isplitl [H3]
    · iexists _; isplitr; · ipureintro; exact harg3.read_unread x3
      iexact H3
    isplitl [H4]
    · iexists _; isplitr; · ipureintro; exact harg4.read_unread x4
      iexact H4
    isplitl [H5]
    · iexists _; isplitr; · ipureintro; exact harg5.read_unread x5
      iexact H5
    isplitl [H6]
    · iexists _; isplitr; · ipureintro; exact harg6.read_unread x6
      iexact H6
    isplitl [H7]
    · iexists _; iexists g7; isplitr; · ipureintro; rfl
      iexact H7
    isplitl [H8]
    · iexists _; iexists g8; isplitr; · ipureintro; rfl
      iexact H8
    isplitl [H9]
    · iexists _; iexists g9; isplitr; · ipureintro; rfl
      iexact H9
    isplitl [H10]
    · iexists _; iexists g10; isplitr; · ipureintro; rfl
      iexact H10
    isplitl [H11]
    · iexists _; iexists g11; isplitr; · ipureintro; rfl
      iexact H11
    isplitl [H12]
    · iexists _; iexists g12; isplitr; · ipureintro; rfl
      iexact H12
    isplitl [H13]
    · iexists _; iexists g13; isplitr; · ipureintro; rfl
      iexact H13
    iexists _; iexists g14; isplitr; · ipureintro; rfl
    iexact H14
  · iapply (runLater c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc E K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H1, H2, H3, H4, H5, H6, ⟨%g7, H7⟩, ⟨%g8, H8⟩, ⟨%g9, H9⟩, ⟨%g10, H10⟩, ⟨%g11, H11⟩, ⟨%g12, H12⟩, ⟨%g13, H13⟩, ⟨%g14, H14⟩⟩
    iapply Hk
    isplitl [H1]
    · iexists _; isplitr; · ipureintro; exact harg1.read_unread x1
      iexact H1
    isplitl [H2]
    · iexists _; isplitr; · ipureintro; exact harg2.read_unread x2
      iexact H2
    isplitl [H3]
    · iexists _; isplitr; · ipureintro; exact harg3.read_unread x3
      iexact H3
    isplitl [H4]
    · iexists _; isplitr; · ipureintro; exact harg4.read_unread x4
      iexact H4
    isplitl [H5]
    · iexists _; isplitr; · ipureintro; exact harg5.read_unread x5
      iexact H5
    isplitl [H6]
    · iexists _; isplitr; · ipureintro; exact harg6.read_unread x6
      iexact H6
    isplitl [H7]
    · iexists _; iexists g7; isplitr; · ipureintro; rfl
      iexact H7
    isplitl [H8]
    · iexists _; iexists g8; isplitr; · ipureintro; rfl
      iexact H8
    isplitl [H9]
    · iexists _; iexists g9; isplitr; · ipureintro; rfl
      iexact H9
    isplitl [H10]
    · iexists _; iexists g10; isplitr; · ipureintro; rfl
      iexact H10
    isplitl [H11]
    · iexists _; iexists g11; isplitr; · ipureintro; rfl
      iexact H11
    isplitl [H12]
    · iexists _; iexists g12; isplitr; · ipureintro; rfl
      iexact H12
    isplitl [H13]
    · iexists _; iexists g13; isplitr; · ipureintro; rfl
      iexact H13
    iexists _; iexists g14; isplitr; · ipureintro; rfl
    iexact H14

variable (m : (ℓ : Loc nD τ sig) → Buf (Elt F) ℓ) (ρ : Dev nD → PrngReg)

theorem scratch_eq (c : Dev nD) : (Pipeline.ΦA spec0 c : sProp 𝕄)
    = iprop(((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f) ∗ (∃ f, owns (c : Thread nD τ) (Memref.whole cc0_scratch4) fullShare f) ) ∗ ∃ r, prngReg c r) := by
  unfold Pipeline.ΦA
  rw [scopedRest0_eq]
  simp only [owns_whole]

/-- The proof data: the inputs' buffers keep their blocks; the outputs' are left open. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨_ + 9, h⟩ => absurd h (Nat.not_lt.2 (Nat.le_add_left _ _))
  Φ _ := Pipeline.ΦA spec0 c
  q _ := fullShare
  owed _ := 0

/-- The windows whose contents the data leaves open. -/
def forgets : Fin cfg0.W → Bool := fun w => decide (6 ≤ w.val)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, scratch_eq,
    after_0, after_1, after_2, after_3, after_4, after_5]
  iintro ⟨⟨⟨S0, S1, S2, S3, S4⟩, Hp⟩, Ho, ⟨%d0, H0⟩, ⟨%d1, H1⟩, ⟨%d2, H2⟩, ⟨%d3, H3⟩, ⟨%d4, H4⟩, ⟨%d5, H5⟩, H6, H7, H8⟩
  iapply (tile c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  iintro ⟨H0, H1, H2, H3, H4, H5, H6, H7, H8, S0, S1, S2, S3, S4⟩
  isplitl [S0 S1 S2 S3 S4 Hp]
  · isplitr [Hp]
    · isplitl [S0]; · iexact S0
      isplitl [S1]; · iexact S1
      isplitl [S2]; · iexact S2
      isplitl [S3]; · iexact S3
      iexact S4
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every run ends, with every counter at zero. -/
theorem run_main_quiescent : θ_run defs (onTc (τ := τ) (main (F := F))) (s₀ m ρ) (fun r => (Pipeline.RDat.FramePost cfg0 (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The arguments end as launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 4 rfl).trans ((A_eq m c 4).trans (V_main_arg4 m c)),
      (Pipeline.RDat.FramePost.arr_in h.1 c 5 rfl).trans ((A_eq m c 5).trans (V_main_arg5 m c))⟩, h.2⟩) (run_main_quiescent m ρ)

end Cert.Kernel.Rg

end
-- ==== Proof.RgRun.lean ====
module

public import proofs.«01_k».proof.Proof.Gen.KernelIdeal.Loops
public import proofs.«01_k».proof.Proof.Gen.KernelIdeal.Frame

@[expose] public section

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- One grid point at which the carried state is taken from the initial states. -/
def runFirst (c : Dev nD) (i : grid0.Coords) (arg1 : Memref sig .tc .vmem S2048x8x256 .f32) (harg1 : arg1.IsWhole) (arg2 : Memref sig .tc .vmem S1x4x256 .f32) (harg2 : arg2.IsWhole) (arg3 : Memref sig .tc .vmem S1x256x1024 .bf16) (harg3 : arg3.IsWhole) (arg4 : Memref sig .tc .vmem S1x1x1024 .f32) (harg4 : arg4.IsWhole) (arg5 : Memref sig .tc .vmem S1x2x256 .f32) (harg5 : arg5.IsWhole) (arg6 : Memref sig .tc .vmem S2x8x256 .f32) (harg6 : arg6.IsWhole) (arg7 : Memref sig .tc .vmem S32x8x8x256 .f32) (harg7 : arg7.IsWhole) (arg8 : Memref sig .tc .vmem S32x8x8x256 .f32) (harg8 : arg8.IsWhole) (arg9 : Memref sig .tc .vmem S2x8x256 .f32) (harg9 : arg9.IsWhole) (arg10 : Memref sig .tc .vmem S259x8x256 .f32) (harg10 : arg10.IsWhole) (arg11 : Memref sig .tc .vmem S2x256x8x256 .f32) (harg11 : arg11.IsWhole) (arg12 : Memref sig .tc .vmem S2x256x8x256 .f32) (harg12 : arg12.IsWhole) (arg13 : Memref sig .tc .vmem S2x256x8x256 .f32) (harg13 : arg13.IsWhole) (arg14 : Memref sig .tc .vmem S2x8x256 .f32) (harg14 : arg14.IsWhole)
    (x1 : Vec F S2048x8x256 .f32) (x2 : Vec F S1x4x256 .f32) (x3 : Vec F S1x256x1024 .bf16) (x4 : Vec F S1x1x1024 .f32) (x5 : Vec F S1x2x256 .f32) (x6 : Vec F S2x8x256 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)
    (hc : Scalar.cmpi .ne (Scalar.extui (Scalar.cmpi .eq (BitVec.ofNat 32 (i 0).val) 0#32)) 0#32 = (1#1 : BitVec 1)) :
    Σ' (W7 : BufTy.Contents (Elt F) arg7.view.ty) (W8 : BufTy.Contents (Elt F) arg8.view.ty) (W9 : BufTy.Contents (Elt F) arg9.view.ty),
      { W14 : BufTy.Contents (Elt F) arg14.view.ty // ∀ (E : Set ℕ) (K : PUnit → sProp 𝕄),
        iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
            ∗ (iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} W7) ∗ (arg8.view.loc (c : Thread nD τ) ↦[arg8.view.set]{fullShare} W8) ∗ (arg9.view.loc (c : Thread nD τ) ↦[arg9.view.set]{fullShare} W9) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (arg14.view.loc (c : Thread nD τ) ↦[arg14.view.set]{fullShare} W14)) -∗ K ⟨⟩))
          ⊢ wp frame (wpE (defs₀ (F := F)) Variants.none c none) E (cc0_rglru i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_rglru_eq_skeleton]; unfold cc0_rglru_skel
    simp only [k0_part1_eq_skeleton, k0_part2_eq_skeleton, k0_part3_eq_skeleton, k0_part4_eq_skeleton, k0_part5_eq_skeleton, k0_part6_eq_skeleton, k0_part7_eq_skeleton, k0_part8_eq_skeleton]
    iintro ⟨H1, H2, H3, H4, H5, H6, H7, H8, H9, H10, H11, H12, H13, H14, Hk⟩
    sl_exec (disch := sl_exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    iexact H14

set_option maxHeartbeats 4000000 in
/-- One grid point at which the carried state is the last point's. -/
def runLater (c : Dev nD) (i : grid0.Coords) (arg1 : Memref sig .tc .vmem S2048x8x256 .f32) (harg1 : arg1.IsWhole) (arg2 : Memref sig .tc .vmem S1x4x256 .f32) (harg2 : arg2.IsWhole) (arg3 : Memref sig .tc .vmem S1x256x1024 .bf16) (harg3 : arg3.IsWhole) (arg4 : Memref sig .tc .vmem S1x1x1024 .f32) (harg4 : arg4.IsWhole) (arg5 : Memref sig .tc .vmem S1x2x256 .f32) (harg5 : arg5.IsWhole) (arg6 : Memref sig .tc .vmem S2x8x256 .f32) (harg6 : arg6.IsWhole) (arg7 : Memref sig .tc .vmem S32x8x8x256 .f32) (harg7 : arg7.IsWhole) (arg8 : Memref sig .tc .vmem S32x8x8x256 .f32) (harg8 : arg8.IsWhole) (arg9 : Memref sig .tc .vmem S2x8x256 .f32) (harg9 : arg9.IsWhole) (arg10 : Memref sig .tc .vmem S259x8x256 .f32) (harg10 : arg10.IsWhole) (arg11 : Memref sig .tc .vmem S2x256x8x256 .f32) (harg11 : arg11.IsWhole) (arg12 : Memref sig .tc .vmem S2x256x8x256 .f32) (harg12 : arg12.IsWhole) (arg13 : Memref sig .tc .vmem S2x256x8x256 .f32) (harg13 : arg13.IsWhole) (arg14 : Memref sig .tc .vmem S2x8x256 .f32) (harg14 : arg14.IsWhole)
    (x1 : Vec F S2048x8x256 .f32) (x2 : Vec F S1x4x256 .f32) (x3 : Vec F S1x256x1024 .bf16) (x4 : Vec F S1x1x1024 .f32) (x5 : Vec F S1x2x256 .f32) (x6 : Vec F S2x8x256 .f32)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)
    (hc : ¬ (Scalar.cmpi .ne (Scalar.extui (Scalar.cmpi .eq (BitVec.ofNat 32 (i 0).val) 0#32)) 0#32 = (1#1 : BitVec 1))) :
    Σ' (W7 : BufTy.Contents (Elt F) arg7.view.ty) (W8 : BufTy.Contents (Elt F) arg8.view.ty) (W9 : BufTy.Contents (Elt F) arg9.view.ty),
      { W14 : BufTy.Contents (Elt F) arg14.view.ty // ∀ (E : Set ℕ) (K : PUnit → sProp 𝕄),
        iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
            ∗ (iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} W7) ∗ (arg8.view.loc (c : Thread nD τ) ↦[arg8.view.set]{fullShare} W8) ∗ (arg9.view.loc (c : Thread nD τ) ↦[arg9.view.set]{fullShare} W9) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (arg14.view.loc (c : Thread nD τ) ↦[arg14.view.set]{fullShare} W14)) -∗ K ⟨⟩))
          ⊢ wp frame (wpE (defs₀ (F := F)) Variants.none c none) E (cc0_rglru i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_rglru_eq_skeleton]; unfold cc0_rglru_skel
    simp only [k0_part1_eq_skeleton, k0_part2_eq_skeleton, k0_part3_eq_skeleton, k0_part4_eq_skeleton, k0_part5_eq_skeleton, k0_part6_eq_skeleton, k0_part7_eq_skeleton, k0_part8_eq_skeleton]
    iintro ⟨H1, H2, H3, H4, H5, H6, H7, H8, H9, H10, H11, H12, H13, H14, Hk⟩
    sl_exec (disch := sl_exact hc)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    iexact H14

end Cert.KernelIdeal.Rg

end
-- ==== Proof.RgLoop.lean ====
module

public import proofs.«01_k».proof.Proof.Gen.KernelIdeal.Loops
public import proofs.«01_k».proof.Proof.Gen.KernelIdeal.Frame
public import Idealize.ShloMosaic.Lib.Pointwise
public import Idealize.ShloMosaic.Lib.WholeRead

@[expose] public section

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The two directions' states after `k` steps of a tile whose decays and inputs are `A` and `B`: the first direction
    steps forward through the rows, the second backward. -/
def steps (A B : Vec F S2x256x8x256 .f32) (init : FVec F S8x256 .f32 × FVec F S8x256 .f32) : ℕ → FVec F S8x256 .f32 × FVec F S8x256 .f32
  | 0 => init
  | k + 1 =>
    if h : k < k0_t1_loop.trips then
      (k0_pay32 (steps A B init k).1
          (View.ld A (Rect.unit (s := S2x256x8x256) (k0_off7 ⟨k, h⟩) S1x1x8x256.size (k0_off7_inb ⟨k, h⟩)))
          (View.ld B (Rect.unit (s := S2x256x8x256) (k0_off7 ⟨k, h⟩) S1x1x8x256.size (k0_off7_inb ⟨k, h⟩))),
        k0_pay34 (steps A B init k).2
          (View.ld A (Rect.unit (s := S2x256x8x256) (k0_off8 ⟨k, h⟩) S1x1x8x256.size (k0_off8_inb ⟨k, h⟩)))
          (View.ld B (Rect.unit (s := S2x256x8x256) (k0_off8 ⟨k, h⟩) S1x1x8x256.size (k0_off8_inb ⟨k, h⟩))))
    else steps A B init k

section Loop

variable (c : Dev nD) (i : grid0.Coords)
  (arg1 : Memref sig .tc .vmem S2048x8x256 .f32) (harg1 : arg1.IsWhole)
  (arg2 : Memref sig .tc .vmem S1x4x256 .f32) (harg2 : arg2.IsWhole)
  (arg3 : Memref sig .tc .vmem S1x256x1024 .bf16) (harg3 : arg3.IsWhole)
  (arg4 : Memref sig .tc .vmem S1x1x1024 .f32) (harg4 : arg4.IsWhole)
  (arg5 : Memref sig .tc .vmem S1x2x256 .f32) (harg5 : arg5.IsWhole)
  (arg6 : Memref sig .tc .vmem S2x8x256 .f32) (harg6 : arg6.IsWhole)
  (arg7 : Memref sig .tc .vmem S32x8x8x256 .f32) (harg7 : arg7.IsWhole)
  (arg8 : Memref sig .tc .vmem S32x8x8x256 .f32) (harg8 : arg8.IsWhole)
  (arg9 : Memref sig .tc .vmem S2x8x256 .f32) (harg9 : arg9.IsWhole)
  (arg10 : Memref sig .tc .vmem S259x8x256 .f32) (harg10 : arg10.IsWhole)
  (arg11 : Memref sig .tc .vmem S2x256x8x256 .f32) (harg11 : arg11.IsWhole)
  (arg12 : Memref sig .tc .vmem S2x256x8x256 .f32) (harg12 : arg12.IsWhole)
  (arg13 : Memref sig .tc .vmem S2x256x8x256 .f32) (harg13 : arg13.IsWhole)
  (arg14 : Memref sig .tc .vmem S2x8x256 .f32) (harg14 : arg14.IsWhole)
  (v226 : FVec F S2048x256 .f32) (v241 : FVec F S2048x256 .f32) (v244 : FVec F S2048x256 .f32) (v248 : FVec F S1x256x8x256 .f32)
  (X11 : BufTy.Contents (Elt F) arg11.view.ty) (X12 : BufTy.Contents (Elt F) arg12.view.ty)
  (init : FVec F S8x256 .f32 × FVec F S8x256 .f32)

/-- The loop's state before trip `k`. -/
abbrev loopSt (k : ℕ) : (FVec F S8x256 .f32 × FVec F S8x256 .f32) × List (View.Piece (Elt F) S2x256x8x256 .f32) :=
  st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 v226 v241 v244 v248 X11 X12 init k

/-- One trip's yield. -/
theorem trip_yield (k : Fin k0_t1_loop.trips) (acc : FVec F S8x256 .f32 × FVec F S8x256 .f32) :
    tripR_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 v226 v241 v244 v248 X11 X12 k acc
      = (k0_pay32 acc.1
          (View.readAt (Elt F) arg11.view (Rect.unit (s := S2x256x8x256) (k0_off7 k) S1x1x8x256.size (k0_off7_inb k)).toLoadRect X11)
          (View.readAt (Elt F) arg12.view (Rect.unit (s := S2x256x8x256) (k0_off7 k) S1x1x8x256.size (k0_off7_inb k)).toLoadRect X12),
        k0_pay34 acc.2
          (View.readAt (Elt F) arg11.view (Rect.unit (s := S2x256x8x256) (k0_off8 k) S1x1x8x256.size (k0_off8_inb k)).toLoadRect X11)
          (View.readAt (Elt F) arg12.view (Rect.unit (s := S2x256x8x256) (k0_off8 k) S1x1x8x256.size (k0_off8_inb k)).toLoadRect X12)) := by
  unfold tripR_k0_t1 trip_k0_t1
  rfl

/-- One trip's stores: row `k` of the first direction, row `255 - k` of the second. -/
theorem trip_stores (k : Fin k0_t1_loop.trips) (acc : FVec F S8x256 .f32 × FVec F S8x256 .f32) :
    tripL_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 v226 v241 v244 v248 X11 X12 k acc
      = [⟨Rect.unit (s := S2x256x8x256) (k0_off8 k) S1x1x8x256.size (k0_off8_inb k), k0_pay35 acc.2
          (View.readAt (Elt F) arg11.view (Rect.unit (s := S2x256x8x256) (k0_off8 k) S1x1x8x256.size (k0_off8_inb k)).toLoadRect X11)
          (View.readAt (Elt F) arg12.view (Rect.unit (s := S2x256x8x256) (k0_off8 k) S1x1x8x256.size (k0_off8_inb k)).toLoadRect X12)⟩,
        ⟨Rect.unit (s := S2x256x8x256) (k0_off7 k) S1x1x8x256.size (k0_off7_inb k), k0_pay33 acc.1
          (View.readAt (Elt F) arg11.view (Rect.unit (s := S2x256x8x256) (k0_off7 k) S1x1x8x256.size (k0_off7_inb k)).toLoadRect X11)
          (View.readAt (Elt F) arg12.view (Rect.unit (s := S2x256x8x256) (k0_off7 k) S1x1x8x256.size (k0_off7_inb k)).toLoadRect X12)⟩] := by
  unfold tripL_k0_t1 trip_k0_t1
  rfl

theorem trips_eq : k0_t1_loop.trips = 256 := by decide

/-- The carried pair before trip `k`. -/
theorem loopSt_fst (k : ℕ) (hk : k ≤ 256) :
    (loopSt c i arg1 harg1 arg2 harg2 arg3 harg3 arg4 harg4 arg5 harg5 arg6 harg6 arg7 harg7 arg8 harg8 arg9 harg9 arg10 harg10 arg11 harg11 arg12 harg12 arg13 harg13 arg14 harg14 v226 v241 v244 v248 X11 X12 init k).1
      = steps (arg11.view.read (Elt F) X11) (arg12.view.read (Elt F) X12) init k := by
  induction k with
  | zero => rfl
  | succ k ih =>
    have h : k < k0_t1_loop.trips := by rw [trips_eq]; omega
    have e := st_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 v226 v241 v244 v248 X11 X12 init ⟨k, h⟩
    unfold loopSt at ih ⊢
    rw [e, trip_yield]
    rw [steps, dif_pos h, ← ih (by omega)]
    rfl

theorem off7_facts : ∀ k : Fin k0_t1_loop.trips, k0_off7 k = ![0, k.val, 0, 0] := by decide +kernel
theorem off8_facts : ∀ k : Fin k0_t1_loop.trips, k0_off8 k = ![1, 255 - k.val, 0, 0] := by decide +kernel

/-- Row `s` of direction 0 belongs to trip `s`'s first store. -/
theorem mem_off7 (k : Fin k0_t1_loop.trips) (y : S2x256x8x256.Idx) :
    y ∈ (Rect.unit (s := S2x256x8x256) (k0_off7 k) S1x1x8x256.size (k0_off7_inb k)).set ↔ (y 0).val = 0 ∧ (y 1).val = k.val := by
  rw [Rect.mem_set_unit, off7_facts]
  have h0 : (y 0).val < 2 := (y 0).isLt
  have h1 : (y 1).val < 256 := (y 1).isLt
  have h2 : (y 2).val < 8 := (y 2).isLt
  have h3 : (y 3).val < 256 := (y 3).isLt
  constructor
  · intro h
    have a := h 0
    have b := h 1
    simp [Shape.size] at a b
    omega
  · rintro ⟨a, b⟩ ax
    fin_cases ax <;> simp [Shape.size] <;> omega

theorem mem_off8 (k : Fin k0_t1_loop.trips) (y : S2x256x8x256.Idx) :
    y ∈ (Rect.unit (s := S2x256x8x256) (k0_off8 k) S1x1x8x256.size (k0_off8_inb k)).set ↔ (y 0).val = 1 ∧ (y 1).val = 255 - k.val := by
  rw [Rect.mem_set_unit, off8_facts]
  have h0 : (y 0).val < 2 := (y 0).isLt
  have h1 : (y 1).val < 256 := (y 1).isLt
  have h2 : (y 2).val < 8 := (y 2).isLt
  have h3 : (y 3).val < 256 := (y 3).isLt
  constructor
  · intro h
    have a := h 0
    have b := h 1
    simp [Shape.size] at a b
    omega
  · rintro ⟨a, b⟩ ax
    fin_cases ax <;> simp [Shape.size] <;> omega

/-- Off the last write, a read after the writes is a read after the earlier ones. -/
theorem read_writes_cons_of_not_mem {sp : Space} {S : Shape} {e : EltTy} (v : View sig .tc sp S e) (f : v.ty.Contents (Elt F))
    (p : View.Piece (Elt F) S e) (L : List (View.Piece (Elt F) S e)) (y : S.Idx) (h : y ∉ p.1.set) :
    v.read (Elt F) (v.writes (Elt F) f (p :: L)) y = v.read (Elt F) (v.writes (Elt F) f L) y := by
  have hy' : y ∉ Finset.univ.map p.1.emb := by rwa [Rect.map_emb_univ]
  rw [View.writes_cons, View.read_slice_write_of_not_mem p.1 _ _ _ hy']

/-- After `k` trips, row `s < k` of the first direction's output is the state after step `s`. -/
theorem loop_fwd_row (f13 : BufTy.Contents (Elt F) arg13.view.ty) (k : ℕ) (hk : k ≤ 256) (y : S2x256x8x256.Idx)
    (h0 : (y 0).val = 0) (hs : (y 1).val < k) :
    arg13.view.read (Elt F) (arg13.view.writes (Elt F) f13 (loopSt c i arg1 harg1 arg2 harg2 arg3 harg3 arg4 harg4 arg5 harg5 arg6 harg6 arg7 harg7 arg8 harg8 arg9 harg9 arg10 harg10 arg11 harg11 arg12 harg12 arg13 harg13 arg14 harg14 v226 v241 v244 v248 X11 X12 init k).2) y
      = (steps (arg11.view.read (Elt F) X11) (arg12.view.read (Elt F) X12) init ((y 1).val + 1)).1 (ix2 (y 2) (y 3)) := by
  induction k with
  | zero => omega
  | succ k ih =>
    have h : k < k0_t1_loop.trips := by rw [trips_eq]; omega
    have e := st_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 v226 v241 v244 v248 X11 X12 init ⟨k, h⟩
    have e1 := loopSt_fst c i arg1 harg1 arg2 harg2 arg3 harg3 arg4 harg4 arg5 harg5 arg6 harg6 arg7 harg7 arg8 harg8 arg9 harg9 arg10 harg10 arg11 harg11 arg12 harg12 arg13 harg13 arg14 harg14 v226 v241 v244 v248 X11 X12 init k (by omega)
    unfold loopSt at ih e1 ⊢
    rw [e, trip_stores, e1]
    rw [List.cons_append, read_writes_cons_of_not_mem _ _ _ _ _ (by
      show y ∉ (Rect.unit (s := S2x256x8x256) (k0_off8 ⟨k, h⟩) S1x1x8x256.size (k0_off8_inb ⟨k, h⟩)).set
      rw [mem_off8]; omega)]
    by_cases hk' : (y 1).val = k
    · have hy : y = (Rect.unit (s := S2x256x8x256) (k0_off7 ⟨k, h⟩) S1x1x8x256.size (k0_off7_inb ⟨k, h⟩)).emb (ix4 0 0 (y 2) (y 3)) := by
        funext a
        apply Fin.ext
        have hf := congrFun (off7_facts ⟨k, h⟩) a
        show (y a).val = k0_off7 ⟨k, h⟩ a + 1 * ((ix4 (0 : Fin 1) (0 : Fin 1) (y 2) (y 3)) a).val
        rw [hf]
        fin_cases a
        · exact h0
        · exact hk'
        · show (y 2).val = 0 + 1 * (y 2).val; omega
        · show (y 3).val = 0 + 1 * (y 3).val; omega
      rw [hk', steps, dif_pos h]
      conv_lhs => rw [hy]
      rw [List.cons_append, View.read_writes_cons_emb]
      pointwise [k0_pay33]
      rfl
    · rw [List.cons_append, read_writes_cons_of_not_mem _ _ _ _ _ (by
        show y ∉ (Rect.unit (s := S2x256x8x256) (k0_off7 ⟨k, h⟩) S1x1x8x256.size (k0_off7_inb ⟨k, h⟩)).set
        rw [mem_off7]; intro hh; exact hk' hh.2)]
      exact ih (by omega) (by omega)

/-- After `k` trips, row `s ≥ 256 - k` of the second direction's output is the state after step `255 - s`. -/
theorem loop_bwd_row (f13 : BufTy.Contents (Elt F) arg13.view.ty) (k : ℕ) (hk : k ≤ 256) (y : S2x256x8x256.Idx)
    (h0 : (y 0).val = 1) (hs : 255 - (y 1).val < k) :
    arg13.view.read (Elt F) (arg13.view.writes (Elt F) f13 (loopSt c i arg1 harg1 arg2 harg2 arg3 harg3 arg4 harg4 arg5 harg5 arg6 harg6 arg7 harg7 arg8 harg8 arg9 harg9 arg10 harg10 arg11 harg11 arg12 harg12 arg13 harg13 arg14 harg14 v226 v241 v244 v248 X11 X12 init k).2) y
      = (steps (arg11.view.read (Elt F) X11) (arg12.view.read (Elt F) X12) init (255 - (y 1).val + 1)).2 (ix2 (y 2) (y 3)) := by
  induction k with
  | zero => omega
  | succ k ih =>
    have h : k < k0_t1_loop.trips := by rw [trips_eq]; omega
    have h1 : (y 1).val < 256 := (y 1).isLt
    have e := st_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 v226 v241 v244 v248 X11 X12 init ⟨k, h⟩
    have e1 := loopSt_fst c i arg1 harg1 arg2 harg2 arg3 harg3 arg4 harg4 arg5 harg5 arg6 harg6 arg7 harg7 arg8 harg8 arg9 harg9 arg10 harg10 arg11 harg11 arg12 harg12 arg13 harg13 arg14 harg14 v226 v241 v244 v248 X11 X12 init k (by omega)
    unfold loopSt at ih e1 ⊢
    rw [e, trip_stores, e1]
    by_cases hk' : 255 - (y 1).val = k
    · have hy : y = (Rect.unit (s := S2x256x8x256) (k0_off8 ⟨k, h⟩) S1x1x8x256.size (k0_off8_inb ⟨k, h⟩)).emb (ix4 0 0 (y 2) (y 3)) := by
        funext a
        apply Fin.ext
        have hf := congrFun (off8_facts ⟨k, h⟩) a
        show (y a).val = k0_off8 ⟨k, h⟩ a + 1 * ((ix4 (0 : Fin 1) (0 : Fin 1) (y 2) (y 3)) a).val
        rw [hf]
        fin_cases a
        · exact h0
        · show (y 1).val = 255 - k + 1 * 0; omega
        · show (y 2).val = 0 + 1 * (y 2).val; omega
        · show (y 3).val = 0 + 1 * (y 3).val; omega
      rw [hk', steps, dif_pos h]
      conv_lhs => rw [hy]
      rw [List.cons_append, View.read_writes_cons_emb]
      pointwise [k0_pay35]
      rfl
    · rw [List.cons_append, read_writes_cons_of_not_mem _ _ _ _ _ (by
        show y ∉ (Rect.unit (s := S2x256x8x256) (k0_off8 ⟨k, h⟩) S1x1x8x256.size (k0_off8_inb ⟨k, h⟩)).set
        rw [mem_off8]; intro hh; apply hk'; have := hh.2; simp at this; omega)]
      rw [List.cons_append, read_writes_cons_of_not_mem _ _ _ _ _ (by
        show y ∉ (Rect.unit (s := S2x256x8x256) (k0_off7 ⟨k, h⟩) S1x1x8x256.size (k0_off7_inb ⟨k, h⟩)).set
        rw [mem_off7]; intro hh; have := hh.1; omega)]
      exact ih (by omega) (by omega)

end Loop

end Cert.KernelIdeal.Rg

end
-- ==== Proof.RgTile.lean ====
module

public import proofs.«01_k».proof.Proof.RgRun
public import proofs.«01_k».proof.Proof.RgLoop

@[expose] public section

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One tile of the recurrence, from the blocks it reads -/

/-- The first row of the tile the first direction visits. -/
def row0 (i : grid0.Coords) : BitVec 32 := Scalar.muli (BitVec.ofNat 32 (i 0).val) 256#32

/-- The first row of the tile the second direction visits. -/
def row1 (i : grid0.Coords) : BitVec 32 := Scalar.muli (Scalar.subi 7#32 (BitVec.ofNat 32 (i 0).val)) 256#32

/-- What is stored of the first direction's rows and of the three rows around them. -/
def pieces0 (i : grid0.Coords) (x1 : Vec F S2048x8x256 .f32) : List (View.Piece (Elt F) S259x8x256 .f32) :=
  [⟨Rect.unit ![258, 0, 0] S1x8x256.size inb_S259x8x256_S1x8x256_258_0_0, k0_pay9 (row0 i) (View.ld x1 (Rect.unit (s := S2048x8x256) (k0_off3 i 1#32) S1x8x256.size (k0_off3_inb i 1)))⟩,
    ⟨Rect.unit ![257, 0, 0] S1x8x256.size inb_S259x8x256_S1x8x256_257_0_0, k0_pay8 (row0 i) (View.ld x1 (Rect.unit (s := S2048x8x256) (k0_off3 i 0#32) S1x8x256.size (k0_off3_inb i 0)))⟩,
    ⟨Rect.unit ![0, 0, 0] S1x8x256.size inb_S259x8x256_S1x8x256_0_0_0, k0_pay7 (k0_pay6 (View.ld x1 (Rect.unit (s := S2048x8x256) (k0_off2 i) S1x8x256.size (k0_off2_inb i)))) (Scalar.cmpi .sge (Scalar.addi (Scalar.subi (row0 i) 1#32) 0#32) 0#32)⟩,
    ⟨Rect.unit ![1, 0, 0] S256x8x256.size inb_S259x8x256_S256x8x256_1_0_0, k0_pay5 (View.ld x1 (Rect.unit (s := S2048x8x256) (k0_off1 i) S256x8x256.size (k0_off1_inb i)))⟩]

/-- What is stored of the second direction's rows and of the three rows around them. -/
def pieces1 (i : grid0.Coords) (x1 : Vec F S2048x8x256 .f32) : List (View.Piece (Elt F) S259x8x256 .f32) :=
  ⟨Rect.unit ![258, 0, 0] S1x8x256.size inb_S259x8x256_S1x8x256_258_0_0, k0_pay20 (Scalar.addi (Scalar.addi (row1 i) 256#32) 1#32) (View.ld x1 (Rect.unit (s := S2048x8x256) (k0_off6 i 1#32) S1x8x256.size (k0_off6_inb i 1)))⟩ ::
    ⟨Rect.unit ![257, 0, 0] S1x8x256.size inb_S259x8x256_S1x8x256_257_0_0, k0_pay19 (row1 i) (View.ld x1 (Rect.unit (s := S2048x8x256) (k0_off6 i 0#32) S1x8x256.size (k0_off6_inb i 0)))⟩ ::
    ⟨Rect.unit ![0, 0, 0] S1x8x256.size inb_S259x8x256_S1x8x256_0_0_0, k0_pay18 (row1 i) (View.ld x1 (Rect.unit (s := S2048x8x256) (k0_off5 i) S1x8x256.size (k0_off5_inb i)))⟩ ::
    ⟨Rect.unit ![1, 0, 0] S256x8x256.size inb_S259x8x256_S256x8x256_1_0_0, k0_pay17 (k0_pay16 (View.ld x1 (Rect.unit (s := S2048x8x256) (k0_off4 i) S256x8x256.size (k0_off4_inb i))))⟩ ::
    pieces0 i x1

/-- The first direction's rows with the rows around them. -/
def padded0 (i : grid0.Coords) (x1 : Vec F S2048x8x256 .f32) : Vec F S259x8x256 .f32 := View.canon (Val := Elt F) (pieces0 i x1)

/-- The second direction's rows with the rows around them. -/
def padded1 (i : grid0.Coords) (x1 : Vec F S2048x8x256 .f32) : Vec F S259x8x256 .f32 := View.canon (Val := Elt F) (pieces1 i x1)

/-- The scaled softplus of the two directions' decay parameters. -/
def rate (x5 : Vec F S1x2x256 .f32) : FVec F S2x256 .f32 := k0_pay4 (View.ld x5 (Rect.unit (s := S1x2x256) ![0, 0, 0] S1x2x256.size inb_S1x2x256_S1x2x256_0_0_0))

/-- The first direction's convolved rows. -/
def conv0 (i : grid0.Coords) (x1 : Vec F S2048x8x256 .f32) (x2 : Vec F S1x4x256 .f32) : FVec F S256x8x256 .f32 :=
  k0_pay10 (View.ld x2 (Rect.unit (s := S1x4x256) ![0, 0, 0] S1x1x256.size inb_S1x4x256_S1x1x256_0_0_0)) (View.ld (padded0 i x1) (Rect.unit (s := S259x8x256) ![0, 0, 0] S256x8x256.size inb_S259x8x256_S256x8x256_0_0_0)) (View.ld x2 (Rect.unit (s := S1x4x256) ![0, 1, 0] S1x1x256.size inb_S1x4x256_S1x1x256_0_1_0)) (View.ld (padded0 i x1) (Rect.unit (s := S259x8x256) ![1, 0, 0] S256x8x256.size inb_S259x8x256_S256x8x256_1_0_0)) (View.ld x2 (Rect.unit (s := S1x4x256) ![0, 2, 0] S1x1x256.size inb_S1x4x256_S1x1x256_0_2_0)) (View.ld (padded0 i x1) (Rect.unit (s := S259x8x256) ![2, 0, 0] S256x8x256.size inb_S259x8x256_S256x8x256_2_0_0)) (View.ld x2 (Rect.unit (s := S1x4x256) ![0, 3, 0] S1x1x256.size inb_S1x4x256_S1x1x256_0_3_0)) (View.ld (padded0 i x1) (Rect.unit (s := S259x8x256) ![3, 0, 0] S256x8x256.size inb_S259x8x256_S256x8x256_3_0_0))

/-- The first direction's convolved rows times the gate weights. -/
def proj0 (i : grid0.Coords) (x1 : Vec F S2048x8x256 .f32) (x2 : Vec F S1x4x256 .f32) (x3 : Vec F S1x256x1024 .bf16) : FVec F S2048x512 .f32 :=
  k0_pay11 (View.ld x2 (Rect.unit (s := S1x4x256) ![0, 0, 0] S1x1x256.size inb_S1x4x256_S1x1x256_0_0_0)) (View.ld (padded0 i x1) (Rect.unit (s := S259x8x256) ![0, 0, 0] S256x8x256.size inb_S259x8x256_S256x8x256_0_0_0)) (View.ld x2 (Rect.unit (s := S1x4x256) ![0, 1, 0] S1x1x256.size inb_S1x4x256_S1x1x256_0_1_0)) (View.ld (padded0 i x1) (Rect.unit (s := S259x8x256) ![1, 0, 0] S256x8x256.size inb_S259x8x256_S256x8x256_1_0_0)) (View.ld x2 (Rect.unit (s := S1x4x256) ![0, 2, 0] S1x1x256.size inb_S1x4x256_S1x1x256_0_2_0)) (View.ld (padded0 i x1) (Rect.unit (s := S259x8x256) ![2, 0, 0] S256x8x256.size inb_S259x8x256_S256x8x256_2_0_0)) (View.ld x2 (Rect.unit (s := S1x4x256) ![0, 3, 0] S1x1x256.size inb_S1x4x256_S1x1x256_0_3_0)) (View.ld (padded0 i x1) (Rect.unit (s := S259x8x256) ![3, 0, 0] S256x8x256.size inb_S259x8x256_S256x8x256_3_0_0)) (View.ld x3 (Rect.unit (s := S1x256x1024) ![0, 0, 0] S1x256x512.size inb_S1x256x1024_S1x256x512_0_0_0))

/-- Three taps of the second direction's convolution. -/
def taps1 (i : grid0.Coords) (x1 : Vec F S2048x8x256 .f32) (x2 : Vec F S1x4x256 .f32) : FVec F S256x8x256 .f32 :=
  k0_pay21 (View.ld x2 (Rect.unit (s := S1x4x256) ![0, 0, 0] S1x1x256.size inb_S1x4x256_S1x1x256_0_0_0)) (View.ld (padded1 i x1) (Rect.unit (s := S259x8x256) ![0, 0, 0] S256x8x256.size inb_S259x8x256_S256x8x256_0_0_0)) (View.ld x2 (Rect.unit (s := S1x4x256) ![0, 1, 0] S1x1x256.size inb_S1x4x256_S1x1x256_0_1_0)) (View.ld (padded1 i x1) (Rect.unit (s := S259x8x256) ![1, 0, 0] S256x8x256.size inb_S259x8x256_S256x8x256_1_0_0)) (View.ld x2 (Rect.unit (s := S1x4x256) ![0, 2, 0] S1x1x256.size inb_S1x4x256_S1x1x256_0_2_0)) (View.ld (padded1 i x1) (Rect.unit (s := S259x8x256) ![2, 0, 0] S256x8x256.size inb_S259x8x256_S256x8x256_2_0_0))

/-- The two directions' decays in a tile. -/
def decays (i : grid0.Coords) (x1 : Vec F S2048x8x256 .f32) (x2 : Vec F S1x4x256 .f32) (x3 : Vec F S1x256x1024 .bf16) (x4 : Vec F S1x1x1024 .f32) (x5 : Vec F S1x2x256 .f32) : Vec F S2x256x8x256 .f32 :=
  View.canon (Val := Elt F) [⟨Rect.unit ![1, 0, 0, 0] S1x256x8x256.size inb_S2x256x8x256_S1x256x8x256_1_0_0_0,
      k0_pay28 (rate x5) (taps1 i x1 x2) (View.ld x2 (Rect.unit (s := S1x4x256) ![0, 3, 0] S1x1x256.size inb_S1x4x256_S1x1x256_0_3_0)) (View.ld (padded1 i x1) (Rect.unit (s := S259x8x256) ![3, 0, 0] S256x8x256.size inb_S259x8x256_S256x8x256_3_0_0)) (View.ld x3 (Rect.unit (s := S1x256x1024) ![0, 0, 512] S1x256x512.size inb_S1x256x1024_S1x256x512_0_0_512)) (View.ld x4 (Rect.unit (s := S1x1x1024) ![0, 0, 512] S1x1x512.size inb_S1x1x1024_S1x1x512_0_0_512))⟩,
    ⟨Rect.unit ![0, 0, 0, 0] S1x256x8x256.size inb_S2x256x8x256_S1x256x8x256_0_0_0_0,
      k0_pay14 (rate x5) (proj0 i x1 x2 x3) (View.ld x4 (Rect.unit (s := S1x1x1024) ![0, 0, 0] S1x1x512.size inb_S1x1x1024_S1x1x512_0_0_0))⟩]

/-- The two directions' inputs in a tile. -/
def inputs (i : grid0.Coords) (x1 : Vec F S2048x8x256 .f32) (x2 : Vec F S1x4x256 .f32) (x3 : Vec F S1x256x1024 .bf16) (x4 : Vec F S1x1x1024 .f32) (x5 : Vec F S1x2x256 .f32) : Vec F S2x256x8x256 .f32 :=
  View.canon (Val := Elt F) [⟨Rect.unit ![1, 0, 0, 0] S1x256x8x256.size inb_S2x256x8x256_S1x256x8x256_1_0_0_0,
      k0_pay29 (k0_pay24 (taps1 i x1 x2) (View.ld x2 (Rect.unit (s := S1x4x256) ![0, 3, 0] S1x1x256.size inb_S1x4x256_S1x1x256_0_3_0)) (View.ld (padded1 i x1) (Rect.unit (s := S259x8x256) ![3, 0, 0] S256x8x256.size inb_S259x8x256_S256x8x256_3_0_0)) (View.ld x3 (Rect.unit (s := S1x256x1024) ![0, 0, 512] S1x256x512.size inb_S1x256x1024_S1x256x512_0_0_512)) (View.ld x4 (Rect.unit (s := S1x1x1024) ![0, 0, 512] S1x1x512.size inb_S1x1x1024_S1x1x512_0_0_512)))
        (k0_pay26 (rate x5) (taps1 i x1 x2) (View.ld x2 (Rect.unit (s := S1x4x256) ![0, 3, 0] S1x1x256.size inb_S1x4x256_S1x1x256_0_3_0)) (View.ld (padded1 i x1) (Rect.unit (s := S259x8x256) ![3, 0, 0] S256x8x256.size inb_S259x8x256_S256x8x256_3_0_0)) (View.ld x3 (Rect.unit (s := S1x256x1024) ![0, 0, 512] S1x256x512.size inb_S1x256x1024_S1x256x512_0_0_512)) (View.ld x4 (Rect.unit (s := S1x1x1024) ![0, 0, 512] S1x1x512.size inb_S1x1x1024_S1x1x512_0_0_512)))
        (k0_pay27 (taps1 i x1 x2) (View.ld x2 (Rect.unit (s := S1x4x256) ![0, 3, 0] S1x1x256.size inb_S1x4x256_S1x1x256_0_3_0)) (View.ld (padded1 i x1) (Rect.unit (s := S259x8x256) ![3, 0, 0] S256x8x256.size inb_S259x8x256_S256x8x256_3_0_0)))⟩,
    ⟨Rect.unit ![0, 0, 0, 0] S1x256x8x256.size inb_S2x256x8x256_S1x256x8x256_0_0_0_0,
      k0_pay15 (rate x5) (conv0 i x1 x2) (proj0 i x1 x2 x3) (View.ld x4 (Rect.unit (s := S1x1x1024) ![0, 0, 0] S1x1x512.size inb_S1x1x1024_S1x1x512_0_0_0))⟩]

/-- The pair of states held in a stack of two. -/
def unstack (h : Vec F S2x8x256 .f32) : FVec F S8x256 .f32 × FVec F S8x256 .f32 :=
  (k0_pay30 (View.ld h (Rect.unit (s := S2x8x256) ![0, 0, 0] S1x8x256.size inb_S2x8x256_S1x8x256_0_0_0)),
    k0_pay31 (View.ld h (Rect.unit (s := S2x8x256) ![1, 0, 0] S1x8x256.size inb_S2x8x256_S1x8x256_1_0_0)))

/-- A stack of two holding a pair of states. -/
def stack (p : FVec F S8x256 .f32 × FVec F S8x256 .f32) : Vec F S2x8x256 .f32 :=
  View.canon (Val := Elt F) [⟨Rect.unit ![1, 0, 0] S1x8x256.size inb_S2x8x256_S1x8x256_1_0_0, k0_pay37 p.2⟩,
    ⟨Rect.unit ![0, 0, 0] S1x8x256.size inb_S2x8x256_S1x8x256_0_0_0, k0_pay36 p.1⟩]

/-- The states the tile's steps pass through, from the states `h` at its entry. -/
abbrev tileSteps (i : grid0.Coords) (x1 : Vec F S2048x8x256 .f32) (x2 : Vec F S1x4x256 .f32) (x3 : Vec F S1x256x1024 .bf16) (x4 : Vec F S1x1x1024 .f32) (x5 : Vec F S1x2x256 .f32) (h : Vec F S2x8x256 .f32) : ℕ → FVec F S8x256 .f32 × FVec F S8x256 .f32 :=
  steps (decays i x1 x2 x3 x4 x5) (inputs i x1 x2 x3 x4 x5) (unstack h)

/-- The first direction's block of the outputs. -/
def tileOut0 (i : grid0.Coords) (x1 : Vec F S2048x8x256 .f32) (x2 : Vec F S1x4x256 .f32) (x3 : Vec F S1x256x1024 .bf16) (x4 : Vec F S1x1x1024 .f32) (x5 : Vec F S1x2x256 .f32) (h : Vec F S2x8x256 .f32) : Vec F S32x8x8x256 .f32 :=
  k0_pay1 fun y => (tileSteps i x1 x2 x3 x4 x5 h ((y 1).val + 1)).1 (ix2 (y 2) (y 3))

/-- The second direction's block of the outputs. -/
def tileOut1 (i : grid0.Coords) (x1 : Vec F S2048x8x256 .f32) (x2 : Vec F S1x4x256 .f32) (x3 : Vec F S1x256x1024 .bf16) (x4 : Vec F S1x1x1024 .f32) (x5 : Vec F S1x2x256 .f32) (h : Vec F S2x8x256 .f32) : Vec F S32x8x8x256 .f32 :=
  k0_pay2 fun y => (tileSteps i x1 x2 x3 x4 x5 h (255 - (y 1).val + 1)).2 (ix2 (y 2) (y 3))

/-- The states at the tile's end. -/
def tileEnd (i : grid0.Coords) (x1 : Vec F S2048x8x256 .f32) (x2 : Vec F S1x4x256 .f32) (x3 : Vec F S1x256x1024 .bf16) (x4 : Vec F S1x1x1024 .f32) (x5 : Vec F S1x2x256 .f32) (h : Vec F S2x8x256 .f32) : Vec F S2x8x256 .f32 :=
  stack (tileSteps i x1 x2 x3 x4 x5 h 256)

end Cert.KernelIdeal.Rg

end
-- ==== Proof.RgOut.lean ====
module

public import proofs.«01_k».proof.Proof.RgTile
public import Idealize.ShloMosaic.Lib.WholeRead

@[expose] public section

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem readAt_unread_fun {sp : Space} {S : Shape} {e : EltTy} {m : Memref sig .tc sp S e} (h : m.IsWhole) (X : S.Idx → Elt F e) (B : LoadRect S) :
    View.readAt (Elt F) m.view B (h.unread X) = fun x => X (B.idx x) := funext fun x => h.readAt_unread X B x

/-- A read after one write of a whole block is the block. -/
theorem read_block_write {sp : Space} {e : EltTy} (v : View sig .tc sp S32x8x8x256 e) (f : v.ty.Contents (Elt F)) (w : S32x8x8x256.Idx → Elt F e) :
    v.read (Elt F) (v.writes (Elt F) f [⟨Rect.unit ![0, 0, 0, 0] ![32, 8, 8, 256] inb_S32x8x8x256_S32x8x8x256_0_0_0_0, w⟩]) = w := by
  funext y
  have e : (Rect.unit (s := S32x8x8x256) ![0, 0, 0, 0] ![32, 8, 8, 256] inb_S32x8x8x256_S32x8x8x256_0_0_0_0).emb y = y := by
    funext a; apply Fin.ext
    fin_cases a
    · show 0 + 1 * (y 0).val = (y 0).val; omega
    · show 0 + 1 * (y 1).val = (y 1).val; omega
    · show 0 + 1 * (y 2).val = (y 2).val; omega
    · show 0 + 1 * (y 3).val = (y 3).val; omega
  conv_lhs => rw [← e]
  rw [View.read_writes_cons_emb]

/-- A read after the writes of both halves of a stack is the stack. -/
theorem read_stack_write {sp : Space} (v : View sig .tc sp S2x8x256 .f32) (f : v.ty.Contents (Elt F)) (p q : FVec F S8x256 .f32) :
    v.read (Elt F) (v.writes (Elt F) f [⟨Rect.unit ![1, 0, 0] S1x8x256.size inb_S2x8x256_S1x8x256_1_0_0, k0_pay37 q⟩,
      ⟨Rect.unit ![0, 0, 0] S1x8x256.size inb_S2x8x256_S1x8x256_0_0_0, k0_pay36 p⟩]) = stack (p, q) := by
  unfold stack
  funext y
  apply View.read_writes_apply_eq_canon
  have h0 : (y 0).val < 2 := (y 0).isLt
  have h1 : (y 1).val < 8 := (y 1).isLt
  have h2 : (y 2).val < 256 := (y 2).isLt
  by_cases h : (y 0).val = 1
  · refine ⟨_, List.mem_cons_self, ?_⟩
    rw [Rect.mem_set_unit]
    intro a; fin_cases a
    · show 1 ≤ (y 0).val ∧ (y 0).val < 1 + 1; omega
    · show 0 ≤ (y 1).val ∧ (y 1).val < 0 + 8; omega
    · show 0 ≤ (y 2).val ∧ (y 2).val < 0 + 256; omega
  · refine ⟨_, List.mem_cons_of_mem _ List.mem_cons_self, ?_⟩
    rw [Rect.mem_set_unit]
    intro a; fin_cases a
    · show 0 ≤ (y 0).val ∧ (y 0).val < 0 + 1; omega
    · show 0 ≤ (y 1).val ∧ (y 1).val < 0 + 8; omega
    · show 0 ≤ (y 2).val ∧ (y 2).val < 0 + 256; omega

theorem idx_fwd (y : S1x256x8x256.Idx) :
    (Rect.unit (s := S2x256x8x256) ![0, 0, 0, 0] ![1, 256, 8, 256] inb_S2x256x8x256_S1x256x8x256_0_0_0_0).toLoadRect.idx y
      = ix4 (0 : Fin 2) (y 1) (y 2) (y 3) := by
  have h0 : (y 0).val < 1 := (y 0).isLt
  funext a; apply Fin.ext; fin_cases a
  · show 0 + 1 * (y 0).val = 0; omega
  · show 0 + 1 * (y 1).val = (y 1).val; omega
  · show 0 + 1 * (y 2).val = (y 2).val; omega
  · show 0 + 1 * (y 3).val = (y 3).val; omega

theorem idx_bwd (y : S1x256x8x256.Idx) :
    (Rect.unit (s := S2x256x8x256) ![1, 0, 0, 0] ![1, 256, 8, 256] inb_S2x256x8x256_S1x256x8x256_1_0_0_0).toLoadRect.idx y
      = ix4 (1 : Fin 2) (y 1) (y 2) (y 3) := by
  have h0 : (y 0).val < 1 := (y 0).isLt
  funext a; apply Fin.ext; fin_cases a
  · show 1 + 1 * (y 0).val = 1; omega
  · show 0 + 1 * (y 1).val = (y 1).val; omega
  · show 0 + 1 * (y 2).val = (y 2).val; omega
  · show 0 + 1 * (y 3).val = (y 3).val; omega

theorem idx_stack (y : S2x8x256.Idx) :
    (Rect.unit (s := S2x8x256) ![0, 0, 0] ![2, 8, 256] inb_S2x8x256_S2x8x256_0_0_0).toLoadRect.idx y = y := by
  funext a; apply Fin.ext; fin_cases a
  · show 0 + 1 * (y 0).val = (y 0).val; omega
  · show 0 + 1 * (y 1).val = (y 1).val; omega
  · show 0 + 1 * (y 2).val = (y 2).val; omega

theorem canon_stack (w : Vec F S2x8x256 .f32) :
    View.canon (Val := Elt F) [⟨Rect.unit (s := S2x8x256) ![0, 0, 0] ![2, 8, 256] inb_S2x8x256_S2x8x256_0_0_0, w⟩] = w := by
  funext y
  have e := View.canon_cons_emb (Val := Elt F) (Rect.unit (s := S2x8x256) ![0, 0, 0] ![2, 8, 256] inb_S2x8x256_S2x8x256_0_0_0) w [] y
  rwa [show (Rect.unit (s := S2x8x256) ![0, 0, 0] ![2, 8, 256] inb_S2x8x256_S2x8x256_0_0_0).emb y = y from idx_stack y] at e

/-- The same read when earlier writes lie under the two halves. -/
theorem read_stack_write_over {sp : Space} (v : View sig .tc sp S2x8x256 .f32) (f : v.ty.Contents (Elt F)) (p q : FVec F S8x256 .f32) (L : List (View.Piece (Elt F) S2x8x256 .f32)) :
    v.read (Elt F) (v.writes (Elt F) f (⟨Rect.unit ![1, 0, 0] S1x8x256.size inb_S2x8x256_S1x8x256_1_0_0, k0_pay37 q⟩ ::
      ⟨Rect.unit ![0, 0, 0] S1x8x256.size inb_S2x8x256_S1x8x256_0_0_0, k0_pay36 p⟩ :: L)) = stack (p, q) := by
  rw [← read_stack_write v (v.writes (Elt F) f L) p q]
  simp only [View.writes_cons, View.writes_nil]

section Run

variable (c : Dev nD) (i : grid0.Coords)
  (arg1 : Memref sig .tc .vmem S2048x8x256 .f32) (harg1 : arg1.IsWhole) (arg2 : Memref sig .tc .vmem S1x4x256 .f32) (harg2 : arg2.IsWhole) (arg3 : Memref sig .tc .vmem S1x256x1024 .bf16) (harg3 : arg3.IsWhole) (arg4 : Memref sig .tc .vmem S1x1x1024 .f32) (harg4 : arg4.IsWhole) (arg5 : Memref sig .tc .vmem S1x2x256 .f32) (harg5 : arg5.IsWhole) (arg6 : Memref sig .tc .vmem S2x8x256 .f32) (harg6 : arg6.IsWhole) (arg7 : Memref sig .tc .vmem S32x8x8x256 .f32) (harg7 : arg7.IsWhole) (arg8 : Memref sig .tc .vmem S32x8x8x256 .f32) (harg8 : arg8.IsWhole) (arg9 : Memref sig .tc .vmem S2x8x256 .f32) (harg9 : arg9.IsWhole) (arg10 : Memref sig .tc .vmem S259x8x256 .f32) (harg10 : arg10.IsWhole) (arg11 : Memref sig .tc .vmem S2x256x8x256 .f32) (harg11 : arg11.IsWhole) (arg12 : Memref sig .tc .vmem S2x256x8x256 .f32) (harg12 : arg12.IsWhole) (arg13 : Memref sig .tc .vmem S2x256x8x256 .f32) (harg13 : arg13.IsWhole) (arg14 : Memref sig .tc .vmem S2x8x256 .f32) (harg14 : arg14.IsWhole)
  (x1 : Vec F S2048x8x256 .f32) (x2 : Vec F S1x4x256 .f32) (x3 : Vec F S1x256x1024 .bf16) (x4 : Vec F S1x1x1024 .f32) (x5 : Vec F S1x2x256 .f32) (x6 : Vec F S2x8x256 .f32)
  (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)

section Runlater

variable (hc : ¬ (Scalar.cmpi .ne (Scalar.extui (Scalar.cmpi .eq (BitVec.ofNat 32 (i 0).val) 0#32)) 0#32 = (1#1 : BitVec 1)))

theorem runLater_pieces0 : runLater.sl.H10_4 i arg1 harg1 x1 = pieces0 i x1 := by
  unfold runLater.sl.H10_4 runLater.sl.r_1
  simp only [readAt_unread_fun]
  rfl

theorem runLater_pieces1 : runLater.sl.H10_8 i arg1 harg1 x1 = pieces1 i x1 := by
  unfold runLater.sl.H10_8 runLater.sl.r_4
  rw [runLater_pieces0]
  simp only [readAt_unread_fun]
  rfl

theorem runLater_rate : runLater.sl.r arg5 harg5 x5 = rate x5 := by
  unfold runLater.sl.r
  simp only [readAt_unread_fun]
  rfl

theorem runLater_conv0 : runLater.sl.r_2 i arg1 harg1 arg2 harg2 arg10 x1 x2 = conv0 i x1 x2 := by
  unfold runLater.sl.r_2 runLater.sl.v71 runLater.sl.v77 runLater.sl.v84 runLater.sl.v91
  simp only [readAt_unread_fun, View.readCov_eq_canon', runLater_pieces0]
  rfl

theorem runLater_proj0 : runLater.sl.r_3 i arg1 harg1 arg2 harg2 arg3 harg3 arg10 x1 x2 x3 = proj0 i x1 x2 x3 := by
  unfold runLater.sl.r_3 runLater.sl.v71 runLater.sl.v77 runLater.sl.v84 runLater.sl.v91
  simp only [readAt_unread_fun, View.readCov_eq_canon', runLater_pieces0]
  rfl

theorem runLater_taps1 : runLater.sl.r_5 i arg1 harg1 arg2 harg2 arg10 x1 x2 = taps1 i x1 x2 := by
  unfold runLater.sl.r_5 runLater.sl.v189 runLater.sl.v195 runLater.sl.v202
  simp only [readAt_unread_fun, View.readCov_eq_canon', runLater_pieces1]
  rfl

theorem runLater_decays : View.canon (runLater.sl.H11_2 i arg1 harg1 arg2 harg2 arg3 harg3 arg4 harg4 arg5 harg5 arg10 x1 x2 x3 x4 x5) = decays i x1 x2 x3 x4 x5 := by
  unfold runLater.sl.H11_2 runLater.sl.r_9 runLater.sl.v209
  simp only [readAt_unread_fun, View.readCov_eq_canon', runLater_pieces1, runLater_rate, runLater_taps1, runLater_proj0]
  rfl

theorem runLater_inputs : View.canon (runLater.sl.H12_2 i arg1 harg1 arg2 harg2 arg3 harg3 arg4 harg4 arg5 harg5 arg10 x1 x2 x3 x4 x5) = inputs i x1 x2 x3 x4 x5 := by
  unfold runLater.sl.H12_2 runLater.sl.r_6 runLater.sl.r_7 runLater.sl.r_8 runLater.sl.v209
  simp only [readAt_unread_fun, View.readCov_eq_canon', runLater_pieces1, runLater_rate, runLater_taps1, runLater_proj0, runLater_conv0]
  rfl

theorem runLater_out0 : arg7.view.read (Elt F) (runLater c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc).1 = tileOut0 i x1 x2 x3 x4 x5 (arg14.view.read (Elt F) f14) := by
  unfold runLater
  dsimp only
  rw [read_block_write]
  unfold tileOut0 runLater.sl.v274
  refine congrArg k0_pay1 ?_
  funext y
  have h0 : (y 0).val < 1 := (y 0).isLt
  rw [View.readAt_apply, idx_fwd y]
  refine (loop_fwd_row _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ 256 le_rfl _ rfl (y 1).isLt).trans ?_
  rw [View.read_writes_junk_eq_canon, View.read_writes_junk_eq_canon, runLater_decays, runLater_inputs]
  rfl

theorem runLater_out1 : arg8.view.read (Elt F) (runLater c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc).2.1 = tileOut1 i x1 x2 x3 x4 x5 (arg14.view.read (Elt F) f14) := by
  unfold runLater
  dsimp only
  rw [read_block_write]
  unfold tileOut1 runLater.sl.v279
  refine congrArg k0_pay2 ?_
  funext y
  rw [View.readAt_apply, idx_bwd y]
  refine (loop_bwd_row _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ 256 le_rfl _ rfl (by show 255 - (y 1).val < 256; omega)).trans ?_
  rw [View.read_writes_junk_eq_canon, View.read_writes_junk_eq_canon, runLater_decays, runLater_inputs]
  rfl

theorem runLater_end : arg9.view.read (Elt F) (runLater c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc).2.2.1 = tileEnd i x1 x2 x3 x4 x5 (arg14.view.read (Elt F) f14) := by
  unfold runLater
  dsimp only
  refine (read_stack_write arg9.view f9 _ _).trans ?_
  unfold tileEnd
  have e := loopSt_fst c i arg1 harg1 arg2 harg2 arg3 harg3 arg4 harg4 arg5 harg5 arg6 harg6 arg7 harg7 arg8 harg8 arg9 harg9 arg10 harg10 arg11 harg11 arg12 harg12 arg13 harg13 arg14 harg14 (runLater.sl.r_6 i arg1 harg1 arg2 harg2 arg3 harg3 arg4 harg4 arg10 x1 x2 x3 x4) (runLater.sl.r_7 i arg1 harg1 arg2 harg2 arg3 harg3 arg4 harg4 arg5 harg5 arg10 x1 x2 x3 x4 x5) (runLater.sl.r_8 i arg1 harg1 arg2 harg2 arg10 x1 x2) (runLater.sl.r_9 i arg1 harg1 arg2 harg2 arg3 harg3 arg4 harg4 arg5 harg5 arg10 x1 x2 x3 x4 x5) (arg11.view.writes (Elt F) arg11.view.junk (runLater.sl.H11_2 i arg1 harg1 arg2 harg2 arg3 harg3 arg4 harg4 arg5 harg5 arg10 x1 x2 x3 x4 x5)) (arg12.view.writes (Elt F) arg12.view.junk (runLater.sl.H12_2 i arg1 harg1 arg2 harg2 arg3 harg3 arg4 harg4 arg5 harg5 arg10 x1 x2 x3 x4 x5)) (k0_pay30 (View.readAt (Elt F) arg14.view (Rect.unit (s := S2x8x256) ![0, 0, 0] S1x8x256.size inb_S2x8x256_S1x8x256_0_0_0).toLoadRect f14), k0_pay31 (View.readAt (Elt F) arg14.view (Rect.unit (s := S2x8x256) ![1, 0, 0] S1x8x256.size inb_S2x8x256_S1x8x256_1_0_0).toLoadRect f14)) 256 le_rfl
  rw [View.read_writes_junk_eq_canon, View.read_writes_junk_eq_canon, runLater_decays, runLater_inputs] at e
  exact congrArg stack e

theorem runLater_carry : arg14.view.read (Elt F) (runLater c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc).2.2.2.1 = tileEnd i x1 x2 x3 x4 x5 (arg14.view.read (Elt F) f14) := by
  refine Eq.trans ?_ (runLater_end c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc)
  unfold runLater
  dsimp only
  exact (read_stack_write arg14.view _ _ _).trans (read_stack_write arg9.view f9 _ _).symm

end Runlater

theorem runFirst_init : (k0_pay30 (runFirst.sl.v256 arg6 harg6 arg14 x6), k0_pay31 (runFirst.sl.v258 arg6 harg6 arg14 x6)) = unstack x6 := by
  unfold runFirst.sl.v256 runFirst.sl.v258 runFirst.sl.H14_1
  simp only [readAt_unread_fun, View.readCov_eq_canon', canon_stack]
  unfold unstack
  have e : k0_pay3 (fun x => x6 ((Rect.unit (s := S2x8x256) ![0, 0, 0] ![2, 8, 256] inb_S2x8x256_S2x8x256_0_0_0).toLoadRect.idx x)) = x6 := by
    unfold k0_pay3
    dsimp only
    rw [shapeCast_self]
    funext x
    rw [idx_stack]
  exact Prod.ext (congrArg k0_pay30 (funext fun j => congrFun e _)) (congrArg k0_pay31 (funext fun j => congrFun e _))

section Runfirst

variable (hc : Scalar.cmpi .ne (Scalar.extui (Scalar.cmpi .eq (BitVec.ofNat 32 (i 0).val) 0#32)) 0#32 = (1#1 : BitVec 1))

theorem runFirst_pieces0 : runFirst.sl.H10_4 i arg1 harg1 x1 = pieces0 i x1 := by
  unfold runFirst.sl.H10_4 runFirst.sl.r_1
  simp only [readAt_unread_fun]
  rfl

theorem runFirst_pieces1 : runFirst.sl.H10_8 i arg1 harg1 x1 = pieces1 i x1 := by
  unfold runFirst.sl.H10_8 runFirst.sl.r_4
  rw [runFirst_pieces0]
  simp only [readAt_unread_fun]
  rfl

theorem runFirst_rate : runFirst.sl.r arg5 harg5 x5 = rate x5 := by
  unfold runFirst.sl.r
  simp only [readAt_unread_fun]
  rfl

theorem runFirst_conv0 : runFirst.sl.r_2 i arg1 harg1 arg2 harg2 arg10 x1 x2 = conv0 i x1 x2 := by
  unfold runFirst.sl.r_2 runFirst.sl.v71 runFirst.sl.v77 runFirst.sl.v84 runFirst.sl.v91
  simp only [readAt_unread_fun, View.readCov_eq_canon', runFirst_pieces0]
  rfl

theorem runFirst_proj0 : runFirst.sl.r_3 i arg1 harg1 arg2 harg2 arg3 harg3 arg10 x1 x2 x3 = proj0 i x1 x2 x3 := by
  unfold runFirst.sl.r_3 runFirst.sl.v71 runFirst.sl.v77 runFirst.sl.v84 runFirst.sl.v91
  simp only [readAt_unread_fun, View.readCov_eq_canon', runFirst_pieces0]
  rfl

theorem runFirst_taps1 : runFirst.sl.r_5 i arg1 harg1 arg2 harg2 arg10 x1 x2 = taps1 i x1 x2 := by
  unfold runFirst.sl.r_5 runFirst.sl.v189 runFirst.sl.v195 runFirst.sl.v202
  simp only [readAt_unread_fun, View.readCov_eq_canon', runFirst_pieces1]
  rfl

theorem runFirst_decays : View.canon (runFirst.sl.H11_2 i arg1 harg1 arg2 harg2 arg3 harg3 arg4 harg4 arg5 harg5 arg10 x1 x2 x3 x4 x5) = decays i x1 x2 x3 x4 x5 := by
  unfold runFirst.sl.H11_2 runFirst.sl.r_9 runFirst.sl.v209
  simp only [readAt_unread_fun, View.readCov_eq_canon', runFirst_pieces1, runFirst_rate, runFirst_taps1, runFirst_proj0]
  rfl

theorem runFirst_inputs : View.canon (runFirst.sl.H12_2 i arg1 harg1 arg2 harg2 arg3 harg3 arg4 harg4 arg5 harg5 arg10 x1 x2 x3 x4 x5) = inputs i x1 x2 x3 x4 x5 := by
  unfold runFirst.sl.H12_2 runFirst.sl.r_6 runFirst.sl.r_7 runFirst.sl.r_8 runFirst.sl.v209
  simp only [readAt_unread_fun, View.readCov_eq_canon', runFirst_pieces1, runFirst_rate, runFirst_taps1, runFirst_proj0, runFirst_conv0]
  rfl

theorem runFirst_out0 : arg7.view.read (Elt F) (runFirst c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc).1 = tileOut0 i x1 x2 x3 x4 x5 x6 := by
  unfold runFirst
  dsimp only
  rw [read_block_write]
  unfold tileOut0 runFirst.sl.v274
  refine congrArg k0_pay1 ?_
  funext y
  have h0 : (y 0).val < 1 := (y 0).isLt
  rw [View.readAt_apply, idx_fwd y]
  refine (loop_fwd_row _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ 256 le_rfl _ rfl (y 1).isLt).trans ?_
  rw [View.read_writes_junk_eq_canon, View.read_writes_junk_eq_canon, runFirst_decays, runFirst_inputs]
  rw [runFirst_init]; rfl

theorem runFirst_out1 : arg8.view.read (Elt F) (runFirst c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc).2.1 = tileOut1 i x1 x2 x3 x4 x5 x6 := by
  unfold runFirst
  dsimp only
  rw [read_block_write]
  unfold tileOut1 runFirst.sl.v279
  refine congrArg k0_pay2 ?_
  funext y
  rw [View.readAt_apply, idx_bwd y]
  refine (loop_bwd_row _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ 256 le_rfl _ rfl (by show 255 - (y 1).val < 256; omega)).trans ?_
  rw [View.read_writes_junk_eq_canon, View.read_writes_junk_eq_canon, runFirst_decays, runFirst_inputs]
  rw [runFirst_init]; rfl

theorem runFirst_end : arg9.view.read (Elt F) (runFirst c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc).2.2.1 = tileEnd i x1 x2 x3 x4 x5 x6 := by
  unfold runFirst
  dsimp only
  refine (read_stack_write arg9.view f9 _ _).trans ?_
  unfold tileEnd
  have e := loopSt_fst c i arg1 harg1 arg2 harg2 arg3 harg3 arg4 harg4 arg5 harg5 arg6 harg6 arg7 harg7 arg8 harg8 arg9 harg9 arg10 harg10 arg11 harg11 arg12 harg12 arg13 harg13 arg14 harg14 (runFirst.sl.r_6 i arg1 harg1 arg2 harg2 arg3 harg3 arg4 harg4 arg10 x1 x2 x3 x4) (runFirst.sl.r_7 i arg1 harg1 arg2 harg2 arg3 harg3 arg4 harg4 arg5 harg5 arg10 x1 x2 x3 x4 x5) (runFirst.sl.r_8 i arg1 harg1 arg2 harg2 arg10 x1 x2) (runFirst.sl.r_9 i arg1 harg1 arg2 harg2 arg3 harg3 arg4 harg4 arg5 harg5 arg10 x1 x2 x3 x4 x5) (arg11.view.writes (Elt F) arg11.view.junk (runFirst.sl.H11_2 i arg1 harg1 arg2 harg2 arg3 harg3 arg4 harg4 arg5 harg5 arg10 x1 x2 x3 x4 x5)) (arg12.view.writes (Elt F) arg12.view.junk (runFirst.sl.H12_2 i arg1 harg1 arg2 harg2 arg3 harg3 arg4 harg4 arg5 harg5 arg10 x1 x2 x3 x4 x5)) (k0_pay30 (runFirst.sl.v256 arg6 harg6 arg14 x6), k0_pay31 (runFirst.sl.v258 arg6 harg6 arg14 x6)) 256 le_rfl
  rw [View.read_writes_junk_eq_canon, View.read_writes_junk_eq_canon, runFirst_decays, runFirst_inputs] at e
  exact (congrArg stack e).trans (by rw [runFirst_init])

theorem runFirst_carry : arg14.view.read (Elt F) (runFirst c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc).2.2.2.1 = tileEnd i x1 x2 x3 x4 x5 x6 := by
  refine Eq.trans ?_ (runFirst_end c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc)
  unfold runFirst
  dsimp only
  rw [read_stack_write_over]
  exact (read_stack_write arg9.view f9 _ _).symm

end Runfirst

end Run

end Cert.KernelIdeal.Rg

end
-- ==== Proof.RgBody.lean ====
module

public import proofs.«01_k».proof.Proof.RgOut
public import Idealize.ShloMosaic.Lib.WholeRead

@[expose] public section

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The first point: the carried states are the given initial ones. -/
theorem tile_first (c : Dev nD) (i : grid0.Coords) (arg1 : Memref sig .tc .vmem S2048x8x256 .f32) (harg1 : arg1.IsWhole) (arg2 : Memref sig .tc .vmem S1x4x256 .f32) (harg2 : arg2.IsWhole) (arg3 : Memref sig .tc .vmem S1x256x1024 .bf16) (harg3 : arg3.IsWhole) (arg4 : Memref sig .tc .vmem S1x1x1024 .f32) (harg4 : arg4.IsWhole) (arg5 : Memref sig .tc .vmem S1x2x256 .f32) (harg5 : arg5.IsWhole) (arg6 : Memref sig .tc .vmem S2x8x256 .f32) (harg6 : arg6.IsWhole) (arg7 : Memref sig .tc .vmem S32x8x8x256 .f32) (harg7 : arg7.IsWhole) (arg8 : Memref sig .tc .vmem S32x8x8x256 .f32) (harg8 : arg8.IsWhole) (arg9 : Memref sig .tc .vmem S2x8x256 .f32) (harg9 : arg9.IsWhole) (arg10 : Memref sig .tc .vmem S259x8x256 .f32) (harg10 : arg10.IsWhole) (arg11 : Memref sig .tc .vmem S2x256x8x256 .f32) (harg11 : arg11.IsWhole) (arg12 : Memref sig .tc .vmem S2x256x8x256 .f32) (harg12 : arg12.IsWhole) (arg13 : Memref sig .tc .vmem S2x256x8x256 .f32) (harg13 : arg13.IsWhole) (arg14 : Memref sig .tc .vmem S2x8x256 .f32) (harg14 : arg14.IsWhole)
    (x1 : Vec F S2048x8x256 .f32) (x2 : Vec F S1x4x256 .f32) (x3 : Vec F S1x256x1024 .bf16) (x4 : Vec F S1x1x1024 .f32) (x5 : Vec F S1x2x256 .f32) (x6 : Vec F S2x8x256 .f32)
    (hc : Scalar.cmpi .ne (Scalar.extui (Scalar.cmpi .eq (BitVec.ofNat 32 (i 0).val) 0#32)) 0#32 = (1#1 : BitVec 1)) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (tileOut0 i x1 x2 x3 x4 x5 x6) ∗ owns (c : Thread nD τ) arg8 fullShare (tileOut1 i x1 x2 x3 x4 x5 x6) ∗ owns (c : Thread nD τ) arg9 fullShare (tileEnd i x1 x2 x3 x4 x5 x6) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (tileEnd i x1 x2 x3 x4 x5 x6)) -∗ K ⟨⟩))
      ⊢ wp frame (wpE (defs₀ (F := F)) Variants.none c none) E (cc0_rglru i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, Hk⟩
  obtain rfl := harg1.eq_unread e1
  obtain rfl := harg2.eq_unread e2
  obtain rfl := harg3.eq_unread e3
  obtain rfl := harg4.eq_unread e4
  obtain rfl := harg5.eq_unread e5
  obtain rfl := harg6.eq_unread e6
  iapply ((runFirst c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc).2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H1, H2, H3, H4, H5, H6, H7, H8, H9, ⟨%g10, H10⟩, ⟨%g11, H11⟩, ⟨%g12, H12⟩, ⟨%g13, H13⟩, H14⟩
  iapply Hk
  isplitl [H1]
  · iexists _; isplitr; · ipureintro; exact harg1.read_unread x1
    iexact H1
  isplitl [H2]
  · iexists _; isplitr; · ipureintro; exact harg2.read_unread x2
    iexact H2
  isplitl [H3]
  · iexists _; isplitr; · ipureintro; exact harg3.read_unread x3
    iexact H3
  isplitl [H4]
  · iexists _; isplitr; · ipureintro; exact harg4.read_unread x4
    iexact H4
  isplitl [H5]
  · iexists _; isplitr; · ipureintro; exact harg5.read_unread x5
    iexact H5
  isplitl [H6]
  · iexists _; isplitr; · ipureintro; exact harg6.read_unread x6
    iexact H6
  isplitl [H7]
  · iexists _; isplitr; · ipureintro; exact runFirst_out0 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc
    iexact H7
  isplitl [H8]
  · iexists _; isplitr; · ipureintro; exact runFirst_out1 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc
    iexact H8
  isplitl [H9]
  · iexists _; isplitr; · ipureintro; exact runFirst_end c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc
    iexact H9
  isplitl [H10]
  · iexists _; iexists g10; isplitr; · ipureintro; rfl
    iexact H10
  isplitl [H11]
  · iexists _; iexists g11; isplitr; · ipureintro; rfl
    iexact H11
  isplitl [H12]
  · iexists _; iexists g12; isplitr; · ipureintro; rfl
    iexact H12
  isplitl [H13]
  · iexists _; iexists g13; isplitr; · ipureintro; rfl
    iexact H13
  iexists _; isplitr; · ipureintro; exact runFirst_carry c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc
  iexact H14

set_option maxHeartbeats 1600000 in
/-- A later point: the carried states are the last point's. -/
theorem tile_later (c : Dev nD) (i : grid0.Coords) (arg1 : Memref sig .tc .vmem S2048x8x256 .f32) (harg1 : arg1.IsWhole) (arg2 : Memref sig .tc .vmem S1x4x256 .f32) (harg2 : arg2.IsWhole) (arg3 : Memref sig .tc .vmem S1x256x1024 .bf16) (harg3 : arg3.IsWhole) (arg4 : Memref sig .tc .vmem S1x1x1024 .f32) (harg4 : arg4.IsWhole) (arg5 : Memref sig .tc .vmem S1x2x256 .f32) (harg5 : arg5.IsWhole) (arg6 : Memref sig .tc .vmem S2x8x256 .f32) (harg6 : arg6.IsWhole) (arg7 : Memref sig .tc .vmem S32x8x8x256 .f32) (harg7 : arg7.IsWhole) (arg8 : Memref sig .tc .vmem S32x8x8x256 .f32) (harg8 : arg8.IsWhole) (arg9 : Memref sig .tc .vmem S2x8x256 .f32) (harg9 : arg9.IsWhole) (arg10 : Memref sig .tc .vmem S259x8x256 .f32) (harg10 : arg10.IsWhole) (arg11 : Memref sig .tc .vmem S2x256x8x256 .f32) (harg11 : arg11.IsWhole) (arg12 : Memref sig .tc .vmem S2x256x8x256 .f32) (harg12 : arg12.IsWhole) (arg13 : Memref sig .tc .vmem S2x256x8x256 .f32) (harg13 : arg13.IsWhole) (arg14 : Memref sig .tc .vmem S2x8x256 .f32) (harg14 : arg14.IsWhole)
    (x1 : Vec F S2048x8x256 .f32) (x2 : Vec F S1x4x256 .f32) (x3 : Vec F S1x256x1024 .bf16) (x4 : Vec F S1x1x1024 .f32) (x5 : Vec F S1x2x256 .f32) (x6 : Vec F S2x8x256 .f32) (h : Vec F S2x8x256 .f32)
    (hc : ¬ (Scalar.cmpi .ne (Scalar.extui (Scalar.cmpi .eq (BitVec.ofNat 32 (i 0).val) 0#32)) 0#32 = (1#1 : BitVec 1))) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare h ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (tileOut0 i x1 x2 x3 x4 x5 h) ∗ owns (c : Thread nD τ) arg8 fullShare (tileOut1 i x1 x2 x3 x4 x5 h) ∗ owns (c : Thread nD τ) arg9 fullShare (tileEnd i x1 x2 x3 x4 x5 h) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (tileEnd i x1 x2 x3 x4 x5 h)) -∗ K ⟨⟩))
      ⊢ wp frame (wpE (defs₀ (F := F)) Variants.none c none) E (cc0_rglru i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%f14, %e14, H14⟩, Hk⟩
  obtain rfl := harg1.eq_unread e1
  obtain rfl := harg2.eq_unread e2
  obtain rfl := harg3.eq_unread e3
  obtain rfl := harg4.eq_unread e4
  obtain rfl := harg5.eq_unread e5
  obtain rfl := harg6.eq_unread e6
  iapply ((runLater c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc).2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H1, H2, H3, H4, H5, H6, H7, H8, H9, ⟨%g10, H10⟩, ⟨%g11, H11⟩, ⟨%g12, H12⟩, ⟨%g13, H13⟩, H14⟩
  iapply Hk
  isplitl [H1]
  · iexists _; isplitr; · ipureintro; exact harg1.read_unread x1
    iexact H1
  isplitl [H2]
  · iexists _; isplitr; · ipureintro; exact harg2.read_unread x2
    iexact H2
  isplitl [H3]
  · iexists _; isplitr; · ipureintro; exact harg3.read_unread x3
    iexact H3
  isplitl [H4]
  · iexists _; isplitr; · ipureintro; exact harg4.read_unread x4
    iexact H4
  isplitl [H5]
  · iexists _; isplitr; · ipureintro; exact harg5.read_unread x5
    iexact H5
  isplitl [H6]
  · iexists _; isplitr; · ipureintro; exact harg6.read_unread x6
    iexact H6
  isplitl [H7]
  · iexists _; isplitr; · ipureintro; exact (runLater_out0 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc).trans (congrArg _ e14)
    iexact H7
  isplitl [H8]
  · iexists _; isplitr; · ipureintro; exact (runLater_out1 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc).trans (congrArg _ e14)
    iexact H8
  isplitl [H9]
  · iexists _; isplitr; · ipureintro; exact (runLater_end c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc).trans (congrArg _ e14)
    iexact H9
  isplitl [H10]
  · iexists _; iexists g10; isplitr; · ipureintro; rfl
    iexact H10
  isplitl [H11]
  · iexists _; iexists g11; isplitr; · ipureintro; rfl
    iexact H11
  isplitl [H12]
  · iexists _; iexists g12; isplitr; · ipureintro; rfl
    iexact H12
  isplitl [H13]
  · iexists _; iexists g13; isplitr; · ipureintro; rfl
    iexact H13
  iexists _; isplitr; · ipureintro; exact (runLater_carry c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f7 f8 f9 f10 f11 f12 f13 f14 hc).trans (congrArg _ e14)
  iexact H14

end Cert.KernelIdeal.Rg

end
-- ==== Proof.RgFrame.lean ====
module

public import proofs.«01_k».proof.Proof.Gen.KernelIdeal.Frame
public import proofs.«01_k».proof.Proof.RgBody
public import Idealize.ShloMosaic.Lib.Claim

@[expose] public section

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The states carried into point `k`: the given initial ones, then each tile's end. -/
def carry (c : Dev nD) : ℕ → Vec F S2x8x256 .f32
  | 0 => iblk m c 5 t0_0
  | k + 1 => if h : k < cfg0.N then tileEnd (grid0.coords ⟨k, h⟩) (iblk m c 0 ⟨k, h⟩) (iblk m c 1 ⟨k, h⟩) (iblk m c 2 ⟨k, h⟩) (iblk m c 3 ⟨k, h⟩) (iblk m c 4 ⟨k, h⟩) (carry c k) else carry c k

theorem carry_succ (c : Dev nD) (t : Fin cfg0.N) :
    carry m c (t.val + 1) = tileEnd (grid0.coords t) (iblk m c 0 t) (iblk m c 1 t) (iblk m c 2 t) (iblk m c 3 t) (iblk m c 4 t) (carry m c t.val) := by
  rw [carry, dif_pos t.isLt]

/-- The kernel's scratch with the carried states at `h`. -/
def held (c : Dev nD) (h : Vec F S2x8x256 .f32) : sProp 𝕄 :=
  iprop(((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f) ∗ owns (c : Thread nD τ) (Memref.whole cc0_scratch4) fullShare h) ∗ ∃ r, prngReg c r)

theorem scratch_eq (c : Dev nD) : (Pipeline.ΦA spec0 c : sProp 𝕄)
    = iprop(((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f) ∗ (∃ f, owns (c : Thread nD τ) (Memref.whole cc0_scratch4) fullShare f)) ∗ ∃ r, prngReg c r) := by
  unfold Pipeline.ΦA
  rw [scopedRest0_eq]
  simp only [owns_whole]

theorem held_scratch (c : Dev nD) (h : Vec F S2x8x256 .f32) : held c h ⊢ (Pipeline.ΦA spec0 c : sProp 𝕄) := by
  rw [scratch_eq]
  unfold held
  iintro ⟨⟨S0, S1, S2, S3, S4⟩, Hp⟩
  isplitr [Hp]
  · isplitl [S0]; · iexact S0
    isplitl [S1]; · iexact S1
    isplitl [S2]; · iexact S2
    isplitl [S3]; · iexact S3
    iexists _; iexact S4
  iexact Hp

/-- What is true between the points. -/
def between (c : Dev nD) (t : Fin (cfg0.N + 1)) : sProp 𝕄 :=
  if t.val = 0 then Pipeline.ΦA spec0 c else held c (carry m c t.val)

/-- The proof data: the inputs' buffers keep their blocks, each output's holds the tile's results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileOut0 (grid0.coords t) (iblk m c 0 t) (iblk m c 1 t) (iblk m c 2 t) (iblk m c 3 t) (iblk m c 4 t) (carry m c t.val)
    | ⟨7, _⟩ => tileOut1 (grid0.coords t) (iblk m c 0 t) (iblk m c 1 t) (iblk m c 2 t) (iblk m c 3 t) (iblk m c 4 t) (carry m c t.val)
    | ⟨8, _⟩ => tileEnd (grid0.coords t) (iblk m c 0 t) (iblk m c 1 t) (iblk m c 2 t) (iblk m c 3 t) (iblk m c 4 t) (carry m c t.val)
    | ⟨_ + 9, h⟩ => absurd h (Nat.not_lt.2 (Nat.le_add_left _ _))
  Φ t := between m c t
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = tileOut0 (grid0.coords t) (iblk m c 0 t) (iblk m c 1 t) (iblk m c 2 t) (iblk m c 3 t) (iblk m c 4 t) (carry m c t.val) := by dsimp only [dats]
theorem after_7 (c : Dev nD) (t : Fin cfg0.N) : (dats m 0 c).after 7 t = tileOut1 (grid0.coords t) (iblk m c 0 t) (iblk m c 1 t) (iblk m c 2 t) (iblk m c 3 t) (iblk m c 4 t) (carry m c t.val) := by dsimp only [dats]
theorem after_8 (c : Dev nD) (t : Fin cfg0.N) : (dats m 0 c).after 8 t = tileEnd (grid0.coords t) (iblk m c 0 t) (iblk m c 1 t) (iblk m c 2 t) (iblk m c 3 t) (iblk m c 4 t) (carry m c t.val) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem first_iff : ∀ t : Fin cfg0.N, (Scalar.cmpi .ne (Scalar.extui (Scalar.cmpi .eq (BitVec.ofNat 32 (grid0.coords t 0).val) 0#32)) 0#32 = (1#1 : BitVec 1)) ↔ t.val = 0 :=
  (by decide +kernel : ∀ t : Fin grid0.N, (Scalar.cmpi .ne (Scalar.extui (Scalar.cmpi .eq (BitVec.ofNat 32 (grid0.coords t 0).val) 0#32)) 0#32 = (1#1 : BitVec 1)) ↔ t.val = 0)

theorem between_succ (c : Dev nD) (t : Fin cfg0.N) : (dats m 0 c).Φ t.succ = held c (tileEnd (grid0.coords t) (iblk m c 0 t) (iblk m c 1 t) (iblk m c 2 t) (iblk m c 3 t) (iblk m c 4 t) (carry m c t.val)) := by
  show between m c t.succ = _
  rw [between, if_neg (by simp), Fin.val_succ, carry_succ]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl, between_succ,
    after_0, after_1, after_2, after_3, after_4, after_5, after_6, after_7, after_8]
  by_cases h0 : t.val = 0
  · have ec : carry m c t.val = iblk m c 5 t := by
      rw [h0, show t = t0_0 from Fin.ext h0]; rfl
    rw [ec, show (dats m 0 c).Φ t.castSucc = Pipeline.ΦA spec0 c from if_pos h0, scratch_eq]
    unfold held
    iintro ⟨⟨⟨S0, S1, S2, S3, S4⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (tile_first c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) ((first_iff t).2 h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [S0]; · iexact S0
    isplitl [S1]; · iexact S1
    isplitl [S2]; · iexact S2
    isplitl [S3]; · iexact S3
    isplitl [S4]; · iexact S4
    iintro ⟨H0, H1, H2, H3, H4, H5, H6, H7, H8, S0, S1, S2, S3, S4⟩
    isplitl [S0 S1 S2 S3 S4 Hp]
    · isplitr [Hp]
      · isplitl [S0]; · iexact S0
        isplitl [S1]; · iexact S1
        isplitl [S2]; · iexact S2
        isplitl [S3]; · iexact S3
        iexact S4
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [show (dats m 0 c).Φ t.castSucc = held c (carry m c t.val) from if_neg h0]
    unfold held
    iintro ⟨⟨⟨S0, S1, S2, S3, S4⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (tile_later c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (carry m c t.val) (fun e => h0 ((first_iff t).1 e)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [S0]; · iexact S0
    isplitl [S1]; · iexact S1
    isplitl [S2]; · iexact S2
    isplitl [S3]; · iexact S3
    isplitl [S4]; · iexact S4
    iintro ⟨H0, H1, H2, H3, H4, H5, H6, H7, H8, S0, S1, S2, S3, S4⟩
    isplitl [S0 S1 S2 S3 S4 Hp]
    · isplitr [Hp]
      · isplitl [S0]; · iexact S0
        isplitl [S1]; · iexact S1
        isplitl [S2]; · iexact S2
        isplitl [S3]; · iexact S3
        iexact S4
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every run ends with the arrays at what the proof data computes and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := fun c => held_scratch c _)

theorem run_main : θ_run defs (onTc (τ := τ) (main (F := F))) (s₀ m ρ) (Pipeline.FramePost cfgs (dats m) 0 (V m)) :=
  (θ_run defs _ _).mono (fun _ h => h.1) (run_main_quiescent m ρ)

/-- The arguments end as launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Rg

end
-- ==== Proof.ProjBody.lean ====
module

public import proofs.«01_k».proof.Proof.Gen.Kernel3Ideal.Frame
public import Idealize.ShloMosaic.Lib.VecWindow

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What one grid point of the input projection computes, and its run. -/

/-- The modulated norm of the point's 512 tokens. -/
def hTile (v0 : Vec F S1x32x16x1024 .f32) (v3 : Vec F S1x1x1024 .f32) (v5 v7 : Vec F S1x1x1x1x1024 .f32) : FVec F S512x1024 .bf16 :=
  have v1 : FVec F S32x16x1024 .f32 := shapeCast S32x16x1024 v0 shapeCasts_S1x32x16x1024_S32x16x1024
  have v2 : FVec F S512x1024 .f32 := shapeCast S512x1024 v1 shapeCasts_S32x16x1024_S512x1024
  have v4 : FVec F S1x1024 .f32 := shapeCast S1x1024 v3 shapeCasts_S1x1x1024_S1x1024
  have v6 : FVec F S1x1024 .f32 := shapeCast S1x1024 v5 shapeCasts_S1x1x1x1x1024_S1x1024
  have v8 : FVec F S1x1024 .f32 := shapeCast S1x1024 v7 shapeCasts_S1x1x1x1x1024_S1x1024
  have v9 : FVec F S512x1024 .f32 := mulf v2 v2
  have v10 : FVec F S512 .f32 := multiReduction .add [1] S512 v9 0x00000000#32 reduces_S512x1024_S512 (.inl rfl) rfl
  have v11 : FVec F S512x1 .f32 := shapeCast S512x1 v10 shapeCasts_S512_S512x1
  have cst_16 : F .f32 := Scalar.ofBits .f32 0x44800000#32
  have v12 : FVec F S512x1 .f32 := broadcast S512x1 cst_16
  have v13 : FVec F S512x1 .f32 := divf v11 v12
  have cst_17 : F .f32 := Scalar.ofBits .f32 0x358637BD#32
  have v14 : FVec F S512x1 .f32 := broadcast S512x1 cst_17
  have v15 : FVec F S512x1 .f32 := addf v13 v14
  have v16 : FVec F S512x1 .f32 := rsqrt v15
  have v17 : FVec F S512x1024 .f32 := broadcastTo S512x1024 v16 broadcasts_S512x1_S512x1024
  have v18 : FVec F S512x1024 .f32 := mulf v2 v17
  have v19 : FVec F S512x1024 .f32 := broadcastTo S512x1024 v4 broadcasts_S1x1024_S512x1024
  have v20 : FVec F S512x1024 .f32 := mulf v18 v19
  have cst_18 : F .f32 := Scalar.ofBits .f32 0x3F800000#32
  have v21 : FVec F S1x1024 .f32 := broadcast S1x1024 cst_18
  have v22 : FVec F S1x1024 .f32 := addf v21 v8
  have v23 : FVec F S512x1024 .f32 := broadcastTo S512x1024 v22 broadcasts_S1x1024_S512x1024
  have v24 : FVec F S512x1024 .f32 := mulf v20 v23
  have v25 : FVec F S512x1024 .f32 := broadcastTo S512x1024 v6 broadcasts_S1x1024_S512x1024
  have v26 : FVec F S512x1024 .f32 := addf v24 v25
  truncf .bf16 v26 bitsLt_bf16_f32

/-- Their projection on the columns that stay in the order of the tokens. -/
def zaTile (v27 : FVec F S512x1024 .bf16) (v28 : Vec F S1x1024x1792 .bf16) : FVec F S512x1792 .f32 :=
  have v29 : FVec F S1024x1792 .bf16 := shapeCast S1024x1792 v28 shapeCasts_S1x1024x1792_S1024x1792
  have cst_22 : FVec F S512x1792 .f32 := constant S512x1792 .f32 0x00000000#32
  have v30 : FVec F S512x1792 .f32 := matmul dot_S512x1024_S1024x1792_S512x1792_1_0_0_1_n_n none v27 v29 cst_22
  v30

/-- The long convolution's columns. -/
def zhCols (v30 : FVec F S512x1792 .f32) : FVec F S512x768 .bf16 :=
  have v31 : FVec F S512x768 .f32 := extractStridedSlice S512x768 ![0, 0] v30 slices_S512x1792_o0_0_S512x768
  have v32 : FVec F S512x768 .bf16 := truncf .bf16 v31 bitsLt_bf16_f32
  v32

/-- They as the block of the first result. -/
def outH (v32 : FVec F S512x768 .bf16) : FVec F S1x32x16x768 .bf16 :=
  have v33 : FVec F S32x16x768 .bf16 := shapeCast S32x16x768 v32 shapeCasts_S512x768_S32x16x768
  have v36 : FVec F S1x32x16x768 .bf16 := shapeCast S1x32x16x768 v33 shapeCasts_S32x16x768_S1x32x16x768
  v36

/-- The gates' columns as the block of the second result. -/
def outO (v30 : FVec F S512x1792 .f32) : FVec F S1x32x16x768 .f32 :=
  have v37 : FVec F S512x768 .f32 := extractStridedSlice S512x768 ![0, 1024] v30 slices_S512x1792_o0_1024_S512x768
  have v38 : FVec F S32x16x768 .f32 := shapeCast S32x16x768 v37 shapeCasts_S512x768_S32x16x768
  have v41 : FVec F S1x32x16x768 .f32 := shapeCast S1x32x16x768 v38 shapeCasts_S32x16x768_S1x32x16x768
  v41

/-- The recurrence's columns as the rows stored into the fifth result. -/
def outR (v30 : FVec F S512x1792 .f32) : FVec F S32x16x1x256 .f32 :=
  have v42 : FVec F S512x256 .f32 := extractStridedSlice S512x256 ![0, 768] v30 slices_S512x1792_o0_768_S512x256
  have v43 : FVec F S32x16x1x256 .f32 := shapeCast S32x16x1x256 v42 shapeCasts_S512x256_S32x16x1x256
  v43

/-- The projection of the tokens, taken in the transposed order, on the matrix memory's columns. -/
def zmTile (v46 : Vec F S512x512 .bf16) (v27 : FVec F S512x1024 .bf16) (v50 : Vec F S1x1024x1664 .bf16) : FVec F S512x1664 .f32 :=
  have v47 : FVec F S512x512 .bf16 := shapeCast S512x512 v46 shapeCasts_S512x512_S512x512
  have cst_36 : FVec F S512x1024 .f32 := constant S512x1024 .f32 0x00000000#32
  have v48 : FVec F S512x1024 .f32 := matmul dot_S512x512_S512x1024_S512x1024_1_0_0_1_n_n none v47 v27 cst_36
  have v49 : FVec F S512x1024 .bf16 := truncf .bf16 v48 bitsLt_bf16_f32
  have v51 : FVec F S1024x1664 .bf16 := shapeCast S1024x1664 v50 shapeCasts_S1x1024x1664_S1024x1664
  have cst_40 : FVec F S512x1664 .f32 := constant S512x1664 .f32 0x00000000#32
  have v52 : FVec F S512x1664 .f32 := matmul dot_S512x1024_S1024x1664_S512x1664_1_0_0_1_n_n none v49 v51 cst_40
  v52

/-- The block of the third result. -/
def outM (v52 : FVec F S512x1664 .f32) : FVec F S1x512x1536 .bf16 :=
  have v53 : FVec F S512x1536 .f32 := extractStridedSlice S512x1536 ![0, 0] v52 slices_S512x1664_o0_0_S512x1536
  have v54 : FVec F S512x1536 .bf16 := truncf .bf16 v53 bitsLt_bf16_f32
  have v57 : FVec F S1x512x1536 .bf16 := shapeCast S1x512x1536 v54 shapeCasts_S512x1536_S1x512x1536
  v57

/-- The block of the fourth result. -/
def outG (v52 : FVec F S512x1664 .f32) : FVec F S1x512x128 .f32 :=
  have v58 : FVec F S512x128 .f32 := extractStridedSlice S512x128 ![0, 1536] v52 slices_S512x1664_o0_1536_S512x128
  have v61 : FVec F S1x512x128 .f32 := shapeCast S1x512x128 v58 shapeCasts_S512x128_S1x512x128
  v61

/-- The fifth result's block with the batch's row put in. -/
def withRow (i : grid0.Coords) (y : Vec F S32x16x8x256 .f32) (w : FVec F S32x16x1x256 .f32) : Vec F S32x16x8x256 .f32 :=
  VecWindow.put (s := S32x16x8x256) y (k0_off1 i) S32x16x1x256.size w

/-- The first part of the body, its values named. -/
def firstPart (i : grid0.Coords) (arg2 : Memref sig .tc .vmem S1x32x16x1024 .f32) (harg2 : arg2.IsWhole) (arg3 : Memref sig .tc .vmem S1x1x1x1x1024 .f32) (harg3 : arg3.IsWhole) (arg4 : Memref sig .tc .vmem S1x1x1x1x1024 .f32) (harg4 : arg4.IsWhole) (arg5 : Memref sig .tc .vmem S1x1x1024 .f32) (harg5 : arg5.IsWhole) (arg6 : Memref sig .tc .vmem S1x1024x1792 .bf16) (harg6 : arg6.IsWhole) (arg7 : Memref sig .tc .vmem S1x1024x1664 .bf16) (harg7 : arg7.IsWhole) (arg8 : Memref sig .tc .vmem S512x512 .bf16) (harg8 : arg8.IsWhole) (arg9 : Memref sig .tc .vmem S1x32x16x768 .bf16) (harg9 : arg9.IsWhole) (arg10 : Memref sig .tc .vmem S1x32x16x768 .f32) (harg10 : arg10.IsWhole) (arg11 : Memref sig .tc .vmem S1x512x1536 .bf16) (harg11 : arg11.IsWhole) (arg12 : Memref sig .tc .vmem S1x512x128 .f32) (harg12 : arg12.IsWhole) (arg13 : Memref sig .tc .vmem S32x16x8x256 .f32) (harg13 : arg13.IsWhole) :
    Prog (TpuEff nD τ sig (Elt F) Λ₀ .tc) (Σ' (arg1 : BitVec 32) (v27 : FVec F S512x1024 .bf16) (v30 : FVec F S512x1792 .f32), FVec F S512x768 .bf16) := do
  let v0 : Vec F S1x32x16x1024 .f32 ← Prog.lift (.load arg2 (Rect.unit (s := S1x32x16x1024) ![0, 0, 0, 0] S1x32x16x1024.size inb_S1x32x16x1024_S1x32x16x1024_0_0_0_0).toLoadRect (View.loadsAt_vmem h_S1x32x16x1024))
  let v3 : Vec F S1x1x1024 .f32 ← Prog.lift (.load arg5 (Rect.unit (s := S1x1x1024) ![0, 0, 0] S1x1x1024.size inb_S1x1x1024_S1x1x1024_0_0_0).toLoadRect (View.loadsAt_vmem h_S1x1x1024))
  let v5 : Vec F S1x1x1x1x1024 .f32 ← Prog.lift (.load arg3 (Rect.unit (s := S1x1x1x1x1024) ![0, 0, 0, 0, 0] S1x1x1x1x1024.size inb_S1x1x1x1x1024_S1x1x1x1x1024_0_0_0_0_0).toLoadRect (View.loadsAt_vmem h_S1x1x1x1x1024))
  let v7 : Vec F S1x1x1x1x1024 .f32 ← Prog.lift (.load arg4 (Rect.unit (s := S1x1x1x1x1024) ![0, 0, 0, 0, 0] S1x1x1x1x1024.size inb_S1x1x1x1x1024_S1x1x1x1x1024_0_0_0_0_0).toLoadRect (View.loadsAt_vmem h_S1x1x1x1x1024))
  let v28 : Vec F S1x1024x1792 .bf16 ← Prog.lift (.load arg6 (Rect.unit (s := S1x1024x1792) ![0, 0, 0] S1x1024x1792.size inb_S1x1024x1792_S1x1024x1792_0_0_0).toLoadRect (View.loadsAt_vmem h_S1x1024x1792))
  pure ⟨BitVec.ofNat 32 (i 1).val, hTile v0 v3 v5 v7, zaTile (hTile v0 v3 v5 v7) v28, zhCols (zaTile (hTile v0 v3 v5 v7) v28)⟩

set_option maxRecDepth 65536 in
theorem firstPart_eq : k0_part1 (F := F) = firstPart (F := F) := rfl

/-- The body, its values named. -/
def named (i : grid0.Coords) (arg2 : Memref sig .tc .vmem S1x32x16x1024 .f32) (harg2 : arg2.IsWhole) (arg3 : Memref sig .tc .vmem S1x1x1x1x1024 .f32) (harg3 : arg3.IsWhole) (arg4 : Memref sig .tc .vmem S1x1x1x1x1024 .f32) (harg4 : arg4.IsWhole) (arg5 : Memref sig .tc .vmem S1x1x1024 .f32) (harg5 : arg5.IsWhole) (arg6 : Memref sig .tc .vmem S1x1024x1792 .bf16) (harg6 : arg6.IsWhole) (arg7 : Memref sig .tc .vmem S1x1024x1664 .bf16) (harg7 : arg7.IsWhole) (arg8 : Memref sig .tc .vmem S512x512 .bf16) (harg8 : arg8.IsWhole) (arg9 : Memref sig .tc .vmem S1x32x16x768 .bf16) (harg9 : arg9.IsWhole) (arg10 : Memref sig .tc .vmem S1x32x16x768 .f32) (harg10 : arg10.IsWhole) (arg11 : Memref sig .tc .vmem S1x512x1536 .bf16) (harg11 : arg11.IsWhole) (arg12 : Memref sig .tc .vmem S1x512x128 .f32) (harg12 : arg12.IsWhole) (arg13 : Memref sig .tc .vmem S32x16x8x256 .f32) (harg13 : arg13.IsWhole) :
    Prog (TpuEff nD τ sig (Elt F) Λ₀ .tc) PUnit := do
  let ⟨_, v27, v30, v32⟩ : Σ' (arg1 : BitVec 32) (v27 : FVec F S512x1024 .bf16) (v30 : FVec F S512x1792 .f32), FVec F S512x768 .bf16 ← k0_part1 i arg2 harg2 arg3 harg3 arg4 harg4 arg5 harg5 arg6 harg6 arg7 harg7 arg8 harg8 arg9 harg9 arg10 harg10 arg11 harg11 arg12 harg12 arg13 harg13
  let v34 : Vec F S1x32x16x768 .bf16 ← Prog.lift (.load arg9 (Rect.unit (s := S1x32x16x768) ![0, 0, 0, 0] S1x32x16x768.size inb_S1x32x16x768_S1x32x16x768_0_0_0_0).toLoadRect (View.loadsAt_vmem h_S1x32x16x768))
  Prog.lift (.store arg9 (Rect.unit (s := S1x32x16x768) ![0, 0, 0, 0] S1x32x16x768.size inb_S1x32x16x768_S1x32x16x768_0_0_0_0) (outH v32) Finset.univ (View.stores_vmem h_S1x32x16x768 (harg9.storeExact_slice rfl _ packedbf16_S1x32x16x768_S1x32x16x768_0_0_0_0) (fun _ => rfl)) (.inl rfl))
  let v39 : Vec F S1x32x16x768 .f32 ← Prog.lift (.load arg10 (Rect.unit (s := S1x32x16x768) ![0, 0, 0, 0] S1x32x16x768.size inb_S1x32x16x768_S1x32x16x768_0_0_0_0).toLoadRect (View.loadsAt_vmem h_S1x32x16x768))
  Prog.lift (.store arg10 (Rect.unit (s := S1x32x16x768) ![0, 0, 0, 0] S1x32x16x768.size inb_S1x32x16x768_S1x32x16x768_0_0_0_0) (outO v30) Finset.univ (View.stores_vmem_bits_univ h_S1x32x16x768 rfl) (.inl rfl))
  let v45 : Vec F S32x16x1x256 .f32 ← Prog.lift (.load arg13 (Rect.unit (s := S32x16x8x256) (k0_off1 i) S32x16x1x256.size (k0_off1_inb i)).toLoadRect (View.loadsAt_vmem h_S32x16x1x256))
  Prog.lift (.store arg13 (Rect.unit (s := S32x16x8x256) (k0_off1 i) S32x16x1x256.size (k0_off1_inb i)) (outR v30) Finset.univ (View.stores_vmem_bits_univ h_S32x16x1x256 rfl) (.inl rfl))
  let v46 : Vec F S512x512 .bf16 ← Prog.lift (.load arg8 (Rect.unit (s := S512x512) ![0, 0] S512x512.size inb_S512x512_S512x512_0_0).toLoadRect (View.loadsAt_vmem h_S512x512))
  let v50 : Vec F S1x1024x1664 .bf16 ← Prog.lift (.load arg7 (Rect.unit (s := S1x1024x1664) ![0, 0, 0] S1x1024x1664.size inb_S1x1024x1664_S1x1024x1664_0_0_0).toLoadRect (View.loadsAt_vmem h_S1x1024x1664))
  let v55 : Vec F S1x512x1536 .bf16 ← Prog.lift (.load arg11 (Rect.unit (s := S1x512x1536) ![0, 0, 0] S1x512x1536.size inb_S1x512x1536_S1x512x1536_0_0_0).toLoadRect (View.loadsAt_vmem h_S1x512x1536))
  Prog.lift (.store arg11 (Rect.unit (s := S1x512x1536) ![0, 0, 0] S1x512x1536.size inb_S1x512x1536_S1x512x1536_0_0_0) (outM (zmTile v46 v27 v50)) Finset.univ (View.stores_vmem h_S1x512x1536 (harg11.storeExact_slice rfl _ packedbf16_S1x512x1536_S1x512x1536_0_0_0) (fun _ => rfl)) (.inl rfl))
  let v59 : Vec F S1x512x128 .f32 ← Prog.lift (.load arg12 (Rect.unit (s := S1x512x128) ![0, 0, 0] S1x512x128.size inb_S1x512x128_S1x512x128_0_0_0).toLoadRect (View.loadsAt_vmem h_S1x512x128))
  Prog.lift (.store arg12 (Rect.unit (s := S1x512x128) ![0, 0, 0] S1x512x128.size inb_S1x512x128_S1x512x128_0_0_0) (outG (zmTile v46 v27 v50)) Finset.univ (View.stores_vmem_bits_univ h_S1x512x128 rfl) (.inl rfl))
  pure ⟨⟩

set_option maxRecDepth 65536 in
theorem named_eq : cc0_inproj_grid (F := F) = named (F := F) := rfl

theorem read_whole0 (arg : Memref sig .tc .vmem S1x32x16x1024 .f32) (f : BufTy.Contents (Elt F) arg.view.ty) :
    arg.view.readAt (Elt F) (Rect.unit (s := S1x32x16x1024) ![0, 0, 0, 0] ![1, 32, 16, 1024] inb_S1x32x16x1024_S1x32x16x1024_0_0_0_0).toLoadRect f = arg.view.read (Elt F) f :=
  View.readAt_full _ _ _
theorem read_whole1 (arg : Memref sig .tc .vmem S1x1x1x1x1024 .f32) (f : BufTy.Contents (Elt F) arg.view.ty) :
    arg.view.readAt (Elt F) (Rect.unit (s := S1x1x1x1x1024) ![0, 0, 0, 0, 0] ![1, 1, 1, 1, 1024] inb_S1x1x1x1x1024_S1x1x1x1x1024_0_0_0_0_0).toLoadRect f = arg.view.read (Elt F) f :=
  View.readAt_full _ _ _
theorem read_whole2 (arg : Memref sig .tc .vmem S1x1x1024 .f32) (f : BufTy.Contents (Elt F) arg.view.ty) :
    arg.view.readAt (Elt F) (Rect.unit (s := S1x1x1024) ![0, 0, 0] ![1, 1, 1024] inb_S1x1x1024_S1x1x1024_0_0_0).toLoadRect f = arg.view.read (Elt F) f :=
  View.readAt_full _ _ _
theorem read_whole3 (arg : Memref sig .tc .vmem S1x1024x1792 .bf16) (f : BufTy.Contents (Elt F) arg.view.ty) :
    arg.view.readAt (Elt F) (Rect.unit (s := S1x1024x1792) ![0, 0, 0] ![1, 1024, 1792] inb_S1x1024x1792_S1x1024x1792_0_0_0).toLoadRect f = arg.view.read (Elt F) f :=
  View.readAt_full _ _ _
theorem read_whole4 (arg : Memref sig .tc .vmem S1x1024x1664 .bf16) (f : BufTy.Contents (Elt F) arg.view.ty) :
    arg.view.readAt (Elt F) (Rect.unit (s := S1x1024x1664) ![0, 0, 0] ![1, 1024, 1664] inb_S1x1024x1664_S1x1024x1664_0_0_0).toLoadRect f = arg.view.read (Elt F) f :=
  View.readAt_full _ _ _
theorem read_whole5 (arg : Memref sig .tc .vmem S512x512 .bf16) (f : BufTy.Contents (Elt F) arg.view.ty) :
    arg.view.readAt (Elt F) (Rect.unit (s := S512x512) ![0, 0] ![512, 512] inb_S512x512_S512x512_0_0).toLoadRect f = arg.view.read (Elt F) f :=
  View.readAt_full _ _ _

set_option maxHeartbeats 4000000 in
/-- One grid point: four results whole, and the batch's row of the fifth. -/
theorem tile (c : Dev nD) (i : grid0.Coords) (arg2 : Memref sig .tc .vmem S1x32x16x1024 .f32) (harg2 : arg2.IsWhole) (arg3 : Memref sig .tc .vmem S1x1x1x1x1024 .f32) (harg3 : arg3.IsWhole) (arg4 : Memref sig .tc .vmem S1x1x1x1x1024 .f32) (harg4 : arg4.IsWhole) (arg5 : Memref sig .tc .vmem S1x1x1024 .f32) (harg5 : arg5.IsWhole) (arg6 : Memref sig .tc .vmem S1x1024x1792 .bf16) (harg6 : arg6.IsWhole) (arg7 : Memref sig .tc .vmem S1x1024x1664 .bf16) (harg7 : arg7.IsWhole) (arg8 : Memref sig .tc .vmem S512x512 .bf16) (harg8 : arg8.IsWhole) (arg9 : Memref sig .tc .vmem S1x32x16x768 .bf16) (harg9 : arg9.IsWhole) (arg10 : Memref sig .tc .vmem S1x32x16x768 .f32) (harg10 : arg10.IsWhole) (arg11 : Memref sig .tc .vmem S1x512x1536 .bf16) (harg11 : arg11.IsWhole) (arg12 : Memref sig .tc .vmem S1x512x128 .f32) (harg12 : arg12.IsWhole) (arg13 : Memref sig .tc .vmem S32x16x8x256 .f32) (harg13 : arg13.IsWhole)
    (x0 : Vec F S1x32x16x1024 .f32) (x1 : Vec F S1x1x1x1x1024 .f32) (x2 : Vec F S1x1x1x1x1024 .f32) (x3 : Vec F S1x1x1024 .f32) (x4 : Vec F S1x1024x1792 .bf16) (x5 : Vec F S1x1024x1664 .bf16) (x6 : Vec F S512x512 .bf16) (y : Vec F S32x16x8x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare y
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outH (zhCols (zaTile (hTile x0 x3 x1 x2) x4))) ∗ owns (c : Thread nD τ) arg10 fullShare (outO (zaTile (hTile x0 x3 x1 x2) x4)) ∗ owns (c : Thread nD τ) arg11 fullShare (outM (zmTile x6 (hTile x0 x3 x1 x2) x5)) ∗ owns (c : Thread nD τ) arg12 fullShare (outG (zmTile x6 (hTile x0 x3 x1 x2) x5)) ∗ owns (c : Thread nD τ) arg13 fullShare (withRow i y (outR (zaTile (hTile x0 x3 x1 x2) x4)))) -∗ K ⟨⟩))
      ⊢ wp frame (wpE (defs₀ (F := F)) Variants.none c none) E (cc0_inproj_grid i arg2 harg2 arg3 harg3 arg4 harg4 arg5 harg5 arg6 harg6 arg7 harg7 arg8 harg8 arg9 harg9 arg10 harg10 arg11 harg11 arg12 harg12 arg13 harg13) K := by
  simp only [named_eq]; unfold named
  simp only [firstPart_eq]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, ⟨%f11, %e11, H11⟩, Hk⟩
  sl_exec
  sl_step
  iapply Hk
  isplitl [H0]
  · iexists _; isplitr; · ipureintro; exact e0
    iexact H0
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr
    swap; · iexact H7
    · ipureintro
      refine (View.read_writes_full _ _ _ _ _).trans ?_
      try delta tile.sl.r_2
      try delta tile.sl.r_1
      try delta tile.sl.r
      simp only [read_whole0, read_whole1, read_whole2, read_whole3, read_whole4, read_whole5, e0, e1, e2, e3, e4, e5, e6]
  isplitl [H8]
  · iexists _; isplitr
    swap; · iexact H8
    · ipureintro
      refine (View.read_writes_full _ _ _ _ _).trans ?_
      try delta tile.sl.r_2
      try delta tile.sl.r_1
      try delta tile.sl.r
      simp only [read_whole0, read_whole1, read_whole2, read_whole3, read_whole4, read_whole5, e0, e1, e2, e3, e4, e5, e6]
  isplitl [H9]
  · iexists _; isplitr
    swap; · iexact H9
    · ipureintro
      refine (View.read_writes_full _ _ _ _ _).trans ?_
      try delta tile.sl.r_2
      try delta tile.sl.r_1
      try delta tile.sl.r
      simp only [read_whole0, read_whole1, read_whole2, read_whole3, read_whole4, read_whole5, e0, e1, e2, e3, e4, e5, e6]
  isplitl [H10]
  · iexists _; isplitr
    swap; · iexact H10
    · ipureintro
      refine (View.read_writes_full _ _ _ _ _).trans ?_
      try delta tile.sl.r_2
      try delta tile.sl.r_1
      try delta tile.sl.r
      simp only [read_whole0, read_whole1, read_whole2, read_whole3, read_whole4, read_whole5, e0, e1, e2, e3, e4, e5, e6]
  iexists _; isplitr
  swap; · iexact H11
  · ipureintro
    refine (View.read_writes_cons_put _ _ _ _ _ rfl).trans ?_
    rw [View.writes_nil, e11]
    try delta tile.sl.r_2
    try delta tile.sl.r_1
    try delta tile.sl.r
    simp only [read_whole0, read_whole1, read_whole2, read_whole3, read_whole4, read_whole5, e0, e1, e2, e3, e4, e5, e6]
    rfl

end Cert.Kernel3Ideal.Proj

end
-- ==== Proof.ProjFrame.lean ====
module

public import proofs.«01_k».proof.Proof.ProjBody
public import Idealize.ShloMosaic.Lib.Pipeline.DatRel
public import Idealize.ShloMosaic.Lib.Pipeline.ArrRel
public import Idealize.ShloMosaic.Lib.Claim
public import Idealize.ShloMosaic.Lib.Pointwise

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The run of the input projection. The fifth result's block is filled over eight points, one row at each, so
    what it holds between them is stated of the rows already put in. -/

/-- The rows point `t` stores into the fifth result. -/
def rowAt (c : Dev nD) (t : Fin cfg0.N) : FVec F S32x16x1x256 .f32 :=
  outR (zaTile (hTile (iblk m c 0 t) (iblk m c 3 t) (iblk m c 1 t) (iblk m c 2 t)) (iblk m c 4 t))

/-- The proof data: the inputs' buffers keep their blocks, each output's holds the point's results. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outH (zhCols (zaTile (hTile (iblk m c 0 t) (iblk m c 3 t) (iblk m c 1 t) (iblk m c 2 t)) (iblk m c 4 t)))
    | ⟨8, _⟩ => outO (zaTile (hTile (iblk m c 0 t) (iblk m c 3 t) (iblk m c 1 t) (iblk m c 2 t)) (iblk m c 4 t))
    | ⟨9, _⟩ => outM (zmTile (iblk m c 6 t) (hTile (iblk m c 0 t) (iblk m c 3 t) (iblk m c 1 t) (iblk m c 2 t)) (iblk m c 5 t))
    | ⟨10, _⟩ => outG (zmTile (iblk m c 6 t) (hTile (iblk m c 0 t) (iblk m c 3 t) (iblk m c 1 t) (iblk m c 2 t)) (iblk m c 5 t))
    | ⟨11, _⟩ => fun y => rowAt m c t (ix4 (y 0) (y 1) (0 : Fin 1) (y 3))
    | ⟨_ + 12, h⟩ => absurd h (Nat.not_lt.2 (Nat.le_add_left _ _))
  Φ _ := Pipeline.ΦA spec0 c
  q w := Pipeline.shareOf spec0 w
  owed _ := 0

theorem A_eq (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem after_7 (c : Dev nD) (t : Fin cfg0.N) : (dat m c).after 7 t = outH (zhCols (zaTile (hTile (iblk m c 0 t) (iblk m c 3 t) (iblk m c 1 t) (iblk m c 2 t)) (iblk m c 4 t))) := by dsimp only [dat]
theorem after_8 (c : Dev nD) (t : Fin cfg0.N) : (dat m c).after 8 t = outO (zaTile (hTile (iblk m c 0 t) (iblk m c 3 t) (iblk m c 1 t) (iblk m c 2 t)) (iblk m c 4 t)) := by dsimp only [dat]
theorem after_9 (c : Dev nD) (t : Fin cfg0.N) : (dat m c).after 9 t = outM (zmTile (iblk m c 6 t) (hTile (iblk m c 0 t) (iblk m c 3 t) (iblk m c 1 t) (iblk m c 2 t)) (iblk m c 5 t)) := by dsimp only [dat]
theorem after_10 (c : Dev nD) (t : Fin cfg0.N) : (dat m c).after 10 t = outG (zmTile (iblk m c 6 t) (hTile (iblk m c 0 t) (iblk m c 3 t) (iblk m c 1 t) (iblk m c 2 t)) (iblk m c 5 t)) := by dsimp only [dat]

theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d
theorem before_5 (c : Dev nD) (t : Fin cfg0.N) (d) : (dat m c).before 5 t d = iblk m c 5 t :=
  before0_5_of m (dat m c) (A_eq m c 5) (after_5 m c) t d
theorem before_6 (c : Dev nD) (t : Fin cfg0.N) (d) : (dat m c).before 6 t d = iblk m c 6 t :=
  before0_6_of m (dat m c) (A_eq m c 6) (after_6 m c) t d

/-- The windows of which only a property is stated: the fifth result's. -/
def loose : Fin cfg0.W → Bool
  | ⟨11, _⟩ => true
  | _ => false

/-- The rows of the points of this block up to `t` are in. -/
def rowsIn (c : Dev nD) (t : Fin cfg0.N) (X : Vec F S32x16x8x256 .f32) : Prop :=
  ∀ u : Fin cfg0.N, u.val / 8 = t.val / 8 → u.val ≤ t.val → ∀ (p : Fin 32) (q : Fin 16) (b : Fin 8) (e : Fin 256), b.val = u.val % 8 → X (ix4 p q b e) = rowAt m c u (ix4 p q (0 : Fin 1) e)

/-- The property of each such window. -/
def holds (c : Dev nD) : (w : Fin cfg0.W) → Fin cfg0.N → ((cfg0.win w).block.Idx → Elt F (cfg0.win w).elt) → Prop
  | ⟨11, _⟩ => fun t X => rowsIn m c t X
  | _ => fun _ _ => True

theorem batch_eq : ∀ t : Fin cfg0.N, (grid0.coords t 1).val = t.val % 8 :=
  (by decide +kernel : ∀ t : Fin grid0.N, (grid0.coords t 1).val = t.val % 8)

theorem withRow_at (i : grid0.Coords) (Y : Vec F S32x16x8x256 .f32) (w : FVec F S32x16x1x256 .f32) (p : Fin 32) (q : Fin 16) (b : Fin 8) (e : Fin 256) (h : b.val = (i 1).val) :
    withRow i Y w (ix4 p q b e) = w (ix4 p q (0 : Fin 1) e) := by
  have hb := b.isLt
  unfold withRow
  rw [k0_off1_eq]
  unfold VecWindow.put
  rw [dif_pos]
  · refine congrArg w (funext fun a => Fin.ext ?_)
    match a with
    | ⟨0, _⟩ => show p.val - 0 = p.val; omega
    | ⟨1, _⟩ => show q.val - 0 = q.val; omega
    | ⟨2, _⟩ => show b.val - (i 1).val = 0; omega
    | ⟨3, _⟩ => show e.val - 0 = e.val; omega
  · intro a
    match a with
    | ⟨0, _⟩ => exact ⟨Nat.zero_le _, by show p.val < 0 + 32; omega⟩
    | ⟨1, _⟩ => exact ⟨Nat.zero_le _, by show q.val < 0 + 16; omega⟩
    | ⟨2, _⟩ => exact ⟨by show (i 1).val ≤ b.val; omega, by show b.val < (i 1).val + 1; omega⟩
    | ⟨3, _⟩ => exact ⟨Nat.zero_le _, by show e.val < 0 + 256; omega⟩

theorem withRow_ne (i : grid0.Coords) (Y : Vec F S32x16x8x256 .f32) (w : FVec F S32x16x1x256 .f32) (p : Fin 32) (q : Fin 16) (b : Fin 8) (e : Fin 256) (h : b.val ≠ (i 1).val) :
    withRow i Y w (ix4 p q b e) = Y (ix4 p q b e) := by
  unfold withRow
  rw [k0_off1_eq]
  unfold VecWindow.put
  rw [dif_neg]
  intro hh
  have h2 := hh 2
  have h3 : (i 1).val ≤ b.val := h2.1
  have h4 : b.val < (i 1).val + 1 := h2.2
  omega

/-- A point puts its row in and keeps the earlier ones. -/
theorem rowsIn_step (c : Dev nD) (t : Fin cfg0.N) (Y : Vec F S32x16x8x256 .f32)
    (hY : (h : t.val % 8 ≠ 0) → rowsIn m c ⟨t.val - 1, Nat.lt_of_le_of_lt (Nat.sub_le _ _) t.isLt⟩ Y) :
    rowsIn m c t (withRow (grid0.coords t) Y (rowAt m c t)) := by
  intro u hu hut p q b e hb
  by_cases ht : u.val = t.val
  · rw [show u = t from Fin.ext ht] at hb ⊢
    exact withRow_at _ _ _ p q b e (hb.trans (batch_eq t).symm)
  · have hlt : u.val < t.val := by omega
    have h8 : t.val % 8 ≠ 0 := by omega
    rw [withRow_ne _ _ _ p q b e (by rw [batch_eq t, hb]; omega)]
    exact hY h8 u (by show u.val / 8 = (t.val - 1) / 8; omega) (by show u.val ≤ t.val - 1; omega) p q b e hb

/-- The proof data with the property in place of the fifth result's contents. -/
def rdat (c : Dev nD) : RDat τ (Elt F) Unit ℕ (UR sig nD τ) ℕ cfg0 c := (dat m c).toRRel loose (holds m c)

theorem found (c : Dev nD) (t : Fin cfg0.N) (Y : Vec F S32x16x8x256 .f32) (h : ((dat m c).toRRel loose (holds m c)).Finds 11 t Y) (h8 : t.val % 8 ≠ 0) :
    rowsIn m c ⟨t.val - 1, Nat.lt_of_le_of_lt (Nat.sub_le _ _) t.isLt⟩ Y := by
  rcases (RDat.finds_of_pos _ (w := 11) (t := t) rfl (by omega) Y).1 h with hf | hl
  · have := (flush0_11 _).1 hf
    have e : (t.val - 1) % 8 = 7 := this
    omega
  · exact (dat m c).toRRel_leaves (w := 11) rfl hl

/-- What the body is given at point `t`. -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ d, owns (c : Thread nD τ) (st0_8 t) fullShare ((dat m c).before 8 t d))
    ∗ (∃ d, owns (c : Thread nD τ) (st0_9 t) fullShare ((dat m c).before 9 t d))
    ∗ (∃ d, owns (c : Thread nD τ) (st0_10 t) fullShare ((dat m c).before 10 t d))
    ∗ (∃ Y, ⌜((dat m c).toRRel loose (holds m c)).Finds 11 t Y⌝ ∗ owns (c : Thread nD τ) (st0_11 t) fullShare Y))

/-- What it leaves. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ owns (c : Thread nD τ) (st0_7 t) fullShare ((dat m c).after 7 t)
    ∗ owns (c : Thread nD τ) (st0_8 t) fullShare ((dat m c).after 8 t)
    ∗ owns (c : Thread nD τ) (st0_9 t) fullShare ((dat m c).after 9 t)
    ∗ owns (c : Thread nD τ) (st0_10 t) fullShare ((dat m c).after 10 t)
    ∗ (∃ X, ⌜holds m c 11 t X⌝ ∗ owns (c : Thread nD τ) (st0_11 t) fullShare X))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dat m c).owesAt () t.succ = (dat m c).owesAt () t.castSucc from rfl, show (dat m c).Φ t.succ = (dat m c).Φ t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y, %hY, H11⟩⟩
  iapply (tile c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _
  isplitr
  swap; · iexact H11
  ipureintro
  exact rowsIn_step m c t Y (found m c t Y hY)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dat (F := F) m c) (defs₀ (F := F)) Variants.none () Set.univ loose (holds m c) := fun t => by
  rw [bigSep_W0, bigSep_W0, defs₀_row]
  exact triple_restated (sound_body m c t) rfl .rfl fun _ => .rfl

set_option backward.isDefEq.respectTransparency.types false in
/-- The launch: every run ends with the arrays as the proof data tell and every counter at zero. -/
theorem run_main_quiescent : θ_run defs (onTc (τ := τ) (main (F := F))) (s₀ m ρ) (fun r => (Pipeline.RDat.FramePost cfg0 (rdat m) (V m)) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m)
    (hin := fun _ => .rfl) (hout := fun _ => .rfl)

/-- The arguments end as launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main_quiescent m ρ)

end Cert.Kernel3Ideal.Proj

end
-- ==== Proof.Frames.lean ====
module
public import proofs.«01_k».proof.Defs
public import proofs.«01_k».proof.Proof.RgBits
public import proofs.«01_k».proof.Proof.RgFrame
public import proofs.«01_k».proof.Proof.Gen.ReferenceIdeal.Run
public import proofs.«01_k».proof.Proof.Gen.Reference2Ideal.Run
public import proofs.«01_k».proof.Proof.Gen.Kernel2.Frame
public import proofs.«01_k».proof.Proof.Gen.Kernel2Ideal.Frame
public import proofs.«01_k».proof.Proof.Gen.Reference3Ideal.Run
public import proofs.«01_k».proof.Proof.ProjBitsFrame
public import proofs.«01_k».proof.Proof.ProjFrame
public import Idealize.ShloMosaic.Adequacy
@[expose] public section
noncomputable section

namespace Cert.Frames

open Idealize.ShloMosaic Idealize.SL.Sem

/-! The frames of all nine programs, and the statement of the named constant. -/

/-- The recurrence's kernel at machine floats. -/
theorem kernel : Cert.quiescent_Kernel (hKernel := Cert.Kernel.Gen.facts) := fun m ρ _ => Cert.Kernel.Rg.frame m ρ

/-- The recurrence's kernel at the reals. -/
theorem kernel_ideal : Cert.quiescent_KernelIdeal (hKernelIdeal := Cert.KernelIdeal.Gen.facts) :=
  fun m ρ _ => Cert.KernelIdeal.Rg.frame m ρ

/-- The recurrence's reference, whose program has no counter at all. -/
theorem reference_ideal : Cert.quiescent_ReferenceIdeal (hReferenceIdeal := Cert.ReferenceIdeal.Gen.facts) :=
  fun m ρ _ => (θ_run Cert.ReferenceIdeal.defs _ _).mono (fun r h => ⟨fun c => (h c).2.2.2, sem_eq_zero_of_no_sems (by decide) r.2⟩)
    (Cert.ReferenceIdeal.Value.run (F := Ideal) m ρ)

/-- The channel mix's kernel at machine floats and at the reals. -/
theorem kernel2 : Cert.quiescent_Kernel2 (hKernel2 := Cert.Kernel2.Gen.facts) := fun m ρ _ => Cert.Kernel2.Gen.frame m ρ

theorem kernel2_ideal : Cert.quiescent_Kernel2Ideal (hKernel2Ideal := Cert.Kernel2Ideal.Gen.facts) :=
  fun m ρ _ => Cert.Kernel2Ideal.Gen.frame m ρ

/-- The channel mix's reference, whose program has no counter at all. -/
theorem reference2_ideal : Cert.quiescent_Reference2Ideal (hReference2Ideal := Cert.Reference2Ideal.Gen.facts) :=
  fun m ρ _ => (θ_run Cert.Reference2Ideal.defs _ _).mono (fun r h => ⟨fun c => (h c).2, sem_eq_zero_of_no_sems (by decide) r.2⟩)
    (Cert.Reference2Ideal.Value.run (F := Ideal) m ρ)

/-- The input projection's kernel at machine floats and at the reals. -/
theorem kernel3 : Cert.quiescent_Kernel3 (hKernel3 := Cert.Kernel3.Gen.facts) := fun m ρ _ => Cert.Kernel3.Proj.frame m ρ

theorem kernel3_ideal : Cert.quiescent_Kernel3Ideal (hKernel3Ideal := Cert.Kernel3Ideal.Gen.facts) :=
  fun m ρ _ => Cert.Kernel3Ideal.Proj.frame m ρ

/-- The input projection's reference, whose program has no counter at all. -/
theorem reference3_ideal : Cert.quiescent_Reference3Ideal (hReference3Ideal := Cert.Reference3Ideal.Gen.facts) :=
  fun m ρ _ => (θ_run Cert.Reference3Ideal.defs _ _).mono (fun r h => ⟨fun c => (h c).2.2.2.2.2, sem_eq_zero_of_no_sems (by decide) r.2⟩)
    (Cert.Reference3Ideal.Value.run (F := Ideal) m ρ)

/-- The kernel's constant is the single-precision number nearest to `-4 / ln 2`. -/
theorem preserves : Cert.preserves_Kernel_KernelIdeal :=
  IdealRules.named_const.statement Cert.KernelIdeal.κ "decay" .f32 0xC0B8AA3B#32 (((-4) * (Real.log 2)⁻¹ : ℝ) : EReal) rfl

end Cert.Frames

end
-- ==== Proof.FramesPre.lean ====
module
public import proofs.«01_k».proof.Proof.Frames
public import proofs.«01_k».proof.Proof.Gen.Pre_rg_finite
@[expose] public section
noncomputable section

namespace Cert.Frames

open Idealize.ShloMosaic Idealize.SL.Sem

/-! The frames of the recurrence's programs from memories that satisfy the precondition. -/

/-- The same from memories that satisfy the precondition. -/
theorem kernel_ideal_pre : Cert.quiescent_KernelIdeal_pre_rg_finite (hKernelIdeal := Cert.KernelIdeal.Gen.facts)
    (hPre_rg_finite := Cert.Pre_rg_finite.Gen.facts) :=
  fun m ρ _ => Cert.KernelIdeal.Rg.frame m ρ

/-- The same from memories that satisfy the precondition. -/
theorem reference_ideal_pre : Cert.quiescent_ReferenceIdeal_pre_rg_finite (hReferenceIdeal := Cert.ReferenceIdeal.Gen.facts)
    (hPre_rg_finite := Cert.Pre_rg_finite.Gen.facts) :=
  fun m ρ _ => reference_ideal m ρ trivial

end Cert.Frames

end
-- ==== Proof.MixRow.lean ====
module

public import Idealize.ShloMosaic.PureOps.Ideal
public import Mathlib.Algebra.BigOperators.Fin

@[expose] public section

noncomputable section

namespace Cert.Mix

open Idealize.ShloMosaic

/-! One token of the channel mix, as a function of the numbers it reads. -/

abbrev half : EReal := Ideal.ofBits .f32 0x3F000000#32
abbrev eps : EReal := Ideal.ofBits .f32 0x358637BD#32
abbrev n64 : EReal := Ideal.ofBits .f32 0x42800000#32
abbrev n128 : EReal := Ideal.ofBits .f32 0x43000000#32
abbrev n1024 : EReal := Ideal.ofBits .f32 0x44800000#32

/-- What one token's channel mix reads: the residual row `x`, the three mixers' rows (`hy`, `hm`, `f + b`), the gates'
    pre-activations (`o`, `gp`), the gains and modulations, and the three matrices. -/
structure Row where
  x : Fin 1024 → EReal
  hy : Fin 256 → EReal
  hm : Fin 512 → EReal
  o : Fin 512 → EReal
  f : Fin 256 → EReal
  b : Fin 256 → EReal
  gp : Fin 256 → EReal
  g : Fin 1024 → EReal
  wo : Fin 1024 → Fin 1024 → EReal
  gt : Fin 1024 → EReal
  sh : Fin 1024 → EReal
  sc : Fin 1024 → EReal
  gt2 : Fin 1024 → EReal
  g2 : Fin 1024 → EReal
  w1 : Fin 1024 → Fin 4096 → EReal
  w2 : Fin 4096 → Fin 1024 → EReal
  fg : Fin 1024 → EReal

namespace Row

variable (R : Row)

/-- The sum of squares of the group of 64 lanes that lane `j` lies in. -/
def sq64 (y : Fin 256 → EReal) (j : Fin 256) : EReal :=
  ∑ k : Fin 64, y ⟨64 * (j.val / 64) + k.val, by omega⟩ * y ⟨64 * (j.val / 64) + k.val, by omega⟩

/-- A row of 256 lanes normalised in groups of 64. -/
def norm64 (y g : Fin 256 → EReal) (j : Fin 256) : EReal :=
  y j * Ideal.rsqrt (Ideal.div (sq64 y j) n64 + eps) * g j

/-- The long convolution's part of the mixed row. -/
def hyN (j : Fin 256) : EReal := norm64 R.hy (fun j => R.g ⟨j.val, by omega⟩) j

/-- The matrix memory's part: normalised by head, then gated. -/
def mlN (j : Fin 512) : EReal :=
  R.hm j * Ideal.rsqrt (Ideal.div (∑ k : Fin 128, R.hm ⟨128 * (j.val / 128) + k.val, by omega⟩ * R.hm ⟨128 * (j.val / 128) + k.val, by omega⟩) n128 + eps)
    * R.g ⟨256 + j.val, by omega⟩ * Ideal.logistic (R.o j)

/-- The gate of the recurrence's part. -/
def gelu (v : EReal) : EReal :=
  half * v * (1 + Ideal.tanh (Ideal.ofBits .f32 0x3F4C422A#32 * (v + Ideal.ofBits .f32 0x3D372713#32 * (v * v * v))))

/-- The recurrence's two directions, added and gated. -/
def rg (j : Fin 256) : EReal := (R.f j + R.b j) * gelu (R.gp j)

/-- The recurrence's part of the mixed row. -/
def rgN (j : Fin 256) : EReal := norm64 R.rg (fun j => R.g ⟨768 + j.val, by omega⟩) j

/-- The mixed row. -/
def cat (k : Fin 1024) : EReal :=
  if h : k.val < 256 then R.hyN ⟨k.val, h⟩
  else if h' : k.val < 768 then R.mlN ⟨k.val - 256, by omega⟩
  else R.rgN ⟨k.val - 768, by omega⟩

/-- The row after the channel mix. -/
def mid (n : Fin 1024) : EReal := R.x n + R.gt n * ∑ k : Fin 1024, R.cat k * R.wo k n

/-- The reciprocal root of a row's mean square. -/
def rms (y : Fin 1024 → EReal) : EReal := Ideal.rsqrt (Ideal.div (∑ k : Fin 1024, y k * y k) n1024 + eps)

/-- The modulated norm of the mixed row. -/
def nrm (n : Fin 1024) : EReal := R.mid n * rms R.mid * R.g2 n * (1 + R.sc n) + R.sh n

/-- The hidden activation before its square. -/
def act (k : Fin 4096) : EReal := max (∑ j : Fin 1024, R.nrm j * R.w1 j k) 0

/-- The row after the MLP. -/
def out (n : Fin 1024) : EReal := R.mid n + R.gt2 n * ∑ k : Fin 4096, R.act k * R.act k * R.w2 k n

/-- The row after the last norm. -/
def fin (n : Fin 1024) : EReal := R.out n * rms R.out * R.fg n

end Row

/-- What token `T` of sequence `b` reads, out of the thirteen arguments: the last of the two layers' weights, the
    modulation's rows 2, 3, 4 and 5, and the second mixer's row in its own column-major order of the tokens. -/
def token (a0 : Fin 8 → Fin 2048 → Fin 1024 → EReal) (a1 : Fin 8 → Fin 2048 → Fin 256 → EReal) (a2 : Fin 8 → Fin 2048 → Fin 512 → EReal)
    (a3 : Fin 8 → Fin 2048 → Fin 768 → EReal) (a4 a5 : Fin 8 → Fin 2048 → Fin 256 → EReal) (a6 : Fin 2 → Fin 16 → Fin 6144 → EReal)
    (a7 : Fin 2 → Fin 1024 → EReal) (a8 : Fin 2 → Fin 1024 → Fin 1024 → EReal) (a9 : Fin 2 → Fin 1024 → EReal)
    (a10 : Fin 2 → Fin 1024 → Fin 4096 → EReal) (a11 : Fin 2 → Fin 4096 → Fin 1024 → EReal) (a12 : Fin 1024 → EReal)
    (b : Fin 8) (T : Fin 2048) : Row where
  x := a0 b T
  hy := a1 b T
  hm := a2 b ⟨T.val % 64 * 32 + T.val / 64, by omega⟩
  o l := a3 b T ⟨l.val, by omega⟩
  f := a4 b T
  b := a5 b T
  gp l := a3 b T ⟨512 + l.val, by omega⟩
  g := a7 1
  wo := a8 1
  gt n := a6 1 ⟨b.val, by omega⟩ ⟨2048 + n.val, by omega⟩
  sh n := a6 1 ⟨b.val, by omega⟩ ⟨3072 + n.val, by omega⟩
  sc n := a6 1 ⟨b.val, by omega⟩ ⟨4096 + n.val, by omega⟩
  gt2 n := a6 1 ⟨b.val, by omega⟩ ⟨5120 + n.val, by omega⟩
  g2 := a9 1
  w1 := a10 1
  w2 := a11 1
  fg := a12

end Cert.Mix

end
-- ==== Proof.MixTile.lean ====
module

public import proofs.«01_k».proof.Proof.Gen.Kernel2Ideal.Skeleton
public import proofs.«01_k».proof.Proof.MixRow
public import Idealize.ShloMosaic.Lib.Pointwise

@[expose] public section

noncomputable section

namespace Cert.Mix

open Cert.Kernel2Ideal Cert.Kernel2Ideal.Gen Idealize.ShloMosaic

/-! The tile the channel mix computes, read at a token. -/

/-! ## Constants and sums -/

abbrev r64 : EReal := Ideal.ofBits .f32 0x3C800000#32

theorem half_eq : half = ((1 / 2 : ℝ) : EReal) := by
  simp [half, Ideal.ofBits, Ideal.ieee]; norm_num; rw [← EReal.coe_mul]; norm_num

theorem n64_eq : n64 = ((64 : ℝ) : EReal) := by
  simp [n64, Ideal.ofBits, Ideal.ieee]; norm_num; rw [← EReal.coe_mul]; norm_num

theorem r64_eq : r64 = ((1 / 64 : ℝ) : EReal) := by
  simp [r64, Ideal.ofBits, Ideal.ieee]; norm_num; rw [← EReal.coe_mul]; norm_num

/-- Multiplying by 1/64 divides by 64. -/
theorem mul_r64 (a : EReal) : a * r64 = Ideal.div a n64 := by
  rw [r64_eq, n64_eq, Ideal.div, if_neg (by norm_num), ← EReal.coe_inv]
  norm_num

/-- The comparison of a lane number with 64. -/
theorem select_lt64 (l : Fin 128) (a b : EReal) :
    Scalar.select (IntOp.cmpi CmpIPredicate.slt (BitVec.ofNat 32 l.val) 64#32) a b = if l.val < 64 then a else b := by
  have key : ∀ l : Fin 128, (IntOp.cmpi CmpIPredicate.slt (BitVec.ofNat 32 l.val) 64#32) = if l.val < 64 then 1#1 else 0#1 := by decide
  rw [key l]
  by_cases h : l.val < 64
  · rw [if_pos h, if_pos h]; rfl
  · rw [if_neg h, if_neg h]; rfl

theorem sum128 (f : Fin 128 → EReal) : ∑ x, f x = ∑ k : Fin 64, f ⟨k.val, by omega⟩ + ∑ k : Fin 64, f ⟨64 + k.val, by omega⟩ :=
  Fin.sum_univ_add (a := 64) (b := 64) f

/-- Of a row of 128 lanes, the masked sums pick the half that the lane lies in. -/
theorem masked (f : Fin 128 → EReal) (l : Fin 128) :
    Scalar.select (IntOp.cmpi CmpIPredicate.slt (BitVec.ofNat 32 l.val) 64#32)
      (∑ x : Fin 128, Scalar.select (IntOp.cmpi CmpIPredicate.slt (BitVec.ofNat 32 x.val) 64#32) (f x) 0)
      (∑ x : Fin 128, Scalar.select (IntOp.cmpi CmpIPredicate.slt (BitVec.ofNat 32 x.val) 64#32) 0 (f x))
      = ∑ k : Fin 64, f ⟨64 * (l.val / 64) + k.val, by omega⟩ := by
  simp only [select_lt64, sum128]
  have h1 : ∀ k : Fin 64, (k.val < 64) = True := fun k => eq_true k.isLt
  have h2 : ∀ k : Fin 64, (64 + k.val < 64) = False := fun k => eq_false (by omega)
  simp only [h1, h2, if_true, if_false, Finset.sum_const_zero, add_zero, zero_add]
  by_cases h : l.val < 64
  · rw [if_pos h]
    refine Finset.sum_congr rfl fun k _ => congrArg f (Fin.ext ?_)
    show k.val = 64 * (l.val / 64) + k.val
    omega
  · rw [if_neg h]
    refine Finset.sum_congr rfl fun k _ => congrArg f (Fin.ext ?_)
    show 64 + k.val = 64 * (l.val / 64) + k.val
    omega

theorem sum4096 (f : Fin 4096 → EReal) :
    ∑ x, f x = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ := by
  rw [Fin.sum_univ_add (a := 3072) (b := 1024) f, Fin.sum_univ_add (a := 2048) (b := 1024), Fin.sum_univ_add (a := 1024) (b := 1024)]
  rfl

/-- Half of one plus the hyperbolic tangent of half a number is the number's logistic function. -/
theorem half_tanh (x : EReal) : half + half * Ideal.tanh (half * x) = Ideal.logistic x := by
  rw [half_eq, Ideal.logistic]
  induction x with
  | bot =>
    rw [EReal.coe_mul_bot_of_pos (by norm_num), EReal.neg_bot]
    show ((1 / 2 : ℝ) : EReal) + ((1 / 2 : ℝ) : EReal) * (-1) = Ideal.div 1 (1 + ⊤)
    rw [EReal.add_top_of_ne_bot (by exact EReal.coe_ne_bot 1), Ideal.div, if_neg (by simp), EReal.inv_top, mul_zero,
      show (-1 : EReal) = ((-1 : ℝ) : EReal) from rfl, ← EReal.coe_mul, ← EReal.coe_add]
    norm_num
  | top =>
    rw [EReal.coe_mul_top_of_pos (by norm_num), EReal.neg_top]
    show ((1 / 2 : ℝ) : EReal) + ((1 / 2 : ℝ) : EReal) * ((1 : ℝ) : EReal) = Ideal.div 1 (1 + 0)
    rw [← EReal.coe_mul, ← EReal.coe_add, add_zero, Ideal.div, if_neg one_ne_zero]
    norm_num
  | coe v =>
    rw [← EReal.coe_mul, ← EReal.coe_neg]
    show ((1 / 2 : ℝ) : EReal) + ((1 / 2 : ℝ) : EReal) * ((Real.tanh (1 / 2 * v) : ℝ) : EReal)
      = Ideal.div ((1 : ℝ) : EReal) (((1 : ℝ) : EReal) + ((Real.exp (-v) : ℝ) : EReal))
    have hp : (0 : ℝ) < 1 + Real.exp (-v) := by positivity
    rw [← EReal.coe_add, Ideal.div, if_neg (by exact_mod_cast hp.ne'), ← EReal.coe_inv, ← EReal.coe_mul, ← EReal.coe_mul,
      ← EReal.coe_add]
    congr 1
    have ha : (0 : ℝ) < Real.exp (1 / 2 * v) := Real.exp_pos _
    have h1 : Real.exp (-(1 / 2 * v)) = (Real.exp (1 / 2 * v))⁻¹ := Real.exp_neg _
    have h2 : Real.exp (-v) = (Real.exp (1 / 2 * v))⁻¹ * (Real.exp (1 / 2 * v))⁻¹ := by
      rw [← h1, ← Real.exp_add]; congr 1; ring
    rw [Real.tanh_eq_sinh_div_cosh, Real.sinh_eq, Real.cosh_eq, h1, h2]
    generalize Real.exp (1 / 2 * v) = a at ha
    have h3 : a ^ 2 + 1 ≠ 0 := by positivity
    field_simp
    ring

/-! ## The stored values at a token -/

variable (R : Row) (r : Fin 512)

/-- The group sums of the first 128 lanes, divided. -/
theorem pay5_apply (v2 : Vec Ideal S512x256 .f32) (l : Fin 128) :
    k0_pay5 (F := Ideal) v2 (ix2 r l) = Ideal.div (Row.sq64 (fun j => v2 (ix2 r j)) ⟨l.val, by omega⟩) n64 := by
  pointwise [k0_pay5, k0_pay4, k0_pay3]
  rw [masked (fun x => v2 (ix2 r ⟨x.val, by omega⟩) * v2 (ix2 r ⟨x.val, by omega⟩)) l, mul_r64]
  rfl

/-- The group sums of the last 128 lanes. -/
theorem pay6_apply (v2 : Vec Ideal S512x256 .f32) (l : Fin 128) :
    k0_pay6 (F := Ideal) v2 (ix2 r l) = Row.sq64 (fun j => v2 (ix2 r j)) ⟨128 + l.val, by omega⟩ := by
  pointwise [k0_pay6, k0_pay4, k0_pay3]
  rw [masked (fun x => v2 (ix2 r ⟨128 + x.val, by omega⟩) * v2 (ix2 r ⟨128 + x.val, by omega⟩)) l]
  refine Finset.sum_congr rfl fun k _ => ?_
  have e : (⟨128 + (64 * (l.val / 64) + k.val), by omega⟩ : Fin 256) = ⟨64 * ((128 + l.val) / 64) + k.val, by omega⟩ := by
    apply Fin.ext; show 128 + (64 * (l.val / 64) + k.val) = 64 * ((128 + l.val) / 64) + k.val; omega
  exact congrArg (fun j => v2 (ix2 r j) * v2 (ix2 r j)) e

theorem pay3_fun (v2 : Vec Ideal S512x256 .f32) (l : Fin 256) : k0_pay3 (F := Ideal) v2 (ix2 r l) = v2 (ix2 r l) := by
  pointwise [k0_pay3]

theorem pay2_apply (v0 : Vec Ideal S1x1x1024 .f32) (k : Fin 1024) : k0_pay2 (F := Ideal) v0 (ix2 0 k) = v0 (ix3 0 0 k) := by
  pointwise [k0_pay2]

theorem pay7_raw (v1 : FVec Ideal S1x1024 .f32) (v3 : FVec Ideal S512x256 .f32) (a b : FVec Ideal S512x128 .f32) (e : EReal) (l : Fin 256) :
    k0_pay7 (F := Ideal) v1 v3 a b e (ix2 r l) = v3 (ix2 r l)
      * Ideal.rsqrt ((if h : l.val < 128 then a (ix2 r ⟨l.val, h⟩) else b (ix2 r ⟨l.val - 128, by omega⟩) * e) + eps)
      * v1 (ix2 0 ⟨l.val, by omega⟩) := by
  pointwise [k0_pay7]

/-- The first part of the mixed row. -/
theorem hy_apply (v0 : Vec Ideal S1x1x1024 .f32) (v2 : Vec Ideal S512x256 .f32)
    (hg : ∀ k : Fin 1024, v0 (ix3 0 0 k) = R.g k) (hy : ∀ j : Fin 256, v2 (ix2 r j) = R.hy j) (l : Fin 256) :
    k0_pay7 (F := Ideal) (k0_pay2 v0) (k0_pay3 v2) (k0_pay5 v2) (k0_pay6 v2) r64 (ix2 r l) = R.hyN l := by
  have e : (fun j => v2 (ix2 r j)) = R.hy := funext hy
  rw [pay7_raw, pay3_fun, pay2_apply, hg, hy, Row.hyN, Row.norm64]
  congr 4
  by_cases h : l.val < 128
  · rw [dif_pos h, pay5_apply, e]
  · rw [dif_neg h, pay6_apply, e, mul_r64]
    congr 2
    apply Fin.ext
    show 128 + (l.val - 128) = l.val
    omega

/-- A lane of the second part, by the head it lies in. -/
theorem mlN_at (q o p : ℕ) (ho : o = 128 * q) (hp : p = 256 + o) (hq : q < 4) (l : Fin 128) :
    R.mlN ⟨o + l.val, by omega⟩ = R.hm ⟨o + l.val, by omega⟩
      * Ideal.rsqrt (Ideal.div (∑ k : Fin 128, R.hm ⟨o + k.val, by omega⟩ * R.hm ⟨o + k.val, by omega⟩) n128 + eps)
      * R.g ⟨p + l.val, by omega⟩ * Ideal.logistic (R.o ⟨o + l.val, by omega⟩) := by
  subst ho hp
  have e : ∀ k : Fin 128, (⟨128 * ((128 * q + l.val) / 128) + k.val, by omega⟩ : Fin 512) = ⟨128 * q + k.val, by omega⟩ := by
    intro k; apply Fin.ext; show 128 * ((128 * q + l.val) / 128) + k.val = 128 * q + k.val; omega
  have e2 : (⟨256 + (128 * q + l.val), by omega⟩ : Fin 1024) = ⟨256 + 128 * q + l.val, by omega⟩ :=
    Fin.ext (Nat.add_assoc _ _ _).symm
  rw [Row.mlN, e2]
  simp only [e]

section Heads

variable (v0 : Vec Ideal S1x1x1024 .f32) (w : Fin 8 → Vec Ideal S1x64x1x512 .f32) (v69 : Vec Ideal S1x512x512 .f32)

/-- The eight strided loads of the matrix memory's rows, stacked. -/
abbrev stacked : FVec Ideal S512x512 .f32 :=
  k0_pay16 (F := Ideal) (k0_pay8 (w 0)) (k0_pay9 (w 1)) (k0_pay10 (w 2)) (k0_pay11 (w 3)) (k0_pay12 (w 4)) (k0_pay13 (w 5)) (k0_pay14 (w 6)) (k0_pay15 (w 7))

theorem pay17_apply (l : Fin 512) : k0_pay17 (F := Ideal) v69 (ix2 r l) = Ideal.logistic (v69 (ix3 0 r l)) := by
  rw [← half_tanh]
  pointwise [k0_pay17]

theorem stacked_apply (hw : ∀ (q : Fin 8) (a : Fin 64) (l : Fin 512), r.val = 64 * q.val + a.val → w q (ix4 0 a 0 l) = R.hm l) (l : Fin 512) :
    stacked w (ix2 r l) = R.hm l := by
  unfold stacked
  pointwise [k0_pay16, k0_pay8, k0_pay9, k0_pay10, k0_pay11, k0_pay12, k0_pay13, k0_pay14, k0_pay15]
  by_cases h0 : r.val < 64
  · rw [dif_pos h0]
    refine hw 0 _ l ?_
    show r.val = 64 * 0 + (r.val)
    omega
  rw [dif_neg h0]
  by_cases h1 : r.val - 64 < 64
  · rw [dif_pos h1]
    refine hw 1 _ l ?_
    show r.val = 64 * 1 + (r.val - 64)
    omega
  rw [dif_neg h1]
  by_cases h2 : r.val - 64 - 64 < 64
  · rw [dif_pos h2]
    refine hw 2 _ l ?_
    show r.val = 64 * 2 + (r.val - 64 - 64)
    omega
  rw [dif_neg h2]
  by_cases h3 : r.val - 64 - 64 - 64 < 64
  · rw [dif_pos h3]
    refine hw 3 _ l ?_
    show r.val = 64 * 3 + (r.val - 64 - 64 - 64)
    omega
  rw [dif_neg h3]
  by_cases h4 : r.val - 64 - 64 - 64 - 64 < 64
  · rw [dif_pos h4]
    refine hw 4 _ l ?_
    show r.val = 64 * 4 + (r.val - 64 - 64 - 64 - 64)
    omega
  rw [dif_neg h4]
  by_cases h5 : r.val - 64 - 64 - 64 - 64 - 64 < 64
  · rw [dif_pos h5]
    refine hw 5 _ l ?_
    show r.val = 64 * 5 + (r.val - 64 - 64 - 64 - 64 - 64)
    omega
  rw [dif_neg h5]
  by_cases h6 : r.val - 64 - 64 - 64 - 64 - 64 - 64 < 64
  · rw [dif_pos h6]
    refine hw 6 _ l ?_
    show r.val = 64 * 6 + (r.val - 64 - 64 - 64 - 64 - 64 - 64)
    omega
  rw [dif_neg h6]
  refine hw 7 _ l ?_
  show r.val = 64 * 7 + (r.val - 64 - 64 - 64 - 64 - 64 - 64 - 64)
  omega

variable (hg : ∀ k : Fin 1024, v0 (ix3 0 0 k) = R.g k)
  (hw : ∀ (q : Fin 8) (a : Fin 64) (l : Fin 512), r.val = 64 * q.val + a.val → w q (ix4 0 a 0 l) = R.hm l)
  (ho : ∀ l : Fin 512, v69 (ix3 0 r l) = R.o l)
include hg hw ho

theorem ml0_apply (l : Fin 128) :
    k0_pay18 (F := Ideal) (k0_pay2 v0) (k0_pay8 (w 0)) (k0_pay9 (w 1)) (k0_pay10 (w 2)) (k0_pay11 (w 3)) (k0_pay12 (w 4)) (k0_pay13 (w 5)) (k0_pay14 (w 6)) (k0_pay15 (w 7)) v69 (ix2 r l)
      = R.mlN ⟨0 + l.val, by omega⟩ := by
  rw [mlN_at R 0 0 256 rfl rfl (by norm_num)]
  pointwise [k0_pay18]
  simp only [pay17_apply, ho, pay2_apply, hg, stacked_apply R r w hw]

theorem ml1_apply (l : Fin 128) :
    k0_pay19 (F := Ideal) (k0_pay2 v0) (k0_pay8 (w 0)) (k0_pay9 (w 1)) (k0_pay10 (w 2)) (k0_pay11 (w 3)) (k0_pay12 (w 4)) (k0_pay13 (w 5)) (k0_pay14 (w 6)) (k0_pay15 (w 7)) v69 (ix2 r l)
      = R.mlN ⟨128 + l.val, by omega⟩ := by
  rw [mlN_at R 1 128 384 rfl rfl (by norm_num)]
  pointwise [k0_pay19]
  simp only [pay17_apply, ho, pay2_apply, hg, stacked_apply R r w hw]

theorem ml2_apply (l : Fin 128) :
    k0_pay22 (F := Ideal) (k0_pay2 v0) (k0_pay17 v69) (k0_pay20 (k0_pay8 (w 0)) (k0_pay9 (w 1)) (k0_pay10 (w 2)) (k0_pay11 (w 3)) (k0_pay12 (w 4)) (k0_pay13 (w 5)) (k0_pay14 (w 6)) (k0_pay15 (w 7)))
        (k0_pay21 (k0_pay8 (w 0)) (k0_pay9 (w 1)) (k0_pay10 (w 2)) (k0_pay11 (w 3)) (k0_pay12 (w 4)) (k0_pay13 (w 5)) (k0_pay14 (w 6)) (k0_pay15 (w 7))) (ix2 r l)
      = R.mlN ⟨256 + l.val, by omega⟩ := by
  rw [mlN_at R 2 256 512 rfl rfl (by norm_num)]
  pointwise [k0_pay22, k0_pay20, k0_pay21]
  simp only [pay17_apply, ho, pay2_apply, hg, stacked_apply R r w hw]

theorem ml3_apply (l : Fin 128) :
    k0_pay23 (F := Ideal) (k0_pay2 v0) (stacked w) (k0_pay17 v69) (ix2 r l) = R.mlN ⟨384 + l.val, by omega⟩ := by
  rw [mlN_at R 3 384 640 rfl rfl (by norm_num)]
  pointwise [k0_pay23]
  simp only [pay17_apply, ho, pay2_apply, hg, stacked_apply R r w hw]

end Heads

section Recurrence

variable (v0 : Vec Ideal S1x1x1024 .f32) (v146 : Vec Ideal S1x512x256 .f32) (v161 v163 : Vec Ideal S64x1x8x256 .f32)

theorem pay24_apply (l : Fin 256) : k0_pay24 (F := Ideal) v146 (ix2 r l) = Row.gelu (v146 (ix3 0 r l)) := by
  pointwise [k0_pay24]
  rfl

theorem pay25_apply (hf : ∀ (a : Fin 64) (e : Fin 8) (l : Fin 256), r.val = 8 * a.val + e.val → v161 (ix4 a 0 e l) = R.f l)
    (hb : ∀ (a : Fin 64) (e : Fin 8) (l : Fin 256), r.val = 8 * a.val + e.val → v163 (ix4 a 0 e l) = R.b l)
    (hp : ∀ l : Fin 256, v146 (ix3 0 r l) = R.gp l) (l : Fin 256) :
    k0_pay25 (F := Ideal) (k0_pay24 v146) v161 v163 (ix2 r l) = R.rg l := by
  have e := pay24_apply r v146 l
  pointwise [k0_pay25]
  rw [hf _ _ l (by show r.val = 8 * (r.val / 8) + r.val % 8; omega), hb _ _ l (by show r.val = 8 * (r.val / 8) + r.val % 8; omega), e, hp]
  rfl

variable (hr : ∀ l : Fin 256, k0_pay25 (F := Ideal) (k0_pay24 v146) v161 v163 (ix2 r l) = R.rg l)
include hr

theorem pay27_apply (l : Fin 128) :
    k0_pay27 (F := Ideal) (k0_pay24 v146) v161 v163 (ix2 r l) = Ideal.div (Row.sq64 R.rg ⟨l.val, by omega⟩) n64 := by
  pointwise [k0_pay27, k0_pay26]
  simp only [hr]
  rw [masked (fun x => R.rg ⟨x.val, by omega⟩ * R.rg ⟨x.val, by omega⟩) l, mul_r64]
  rfl

theorem pay30_apply (l : Fin 128) :
    Scalar.select (k0_pay29 (ix2 r l)) (k0_pay30 (F := Ideal) (k0_pay24 v146) v161 v163 (ix2 r l)) (k0_pay31 (F := Ideal) (k0_pay24 v146) v161 v163 (ix2 r l)) * r64
      = Ideal.div (Row.sq64 R.rg ⟨128 + l.val, by omega⟩) n64 := by
  rw [← mul_r64]
  congr 1
  pointwise [k0_pay29, k0_pay30, k0_pay31, k0_pay28, k0_pay26]
  simp only [hr]
  rw [masked (fun x => R.rg ⟨128 + x.val, by omega⟩ * R.rg ⟨128 + x.val, by omega⟩) l]
  refine Finset.sum_congr rfl fun k _ => ?_
  have e : (⟨128 + (64 * (l.val / 64) + k.val), by omega⟩ : Fin 256) = ⟨64 * ((128 + l.val) / 64) + k.val, by omega⟩ := by
    apply Fin.ext; show 128 + (64 * (l.val / 64) + k.val) = 64 * ((128 + l.val) / 64) + k.val; omega
  exact congrArg (fun j => R.rg j * R.rg j) e

/-- The last part of the mixed row, from its two halves of group sums. -/
theorem rg_apply (hg : ∀ k : Fin 1024, v0 (ix3 0 0 k) = R.g k) (l : Fin 256) :
    k0_pay25 (F := Ideal) (k0_pay24 v146) v161 v163 (ix2 r l)
      * Ideal.rsqrt ((if h : l.val < 128 then k0_pay27 (F := Ideal) (k0_pay24 v146) v161 v163 (ix2 r ⟨l.val, h⟩)
          else Scalar.select (k0_pay29 (ix2 r ⟨l.val - 128, by omega⟩)) (k0_pay30 (F := Ideal) (k0_pay24 v146) v161 v163 (ix2 r ⟨l.val - 128, by omega⟩))
            (k0_pay31 (F := Ideal) (k0_pay24 v146) v161 v163 (ix2 r ⟨l.val - 128, by omega⟩)) * r64) + eps)
      * k0_pay2 (F := Ideal) v0 (ix2 0 ⟨768 + l.val, by omega⟩) = R.rgN l := by
  rw [hr, pay2_apply, hg, Row.rgN, Row.norm64]
  congr 4
  by_cases h : l.val < 128
  · rw [dif_pos h, pay27_apply R r v146 v161 v163 hr]
  · rw [dif_neg h, pay30_apply R r v146 v161 v163 hr]
    congr 2
    apply Fin.ext
    show 128 + (l.val - 128) = l.val
    omega

end Recurrence

section Matrices

/-- The row after the channel mix, from the parts of the mixed row. -/
theorem pay32_apply (v1 : FVec Ideal S1x1024 .f32) (v51 : FVec Ideal S512x256 .bf16) (v94 v111 v128 v145 : FVec Ideal S512x128 .bf16)
    (v167 : FVec Ideal S512x256 .f32) (v187 : FVec Ideal S512x128 .f32) (v191 : IVec S512x128 1) (v201 v203 : FVec Ideal S512x128 .f32)
    (v217 : Vec Ideal S1x512x1024 .f32) (v219 : Vec Ideal S1x1x1x1x1024 .f32) (v221 : Vec Ideal S1x1024x1024 .bf16)
    (h51 : ∀ l : Fin 256, v51 (ix2 r l) = R.hyN l)
    (h94 : ∀ l : Fin 128, v94 (ix2 r l) = R.mlN ⟨0 + l.val, by omega⟩) (h111 : ∀ l : Fin 128, v111 (ix2 r l) = R.mlN ⟨128 + l.val, by omega⟩)
    (h128 : ∀ l : Fin 128, v128 (ix2 r l) = R.mlN ⟨256 + l.val, by omega⟩) (h145 : ∀ l : Fin 128, v145 (ix2 r l) = R.mlN ⟨384 + l.val, by omega⟩)
    (hrg : ∀ l : Fin 256, v167 (ix2 r l)
      * Ideal.rsqrt ((if h : l.val < 128 then v187 (ix2 r ⟨l.val, h⟩)
          else Scalar.select (v191 (ix2 r ⟨l.val - 128, by omega⟩)) (v201 (ix2 r ⟨l.val - 128, by omega⟩)) (v203 (ix2 r ⟨l.val - 128, by omega⟩)) * r64) + eps)
      * v1 (ix2 0 ⟨768 + l.val, by omega⟩) = R.rgN l)
    (hx : ∀ n : Fin 1024, v217 (ix3 0 r n) = R.x n) (hgt : ∀ n : Fin 1024, v219 (ix5 0 0 0 0 n) = R.gt n)
    (hwo : ∀ k n : Fin 1024, v221 (ix3 0 k n) = R.wo k n) (n : Fin 1024) :
    k0_pay32 (F := Ideal) v1 v51 v94 v111 v128 v145 v167 v187 v191 v201 v203 v217 v219 v221 (ix2 r n) = R.mid n := by
  pointwise [k0_pay32]
  rw [hx, hgt, Row.mid]
  congr 2
  refine Finset.sum_congr rfl fun k _ => ?_
  rw [hwo]
  congr 1
  rw [Row.cat]
  by_cases h0 : k.val < 256
  · rw [dif_pos h0, dif_pos h0, h51]
  rw [dif_neg h0, dif_neg h0]
  by_cases h1 : k.val - 256 < 128
  · rw [dif_pos h1, dif_pos (show k.val < 768 by omega), h94]
    exact congrArg R.mlN (Fin.ext (by show 0 + (k.val - 256) = k.val - 256; omega))
  rw [dif_neg h1]
  by_cases h2 : k.val - 256 - 128 < 128
  · rw [dif_pos h2, dif_pos (show k.val < 768 by omega), h111]
    exact congrArg R.mlN (Fin.ext (by show 128 + (k.val - 256 - 128) = k.val - 256; omega))
  rw [dif_neg h2]
  by_cases h3 : k.val - 256 - 128 - 128 < 128
  · rw [dif_pos h3, dif_pos (show k.val < 768 by omega), h128]
    exact congrArg R.mlN (Fin.ext (by show 256 + (k.val - 256 - 128 - 128) = k.val - 256; omega))
  rw [dif_neg h3]
  by_cases h4 : k.val - 256 - 128 - 128 - 128 < 128
  · rw [dif_pos h4, dif_pos (show k.val < 768 by omega), h145]
    exact congrArg R.mlN (Fin.ext (by show 384 + (k.val - 256 - 128 - 128 - 128) = k.val - 256; omega))
  rw [dif_neg h4, dif_neg (show ¬k.val < 768 by omega)]
  refine (hrg ⟨k.val - 256 - 128 - 128 - 128 - 128, by omega⟩).trans ?_
  exact congrArg R.rgN (Fin.ext (by show k.val - 256 - 128 - 128 - 128 - 128 = k.val - 768; omega))

theorem pay33_apply (v : Vec Ideal S1x1x1024 .f32) (l : Fin 1024) : k0_pay33 (F := Ideal) v (ix2 0 l) = v (ix3 0 0 l) := by
  pointwise [k0_pay33]

theorem pay34_apply (v : Vec Ideal S1x1x1x1x1024 .f32) (l : Fin 1024) : k0_pay34 (F := Ideal) v (ix2 0 l) = v (ix5 0 0 0 0 l) := by
  pointwise [k0_pay34]

theorem pay35_apply (v : Vec Ideal S1x1x1x1x1024 .f32) (l : Fin 1024) : k0_pay35 (F := Ideal) v (ix2 0 l) = v (ix5 0 0 0 0 l) := by
  pointwise [k0_pay35]

/-- The modulated norm, from the row it norms and the row's sum of squares. -/
theorem pay37_apply (v226 : FVec Ideal S512x1024 .f32) (v228 v230 v232 : FVec Ideal S1x1024 .f32) (v235 : FVec Ideal S512x1 .f32)
    (h226 : ∀ n : Fin 1024, v226 (ix2 r n) = R.mid n) (h235 : v235 (ix2 r 0) = ∑ k, R.mid k * R.mid k)
    (h228 : ∀ n : Fin 1024, v228 (ix2 0 n) = R.g2 n) (h230 : ∀ n : Fin 1024, v230 (ix2 0 n) = R.sh n)
    (h232 : ∀ n : Fin 1024, v232 (ix2 0 n) = R.sc n) (n : Fin 1024) :
    k0_pay37 (F := Ideal) v226 v228 v230 v232 v235 (ix2 r n) = R.nrm n := by
  pointwise [k0_pay37]
  rw [h226, h235, h228, h230, h232]
  rfl

/-- One quarter of the hidden lanes, through the second matrix. -/
def quarter (o : ℕ) (ho : o + 1024 ≤ 4096) (n : Fin 1024) : EReal :=
  ∑ k : Fin 1024, R.act ⟨o + k.val, by omega⟩ * R.act ⟨o + k.val, by omega⟩ * R.w2 ⟨o + k.val, by omega⟩ n

theorem quarter_of (o : ℕ) (ho : o + 1024 ≤ 4096) (a : Fin 1024 → EReal) (b c : Vec Ideal S1x1024x1024 .bf16)
    (ha : ∀ n, a n = R.nrm n) (hb : ∀ j k : Fin 1024, b (ix3 0 j k) = R.w1 j ⟨o + k.val, by omega⟩)
    (hc : ∀ k n : Fin 1024, c (ix3 0 k n) = R.w2 ⟨o + k.val, by omega⟩ n) (n : Fin 1024) :
    ∑ x : Fin 1024, max (∑ j : Fin 1024, a j * b (ix3 0 j x)) 0 * max (∑ j : Fin 1024, a j * b (ix3 0 j x)) 0 * c (ix3 0 x n)
      = quarter R o ho n := by
  simp only [ha, hb, hc]
  rfl

theorem out_quarters (n : Fin 1024) :
    R.out n = R.mid n + R.gt2 n * (quarter R 0 (by norm_num) n + quarter R 1024 (by norm_num) n + quarter R 2048 (by norm_num) n
      + quarter R 3072 (by norm_num) n) := by
  rw [Row.out, sum4096]
  simp only [quarter, Nat.zero_add]

variable (v226 : FVec Ideal S512x1024 .f32) (v251 : FVec Ideal S512x1024 .bf16) (v272 : FVec Ideal S512x1024 .f32)
  (v273 v280 v284 v291 : Vec Ideal S1x1024x1024 .bf16) (v295 : Vec Ideal S1x1x1x1x1024 .f32)

/-- The first two quarters. -/
theorem pay38_apply (v228 v230 v232 : FVec Ideal S1x1024 .f32) (v235 : FVec Ideal S512x1 .f32)
    (h251 : ∀ n : Fin 1024, k0_pay37 (F := Ideal) v226 v228 v230 v232 v235 (ix2 r n) = R.nrm n)
    (h273 : ∀ j k : Fin 1024, v273 (ix3 0 j k) = R.w1 j ⟨0 + k.val, by omega⟩)
    (h280 : ∀ k n : Fin 1024, v280 (ix3 0 k n) = R.w2 ⟨0 + k.val, by omega⟩ n)
    (h284 : ∀ j k : Fin 1024, v284 (ix3 0 j k) = R.w1 j ⟨1024 + k.val, by omega⟩)
    (h291 : ∀ k n : Fin 1024, v291 (ix3 0 k n) = R.w2 ⟨1024 + k.val, by omega⟩ n) (n : Fin 1024) :
    k0_pay38 (F := Ideal) v226 v228 v230 v232 v235 v273 v280 v284 v291 (ix2 r n)
      = quarter R 0 (by norm_num) n + quarter R 1024 (by norm_num) n := by
  rw [← quarter_of R 0 (by norm_num) _ v273 v280 h251 h273 h280, ← quarter_of R 1024 (by norm_num) _ v284 v291 h251 h284 h291]
  pointwise [k0_pay38]

/-- The row after the MLP, from its first two quarters. -/
theorem pay39_apply (h226 : ∀ n : Fin 1024, v226 (ix2 r n) = R.mid n) (h251 : ∀ n : Fin 1024, v251 (ix2 r n) = R.nrm n)
    (h272 : ∀ n : Fin 1024, v272 (ix2 r n) = quarter R 0 (by norm_num) n + quarter R 1024 (by norm_num) n)
    (h273 : ∀ j k : Fin 1024, v273 (ix3 0 j k) = R.w1 j ⟨2048 + k.val, by omega⟩)
    (h280 : ∀ k n : Fin 1024, v280 (ix3 0 k n) = R.w2 ⟨2048 + k.val, by omega⟩ n)
    (h284 : ∀ j k : Fin 1024, v284 (ix3 0 j k) = R.w1 j ⟨3072 + k.val, by omega⟩)
    (h291 : ∀ k n : Fin 1024, v291 (ix3 0 k n) = R.w2 ⟨3072 + k.val, by omega⟩ n)
    (h295 : ∀ n : Fin 1024, v295 (ix5 0 0 0 0 n) = R.gt2 n) (n : Fin 1024) :
    k0_pay39 (F := Ideal) v226 v251 v272 v273 v280 v284 v291 v295 (ix2 r n) = R.out n := by
  rw [out_quarters, ← h272, ← quarter_of R 2048 (by norm_num) _ v273 v280 h251 h273 h280,
    ← quarter_of R 3072 (by norm_num) _ v284 v291 h251 h284 h291, ← h226, ← h295]
  pointwise [k0_pay39]

theorem pay1_apply (v310 : Vec Ideal S1x1024 .f32)
    (h299 : ∀ n : Fin 1024, k0_pay39 (F := Ideal) v226 v251 v272 v273 v280 v284 v291 v295 (ix2 r n) = R.out n)
    (hfg : ∀ n : Fin 1024, v310 (ix2 0 n) = R.fg n) (n : Fin 1024) :
    k0_pay1 (F := Ideal) (k0_pay39 v226 v251 v272 v273 v280 v284 v291 v295) (k0_pay40 v226 v251 v272 v273 v280 v284 v291 v295) v310 (ix3 0 r n)
      = R.fin n := by
  pointwise [k0_pay1, k0_pay40]
  simp only [h299, hfg]
  rfl

end Matrices

/-! ## The tile -/

section Tile

variable (v0 : Vec Ideal S1x1x1024 .f32) (v2 : Vec Ideal S512x256 .f32) (w : Fin 8 → Vec Ideal S1x64x1x512 .f32)
  (v69 : Vec Ideal S1x512x512 .f32) (v146 : Vec Ideal S1x512x256 .f32) (v161 v163 : Vec Ideal S64x1x8x256 .f32)
  (v217 : Vec Ideal S1x512x1024 .f32) (v219 : Vec Ideal S1x1x1x1x1024 .f32) (v221 : Vec Ideal S1x1024x1024 .bf16)
  (v227 : Vec Ideal S1x1x1024 .f32) (v229 v231 : Vec Ideal S1x1x1x1x1024 .f32) (w1 w2 : Fin 4 → Vec Ideal S1x1024x1024 .bf16)
  (v295 : Vec Ideal S1x1x1x1x1024 .f32) (v310 : Vec Ideal S1x1024 .f32)

/-- The tile after the channel mix. -/
def tileMid : FVec Ideal S512x1024 .f32 :=
  k0_pay32 (F := Ideal) (k0_pay2 v0) (k0_pay7 (k0_pay2 v0) (k0_pay3 v2) (k0_pay5 v2) (k0_pay6 v2) r64)
    (k0_pay18 (k0_pay2 v0) (k0_pay8 (w 0)) (k0_pay9 (w 1)) (k0_pay10 (w 2)) (k0_pay11 (w 3)) (k0_pay12 (w 4)) (k0_pay13 (w 5)) (k0_pay14 (w 6)) (k0_pay15 (w 7)) v69)
    (k0_pay19 (k0_pay2 v0) (k0_pay8 (w 0)) (k0_pay9 (w 1)) (k0_pay10 (w 2)) (k0_pay11 (w 3)) (k0_pay12 (w 4)) (k0_pay13 (w 5)) (k0_pay14 (w 6)) (k0_pay15 (w 7)) v69)
    (k0_pay22 (k0_pay2 v0) (k0_pay17 v69) (k0_pay20 (k0_pay8 (w 0)) (k0_pay9 (w 1)) (k0_pay10 (w 2)) (k0_pay11 (w 3)) (k0_pay12 (w 4)) (k0_pay13 (w 5)) (k0_pay14 (w 6)) (k0_pay15 (w 7)))
      (k0_pay21 (k0_pay8 (w 0)) (k0_pay9 (w 1)) (k0_pay10 (w 2)) (k0_pay11 (w 3)) (k0_pay12 (w 4)) (k0_pay13 (w 5)) (k0_pay14 (w 6)) (k0_pay15 (w 7))))
    (k0_pay23 (k0_pay2 v0) (stacked w) (k0_pay17 v69))
    (k0_pay25 (k0_pay24 v146) v161 v163) (k0_pay27 (k0_pay24 v146) v161 v163) k0_pay29
    (k0_pay30 (k0_pay24 v146) v161 v163) (k0_pay31 (k0_pay24 v146) v161 v163) v217 v219 v221

/-- The sums of squares of the tile's rows. -/
def tileSq : FVec Ideal S512x1 .f32 :=
  k0_pay36 (F := Ideal) (k0_pay2 v0) (k0_pay7 (k0_pay2 v0) (k0_pay3 v2) (k0_pay5 v2) (k0_pay6 v2) r64)
    (k0_pay18 (k0_pay2 v0) (k0_pay8 (w 0)) (k0_pay9 (w 1)) (k0_pay10 (w 2)) (k0_pay11 (w 3)) (k0_pay12 (w 4)) (k0_pay13 (w 5)) (k0_pay14 (w 6)) (k0_pay15 (w 7)) v69)
    (k0_pay19 (k0_pay2 v0) (k0_pay8 (w 0)) (k0_pay9 (w 1)) (k0_pay10 (w 2)) (k0_pay11 (w 3)) (k0_pay12 (w 4)) (k0_pay13 (w 5)) (k0_pay14 (w 6)) (k0_pay15 (w 7)) v69)
    (k0_pay22 (k0_pay2 v0) (k0_pay17 v69) (k0_pay20 (k0_pay8 (w 0)) (k0_pay9 (w 1)) (k0_pay10 (w 2)) (k0_pay11 (w 3)) (k0_pay12 (w 4)) (k0_pay13 (w 5)) (k0_pay14 (w 6)) (k0_pay15 (w 7)))
      (k0_pay21 (k0_pay8 (w 0)) (k0_pay9 (w 1)) (k0_pay10 (w 2)) (k0_pay11 (w 3)) (k0_pay12 (w 4)) (k0_pay13 (w 5)) (k0_pay14 (w 6)) (k0_pay15 (w 7))))
    (k0_pay23 (k0_pay2 v0) (stacked w) (k0_pay17 v69))
    (k0_pay25 (k0_pay24 v146) v161 v163) (k0_pay27 (k0_pay24 v146) v161 v163) k0_pay29
    (k0_pay30 (k0_pay24 v146) v161 v163) (k0_pay31 (k0_pay24 v146) v161 v163) v217 v219 v221

theorem tileSq_apply : tileSq v0 v2 w v69 v146 v161 v163 v217 v219 v221 (ix2 r 0)
    = ∑ k : Fin 1024, tileMid v0 v2 w v69 v146 v161 v163 v217 v219 v221 (ix2 r k) * tileMid v0 v2 w v69 v146 v161 v163 v217 v219 v221 (ix2 r k) := by
  unfold tileSq tileMid
  pointwise [k0_pay36]

/-- The tile stored, from what is loaded and the tile after the channel mix. -/
def tile (mid : FVec Ideal S512x1024 .f32) (sq : FVec Ideal S512x1 .f32) : FVec Ideal S1x512x1024 .f32 :=
  k0_pay1 (F := Ideal)
    (k0_pay39 mid (k0_pay37 mid (k0_pay33 v227) (k0_pay34 v229) (k0_pay35 v231) sq)
      (k0_pay38 mid (k0_pay33 v227) (k0_pay34 v229) (k0_pay35 v231) sq (w1 0) (w2 0) (w1 1) (w2 1)) (w1 2) (w2 2) (w1 3) (w2 3) v295)
    (k0_pay40 mid (k0_pay37 mid (k0_pay33 v227) (k0_pay34 v229) (k0_pay35 v231) sq)
      (k0_pay38 mid (k0_pay33 v227) (k0_pay34 v229) (k0_pay35 v231) sq (w1 0) (w2 0) (w1 1) (w2 1)) (w1 2) (w2 2) (w1 3) (w2 3) v295)
    v310

/-- Where the loads hold a token's numbers at row `r`, the stored tile holds that token's result there. -/
theorem tile_apply (hg : ∀ k : Fin 1024, v0 (ix3 0 0 k) = R.g k) (hy : ∀ j : Fin 256, v2 (ix2 r j) = R.hy j)
    (hw : ∀ (q : Fin 8) (a : Fin 64) (l : Fin 512), r.val = 64 * q.val + a.val → w q (ix4 0 a 0 l) = R.hm l)
    (ho : ∀ l : Fin 512, v69 (ix3 0 r l) = R.o l)
    (hf : ∀ (a : Fin 64) (e : Fin 8) (l : Fin 256), r.val = 8 * a.val + e.val → v161 (ix4 a 0 e l) = R.f l)
    (hb : ∀ (a : Fin 64) (e : Fin 8) (l : Fin 256), r.val = 8 * a.val + e.val → v163 (ix4 a 0 e l) = R.b l)
    (hp : ∀ l : Fin 256, v146 (ix3 0 r l) = R.gp l)
    (hx : ∀ n : Fin 1024, v217 (ix3 0 r n) = R.x n) (hgt : ∀ n : Fin 1024, v219 (ix5 0 0 0 0 n) = R.gt n)
    (hwo : ∀ k n : Fin 1024, v221 (ix3 0 k n) = R.wo k n)
    (hg2 : ∀ n : Fin 1024, v227 (ix3 0 0 n) = R.g2 n) (hsh : ∀ n : Fin 1024, v229 (ix5 0 0 0 0 n) = R.sh n)
    (hsc : ∀ n : Fin 1024, v231 (ix5 0 0 0 0 n) = R.sc n)
    (hw1 : ∀ (q : Fin 4) (j k : Fin 1024) (f : Fin 4096), f.val = 1024 * q.val + k.val → w1 q (ix3 0 j k) = R.w1 j f)
    (hw2 : ∀ (q : Fin 4) (k n : Fin 1024) (f : Fin 4096), f.val = 1024 * q.val + k.val → w2 q (ix3 0 k n) = R.w2 f n)
    (hgt2 : ∀ n : Fin 1024, v295 (ix5 0 0 0 0 n) = R.gt2 n) (hfg : ∀ n : Fin 1024, v310 (ix2 0 n) = R.fg n) (n : Fin 1024) :
    tile v227 v229 v231 w1 w2 v295 v310 (tileMid v0 v2 w v69 v146 v161 v163 v217 v219 v221) (tileSq v0 v2 w v69 v146 v161 v163 v217 v219 v221)
      (ix3 0 r n) = R.fin n := by
  have hr := pay25_apply R r v146 v161 v163 hf hb hp
  have hm : ∀ n : Fin 1024, tileMid v0 v2 w v69 v146 v161 v163 v217 v219 v221 (ix2 r n) = R.mid n :=
    pay32_apply R r _ _ _ _ _ _ _ _ _ _ _ _ _ _ (hy_apply R r v0 v2 hg hy) (ml0_apply R r v0 w v69 hg hw ho) (ml1_apply R r v0 w v69 hg hw ho)
      (ml2_apply R r v0 w v69 hg hw ho) (ml3_apply R r v0 w v69 hg hw ho) (rg_apply R r v0 v146 v161 v163 hr hg) hx hgt hwo
  have hs : tileSq v0 v2 w v69 v146 v161 v163 v217 v219 v221 (ix2 r 0) = ∑ k, R.mid k * R.mid k := by
    rw [tileSq_apply]; simp only [hm]
  generalize tileMid v0 v2 w v69 v146 v161 v163 v217 v219 v221 = mid at hm ⊢
  generalize tileSq v0 v2 w v69 v146 v161 v163 v217 v219 v221 = sq at hs ⊢
  have hn := pay37_apply R r mid (k0_pay33 v227) (k0_pay34 v229) (k0_pay35 v231) sq hm hs
    (fun n => (pay33_apply v227 n).trans (hg2 n)) (fun n => (pay34_apply v229 n).trans (hsh n)) (fun n => (pay35_apply v231 n).trans (hsc n))
  have h38 := pay38_apply R r mid (w1 0) (w2 0) (w1 1) (w2 1) _ _ _ sq hn
    (fun j k => hw1 0 j k _ (by show 0 + k.val = 1024 * 0 + k.val; omega)) (fun k n => hw2 0 k n _ (by show 0 + k.val = 1024 * 0 + k.val; omega))
    (fun j k => hw1 1 j k _ (by show 1024 + k.val = 1024 * 1 + k.val; omega)) (fun k n => hw2 1 k n _ (by show 1024 + k.val = 1024 * 1 + k.val; omega))
  have h39 := pay39_apply R r mid _ _ (w1 2) (w2 2) (w1 3) (w2 3) v295 hm hn h38
    (fun j k => hw1 2 j k _ (by show 2048 + k.val = 1024 * 2 + k.val; omega)) (fun k n => hw2 2 k n _ (by show 2048 + k.val = 1024 * 2 + k.val; omega))
    (fun j k => hw1 3 j k _ (by show 3072 + k.val = 1024 * 3 + k.val; omega)) (fun k n => hw2 3 k n _ (by show 3072 + k.val = 1024 * 3 + k.val; omega)) hgt2
  exact pay1_apply R r mid _ _ _ _ _ _ _ v310 h39 hfg n

end Tile

end Cert.Mix

end
-- ==== Proof.MixBody.lean ====
module

public import proofs.«01_k».proof.Proof.Gen.Kernel2Ideal.Frame
public import proofs.«01_k».proof.Proof.MixTile
public import Idealize.ShloMosaic.Lib.WholeRead
public import Idealize.ShloMosaic.Lib.Pipeline.Value

@[expose] public section

set_option maxRecDepth 16384

noncomputable section

namespace Cert.Mix

open Cert.Kernel2Ideal Cert.Kernel2Ideal.Gen Idealize.ShloMosaic Idealize.ShloMosaic.TcCoe
open Idealize.ShloMosaic.Pipeline (Dat Cfg Window)

/-! What the body leaves in the result's buffer is the tile of its loads. -/

/-- A load through a whole buffer that holds `X`. -/
theorem load_eq {sp : Space} {S : Shape} {e : EltTy} {mr : Memref sig .tc sp S e} (h : mr.IsWhole) (X : S.Idx → Elt Ideal e) (B : LoadRect S) :
    View.readAt (Elt Ideal) mr.view B (h.unread X) = fun x => X (B.idx x) := funext fun x => h.readAt_unread X B x

/-- A load of everything. -/
theorem load_all {sp : Space} {S : Shape} {e : EltTy} {mr : Memref sig .tc sp S e} (h : mr.IsWhole) (X : S.Idx → Elt Ideal e)
    {off : Fin S.rank → ℕ} (ho : off = fun _ => 0) (inb : ∀ a, off a + S.size a ≤ S.size a) :
    View.readAt (Elt Ideal) mr.view (Rect.unit off S.size inb).toLoadRect (h.unread X) = X :=
  (load_eq h X _).trans (View.ld_unit_zero ho inb X)

theorem z2 : (![0, 0] : Fin 2 → ℕ) = fun _ => 0 := by decide
theorem z3 : (![0, 0, 0] : Fin 3 → ℕ) = fun _ => 0 := by decide
theorem z4 : (![0, 0, 0, 0] : Fin 4 → ℕ) = fun _ => 0 := by decide
theorem z5 : (![0, 0, 0, 0, 0] : Fin 5 → ℕ) = fun _ => 0 := by decide

/-- The matrix memory's rows at stride 8. -/
def strided (x2 : Vec Ideal S1x64x8x512 .f32) (q : Fin 8) : Vec Ideal S1x64x1x512 .f32 :=
  fun y => x2 ((Rect.unit (s := S1x64x8x512) ![0, 0, q.val, 0] ![1, 64, 1, 512] (by intro a; fin_cases a <;> simp <;> omega)).toLoadRect.idx y)

/-- A quarter of the first matrix's columns. -/
def cols (x14 : Vec Ideal S1x1024x4096 .bf16) (q : Fin 4) : Vec Ideal S1x1024x1024 .bf16 :=
  fun y => x14 ((Rect.unit (s := S1x1024x4096) ![0, 0, 1024 * q.val] ![1, 1024, 1024] (by intro a; fin_cases a <;> simp <;> omega)).toLoadRect.idx y)

/-- A quarter of the second matrix's rows. -/
def rows (x15 : Vec Ideal S1x4096x1024 .bf16) (q : Fin 4) : Vec Ideal S1x1024x1024 .bf16 :=
  fun y => x15 ((Rect.unit (s := S1x4096x1024) ![0, 1024 * q.val, 0] ![1, 1024, 1024] (by intro a; fin_cases a <;> simp <;> omega)).toLoadRect.idx y)

theorem out_eq (c : Dev nD) (i : grid0.Coords) (arg2 : Memref sig .tc .vmem S1x512x1024 .f32) (harg2 : arg2.IsWhole) (arg3 : Memref sig .tc .vmem S512x256 .f32) (harg3 : arg3.IsWhole) (arg4 : Memref sig .tc .vmem S1x64x8x512 .f32) (harg4 : arg4.IsWhole) (arg5 : Memref sig .tc .vmem S1x512x512 .f32) (harg5 : arg5.IsWhole) (arg6 : Memref sig .tc .vmem S64x1x8x256 .f32) (harg6 : arg6.IsWhole) (arg7 : Memref sig .tc .vmem S64x1x8x256 .f32) (harg7 : arg7.IsWhole) (arg8 : Memref sig .tc .vmem S1x512x256 .f32) (harg8 : arg8.IsWhole) (arg9 : Memref sig .tc .vmem S1x1x1024 .f32) (harg9 : arg9.IsWhole) (arg10 : Memref sig .tc .vmem S1x1024x1024 .bf16) (harg10 : arg10.IsWhole) (arg11 : Memref sig .tc .vmem S1x1x1x1x1024 .f32) (harg11 : arg11.IsWhole) (arg12 : Memref sig .tc .vmem S1x1x1x1x1024 .f32) (harg12 : arg12.IsWhole) (arg13 : Memref sig .tc .vmem S1x1x1x1x1024 .f32) (harg13 : arg13.IsWhole) (arg14 : Memref sig .tc .vmem S1x1x1x1x1024 .f32) (harg14 : arg14.IsWhole) (arg15 : Memref sig .tc .vmem S1x1x1024 .f32) (harg15 : arg15.IsWhole) (arg16 : Memref sig .tc .vmem S1x1024x4096 .bf16) (harg16 : arg16.IsWhole) (arg17 : Memref sig .tc .vmem S1x4096x1024 .bf16) (harg17 : arg17.IsWhole) (arg18 : Memref sig .tc .vmem S1x1024 .f32) (harg18 : arg18.IsWhole) (arg19 : Memref sig .tc .vmem S1x512x1024 .f32) (harg19 : arg19.IsWhole)
    (x0 : Vec Ideal S1x512x1024 .f32) (x1 : Vec Ideal S512x256 .f32) (x2 : Vec Ideal S1x64x8x512 .f32) (x3 : Vec Ideal S1x512x512 .f32) (x4 : Vec Ideal S64x1x8x256 .f32) (x5 : Vec Ideal S64x1x8x256 .f32) (x6 : Vec Ideal S1x512x256 .f32) (x7 : Vec Ideal S1x1x1024 .f32) (x8 : Vec Ideal S1x1024x1024 .bf16) (x9 : Vec Ideal S1x1x1x1x1024 .f32) (x10 : Vec Ideal S1x1x1x1x1024 .f32) (x11 : Vec Ideal S1x1x1x1x1024 .f32) (x12 : Vec Ideal S1x1x1x1x1024 .f32) (x13 : Vec Ideal S1x1x1024 .f32) (x14 : Vec Ideal S1x1024x4096 .bf16) (x15 : Vec Ideal S1x4096x1024 .bf16) (x16 : Vec Ideal S1x1024 .f32) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16
      = tile x13 x10 x11 (cols x14) (rows x15) x12 x16 (tileMid x7 x1 (strided x2) x3 x6 x4 x5 x0 x9 x8) (tileSq x7 x1 (strided x2) x3 x6 x4 x5 x0 x9 x8) := by
  unfold out0_A_17
  rw [View.read_writes_junk_eq_canon]
  unfold kernelRun0_A
  dsimp only
  refine (View.canon_cons_unit_zero z3 _ _ _).trans ?_
  have l0 : View.readAt (Elt Ideal) arg2.view (Rect.unit (s := S1x512x1024) ![0, 0, 0] ![1, 512, 1024] inb_S1x512x1024_S1x512x1024_0_0_0).toLoadRect (harg2.unread x0) = x0 := load_all harg2 x0 z3 _
  have l1 : View.readAt (Elt Ideal) arg3.view (Rect.unit (s := S512x256) ![0, 0] ![512, 256] inb_S512x256_S512x256_0_0).toLoadRect (harg3.unread x1) = x1 := load_all harg3 x1 z2 _
  have l3 : View.readAt (Elt Ideal) arg5.view (Rect.unit (s := S1x512x512) ![0, 0, 0] ![1, 512, 512] inb_S1x512x512_S1x512x512_0_0_0).toLoadRect (harg5.unread x3) = x3 := load_all harg5 x3 z3 _
  have l4 : View.readAt (Elt Ideal) arg6.view (Rect.unit (s := S64x1x8x256) ![0, 0, 0, 0] ![64, 1, 8, 256] inb_S64x1x8x256_S64x1x8x256_0_0_0_0).toLoadRect (harg6.unread x4) = x4 := load_all harg6 x4 z4 _
  have l5 : View.readAt (Elt Ideal) arg7.view (Rect.unit (s := S64x1x8x256) ![0, 0, 0, 0] ![64, 1, 8, 256] inb_S64x1x8x256_S64x1x8x256_0_0_0_0).toLoadRect (harg7.unread x5) = x5 := load_all harg7 x5 z4 _
  have l6 : View.readAt (Elt Ideal) arg8.view (Rect.unit (s := S1x512x256) ![0, 0, 0] ![1, 512, 256] inb_S1x512x256_S1x512x256_0_0_0).toLoadRect (harg8.unread x6) = x6 := load_all harg8 x6 z3 _
  have l7 : View.readAt (Elt Ideal) arg9.view (Rect.unit (s := S1x1x1024) ![0, 0, 0] ![1, 1, 1024] inb_S1x1x1024_S1x1x1024_0_0_0).toLoadRect (harg9.unread x7) = x7 := load_all harg9 x7 z3 _
  have l8 : View.readAt (Elt Ideal) arg10.view (Rect.unit (s := S1x1024x1024) ![0, 0, 0] ![1, 1024, 1024] inb_S1x1024x1024_S1x1024x1024_0_0_0).toLoadRect (harg10.unread x8) = x8 := load_all harg10 x8 z3 _
  have l9 : View.readAt (Elt Ideal) arg11.view (Rect.unit (s := S1x1x1x1x1024) ![0, 0, 0, 0, 0] ![1, 1, 1, 1, 1024] inb_S1x1x1x1x1024_S1x1x1x1x1024_0_0_0_0_0).toLoadRect (harg11.unread x9) = x9 := load_all harg11 x9 z5 _
  have l10 : View.readAt (Elt Ideal) arg12.view (Rect.unit (s := S1x1x1x1x1024) ![0, 0, 0, 0, 0] ![1, 1, 1, 1, 1024] inb_S1x1x1x1x1024_S1x1x1x1x1024_0_0_0_0_0).toLoadRect (harg12.unread x10) = x10 := load_all harg12 x10 z5 _
  have l11 : View.readAt (Elt Ideal) arg13.view (Rect.unit (s := S1x1x1x1x1024) ![0, 0, 0, 0, 0] ![1, 1, 1, 1, 1024] inb_S1x1x1x1x1024_S1x1x1x1x1024_0_0_0_0_0).toLoadRect (harg13.unread x11) = x11 := load_all harg13 x11 z5 _
  have l12 : View.readAt (Elt Ideal) arg14.view (Rect.unit (s := S1x1x1x1x1024) ![0, 0, 0, 0, 0] ![1, 1, 1, 1, 1024] inb_S1x1x1x1x1024_S1x1x1x1x1024_0_0_0_0_0).toLoadRect (harg14.unread x12) = x12 := load_all harg14 x12 z5 _
  have l13 : View.readAt (Elt Ideal) arg15.view (Rect.unit (s := S1x1x1024) ![0, 0, 0] ![1, 1, 1024] inb_S1x1x1024_S1x1x1024_0_0_0).toLoadRect (harg15.unread x13) = x13 := load_all harg15 x13 z3 _
  have l16 : View.readAt (Elt Ideal) arg18.view (Rect.unit (s := S1x1024) ![0, 0] ![1, 1024] inb_S1x1024_S1x1024_0_0).toLoadRect (harg18.unread x16) = x16 := load_all harg18 x16 z2 _
  have s0 : View.readAt (Elt Ideal) arg4.view (Rect.unit (s := S1x64x8x512) ![0, 0, 0, 0] ![1, 64, 1, 512] inb_S1x64x8x512_S1x64x1x512_0_0_0_0).toLoadRect (harg4.unread x2) = strided x2 0 := load_eq harg4 x2 _
  have s1 : View.readAt (Elt Ideal) arg4.view (Rect.unit (s := S1x64x8x512) ![0, 0, 1, 0] ![1, 64, 1, 512] inb_S1x64x8x512_S1x64x1x512_0_0_1_0).toLoadRect (harg4.unread x2) = strided x2 1 := load_eq harg4 x2 _
  have s2 : View.readAt (Elt Ideal) arg4.view (Rect.unit (s := S1x64x8x512) ![0, 0, 2, 0] ![1, 64, 1, 512] inb_S1x64x8x512_S1x64x1x512_0_0_2_0).toLoadRect (harg4.unread x2) = strided x2 2 := load_eq harg4 x2 _
  have s3 : View.readAt (Elt Ideal) arg4.view (Rect.unit (s := S1x64x8x512) ![0, 0, 3, 0] ![1, 64, 1, 512] inb_S1x64x8x512_S1x64x1x512_0_0_3_0).toLoadRect (harg4.unread x2) = strided x2 3 := load_eq harg4 x2 _
  have s4 : View.readAt (Elt Ideal) arg4.view (Rect.unit (s := S1x64x8x512) ![0, 0, 4, 0] ![1, 64, 1, 512] inb_S1x64x8x512_S1x64x1x512_0_0_4_0).toLoadRect (harg4.unread x2) = strided x2 4 := load_eq harg4 x2 _
  have s5 : View.readAt (Elt Ideal) arg4.view (Rect.unit (s := S1x64x8x512) ![0, 0, 5, 0] ![1, 64, 1, 512] inb_S1x64x8x512_S1x64x1x512_0_0_5_0).toLoadRect (harg4.unread x2) = strided x2 5 := load_eq harg4 x2 _
  have s6 : View.readAt (Elt Ideal) arg4.view (Rect.unit (s := S1x64x8x512) ![0, 0, 6, 0] ![1, 64, 1, 512] inb_S1x64x8x512_S1x64x1x512_0_0_6_0).toLoadRect (harg4.unread x2) = strided x2 6 := load_eq harg4 x2 _
  have s7 : View.readAt (Elt Ideal) arg4.view (Rect.unit (s := S1x64x8x512) ![0, 0, 7, 0] ![1, 64, 1, 512] inb_S1x64x8x512_S1x64x1x512_0_0_7_0).toLoadRect (harg4.unread x2) = strided x2 7 := load_eq harg4 x2 _
  have c0 : View.readAt (Elt Ideal) arg16.view (Rect.unit (s := S1x1024x4096) ![0, 0, 0] ![1, 1024, 1024] inb_S1x1024x4096_S1x1024x1024_0_0_0).toLoadRect (harg16.unread x14) = cols x14 0 := load_eq harg16 x14 _
  have c1 : View.readAt (Elt Ideal) arg16.view (Rect.unit (s := S1x1024x4096) ![0, 0, 1024] ![1, 1024, 1024] inb_S1x1024x4096_S1x1024x1024_0_0_1024).toLoadRect (harg16.unread x14) = cols x14 1 := load_eq harg16 x14 _
  have c2 : View.readAt (Elt Ideal) arg16.view (Rect.unit (s := S1x1024x4096) ![0, 0, 2048] ![1, 1024, 1024] inb_S1x1024x4096_S1x1024x1024_0_0_2048).toLoadRect (harg16.unread x14) = cols x14 2 := load_eq harg16 x14 _
  have c3 : View.readAt (Elt Ideal) arg16.view (Rect.unit (s := S1x1024x4096) ![0, 0, 3072] ![1, 1024, 1024] inb_S1x1024x4096_S1x1024x1024_0_0_3072).toLoadRect (harg16.unread x14) = cols x14 3 := load_eq harg16 x14 _
  have w0 : View.readAt (Elt Ideal) arg17.view (Rect.unit (s := S1x4096x1024) ![0, 0, 0] ![1, 1024, 1024] inb_S1x4096x1024_S1x1024x1024_0_0_0).toLoadRect (harg17.unread x15) = rows x15 0 := load_eq harg17 x15 _
  have w1 : View.readAt (Elt Ideal) arg17.view (Rect.unit (s := S1x4096x1024) ![0, 1024, 0] ![1, 1024, 1024] inb_S1x4096x1024_S1x1024x1024_0_1024_0).toLoadRect (harg17.unread x15) = rows x15 1 := load_eq harg17 x15 _
  have w2 : View.readAt (Elt Ideal) arg17.view (Rect.unit (s := S1x4096x1024) ![0, 2048, 0] ![1, 1024, 1024] inb_S1x4096x1024_S1x1024x1024_0_2048_0).toLoadRect (harg17.unread x15) = rows x15 2 := load_eq harg17 x15 _
  have w3 : View.readAt (Elt Ideal) arg17.view (Rect.unit (s := S1x4096x1024) ![0, 3072, 0] ![1, 1024, 1024] inb_S1x4096x1024_S1x1024x1024_0_3072_0).toLoadRect (harg17.unread x15) = rows x15 3 := load_eq harg17 x15 _
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, l0, l1, l3, l4, l5, l6, l7, l8, l9, l10, l11, l12, l13, l16, s0, s1, s2, s3, s4, s5, s6, s7, c0, c1, c2, c3, w0, w1, w2, w3]
  rfl

end Cert.Mix

end
-- ==== Proof.MixWin.lean ====
module

public import proofs.«01_k».proof.Proof.Gen.Kernel2Ideal.Value
public import proofs.«01_k».proof.Proof.MixBody
public import Idealize.ShloMosaic.Lib.Pointwise
public import Idealize.ShloMosaic.Lib.StableHlo.ReadAt

@[expose] public section

noncomputable section

namespace Cert.Mix

open Cert.Kernel2Ideal Cert.Kernel2Ideal.Gen Idealize.ShloMosaic Idealize.ShloMosaic.TcCoe
open Idealize.ShloMosaic.Pipeline (Dat Cfg Window)

/-! The kernel's result at a token: what the windows hold of the arguments there, and the array the blocks leave. -/

variable (m : (ℓ : Loc nD τ sig) → Buf (Elt Ideal) ℓ) (c : Dev nD)

/-! ## What the host operations before the call leave -/

theorem V_0 (b : Fin 2) (l : Fin 1024) : V m c main_v0 (ix3 b 0 l) = m ((c : Thread nD τ).loc main_arg9) (ix2 b l) := by
  unfold V
  after_reads_at

theorem V_1 (b : Fin 2) (l : Fin 1024) : V m c main_v1 (ix3 b 0 l) = m ((c : Thread nD τ).loc main_arg7) (ix2 b l) := by
  unfold V
  after_reads_at

theorem V_2 (b : Fin 2) (k l : Fin 1024) : V m c main_v2 (ix3 b k l) = m ((c : Thread nD τ).loc main_arg8) (ix3 b k l) := by
  unfold V
  after_reads_at

theorem V_3 (b : Fin 2) (k : Fin 1024) (l : Fin 4096) : V m c main_v3 (ix3 b k l) = m ((c : Thread nD τ).loc main_arg10) (ix3 b k l) := by
  unfold V
  after_reads_at

theorem V_4 (b : Fin 2) (k : Fin 4096) (l : Fin 1024) : V m c main_v4 (ix3 b k l) = m ((c : Thread nD τ).loc main_arg11) (ix3 b k l) := by
  unfold V
  after_reads_at

theorem V_5 (b : Fin 2) (a : Fin 16) (q : Fin 6) (l : Fin 1024) : V m c main_v5 (ix5 b a q 0 l) = m ((c : Thread nD τ).loc main_arg6) (ix3 b a ⟨q.val * 1024 + l.val, by omega⟩) := by
  unfold V
  after_reads_at

theorem V_6 (l : Fin 1024) : V m c main_v6 (ix2 0 l) = m ((c : Thread nD τ).loc main_arg12) (ix1 l) := by
  unfold V
  after_reads_at

theorem V_8 (T l : Fin 2048) : V m c main_v8 (ix2 T l) = m ((c : Thread nD τ).loc main_arg1) (ix3 ⟨l.val / 256, by omega⟩ T ⟨l.val % 256, by omega⟩) := by
  unfold V
  after_reads_at

theorem V_10 (g : Fin 256) (b : Fin 8) (e : Fin 8) (l : Fin 256) : V m c main_v10 (ix4 g b e l) = m ((c : Thread nD τ).loc main_arg4) (ix3 b ⟨g.val * 8 + e.val, by omega⟩ l) := by
  unfold V
  after_reads_at

theorem V_12 (g : Fin 256) (b : Fin 8) (e : Fin 8) (l : Fin 256) : V m c main_v12 (ix4 g b e l) = m ((c : Thread nD τ).loc main_arg5) (ix3 b ⟨g.val * 8 + e.val, by omega⟩ l) := by
  unfold V
  after_reads_at

theorem V_13 (b : Fin 8) (a : Fin 64) (q : Fin 32) (l : Fin 512) : V m c main_v13 (ix4 b a q l) = m ((c : Thread nD τ).loc main_arg2) (ix3 b ⟨a.val * 32 + q.val, by omega⟩ l) := by
  unfold V
  after_reads_at

/-! ## The windows -/

theorem idx_0 : ∀ t : Fin grid0.N, win0_0.index t 0 = t.val % 8 ∧ win0_0.index t 1 = t.val / 8 ∧ win0_0.index t 2 = 0 := by decide +kernel

theorem blk_0 (t : Fin cfg0.N) (y1 : Fin 512) (y2 : Fin 1024) :
    iblk m c 0 t (ix3 0 y1 y2)
      = V m c main_arg0 (ix3 ⟨t.val % 8, by have : t.val < 32 := t.isLt; omega⟩ ⟨t.val / 8 * 512 + y1.val, by have : t.val < 32 := t.isLt; omega⟩ y2) := by
  obtain ⟨e0, e1, e2⟩ := idx_0 t
  show V m c main_arg0 (((cfg0.win 0).blk t).view.emb (ix3 0 y1 y2)) = _
  refine congrArg (V m c main_arg0) (funext fun a => Fin.ext ?_)
  match a with
  | ⟨0, _⟩ => show win0_0.index t 0 * 1 + 1 * 0 = t.val % 8; rw [e0] <;> omega
  | ⟨1, _⟩ => show win0_0.index t 1 * 512 + 1 * y1.val = t.val / 8 * 512 + y1.val; rw [e1] <;> omega
  | ⟨2, _⟩ => show win0_0.index t 2 * 1024 + 1 * y2.val = y2.val; rw [e2] <;> omega

theorem idx_1 : ∀ t : Fin grid0.N, win0_1.index t 0 = t.val / 8 ∧ win0_1.index t 1 = t.val % 8 := by decide +kernel

theorem blk_1 (t : Fin cfg0.N) (y0 : Fin 512) (y1 : Fin 256) :
    iblk m c 1 t (ix2 y0 y1)
      = V m c main_v8 (ix2 ⟨t.val / 8 * 512 + y0.val, by have : t.val < 32 := t.isLt; omega⟩ ⟨t.val % 8 * 256 + y1.val, by have : t.val < 32 := t.isLt; omega⟩) := by
  obtain ⟨e0, e1⟩ := idx_1 t
  show V m c main_v8 (((cfg0.win 1).blk t).view.emb (ix2 y0 y1)) = _
  refine congrArg (V m c main_v8) (funext fun a => Fin.ext ?_)
  match a with
  | ⟨0, _⟩ => show win0_1.index t 0 * 512 + 1 * y0.val = t.val / 8 * 512 + y0.val; rw [e0] <;> omega
  | ⟨1, _⟩ => show win0_1.index t 1 * 256 + 1 * y1.val = t.val % 8 * 256 + y1.val; rw [e1] <;> omega

theorem idx_2 : ∀ t : Fin grid0.N, win0_2.index t 0 = t.val % 8 ∧ win0_2.index t 1 = 0 ∧ win0_2.index t 2 = t.val / 8 ∧ win0_2.index t 3 = 0 := by decide +kernel

theorem blk_2 (t : Fin cfg0.N) (y1 : Fin 64) (y2 : Fin 8) (y3 : Fin 512) :
    iblk m c 2 t (ix4 0 y1 y2 y3)
      = V m c main_v13 (ix4 ⟨t.val % 8, by have : t.val < 32 := t.isLt; omega⟩ y1 ⟨t.val / 8 * 8 + y2.val, by have : t.val < 32 := t.isLt; omega⟩ y3) := by
  obtain ⟨e0, e1, e2, e3⟩ := idx_2 t
  show V m c main_v13 (((cfg0.win 2).blk t).view.emb (ix4 0 y1 y2 y3)) = _
  refine congrArg (V m c main_v13) (funext fun a => Fin.ext ?_)
  match a with
  | ⟨0, _⟩ => show win0_2.index t 0 * 1 + 1 * 0 = t.val % 8; rw [e0] <;> omega
  | ⟨1, _⟩ => show win0_2.index t 1 * 64 + 1 * y1.val = y1.val; rw [e1] <;> omega
  | ⟨2, _⟩ => show win0_2.index t 2 * 8 + 1 * y2.val = t.val / 8 * 8 + y2.val; rw [e2] <;> omega
  | ⟨3, _⟩ => show win0_2.index t 3 * 512 + 1 * y3.val = y3.val; rw [e3] <;> omega

theorem idx_3 : ∀ t : Fin grid0.N, win0_3.index t 0 = t.val % 8 ∧ win0_3.index t 1 = t.val / 8 ∧ win0_3.index t 2 = 0 := by decide +kernel

theorem blk_3 (t : Fin cfg0.N) (y1 : Fin 512) (y2 : Fin 512) :
    X0_3 m c t (ix3 0 y1 y2)
      = V m c main_arg3 (ix3 ⟨t.val % 8, by have : t.val < 32 := t.isLt; omega⟩ ⟨t.val / 8 * 512 + y1.val, by have : t.val < 32 := t.isLt; omega⟩ ⟨y2.val, by omega⟩) := by
  obtain ⟨e0, e1, e2⟩ := idx_3 t
  unfold X0_3 Pipeline.Window.fill
  rw [dif_pos (moved0_3 t _)]
  refine congrArg (V m c main_arg3) (funext fun a => Fin.ext ?_)
  match a with
  | ⟨0, _⟩ => show win0_3.index t 0 * 1 + 1 * 0 = t.val % 8; rw [e0] <;> omega
  | ⟨1, _⟩ => show win0_3.index t 1 * 512 + 1 * y1.val = t.val / 8 * 512 + y1.val; rw [e1] <;> omega
  | ⟨2, _⟩ => show win0_3.index t 2 * 512 + 1 * y2.val = y2.val; rw [e2] <;> omega

theorem idx_4 : ∀ t : Fin grid0.N, win0_4.index t 0 = t.val / 8 ∧ win0_4.index t 1 = t.val % 8 ∧ win0_4.index t 2 = 0 ∧ win0_4.index t 3 = 0 := by decide +kernel

theorem blk_4 (t : Fin cfg0.N) (y0 : Fin 64) (y2 : Fin 8) (y3 : Fin 256) :
    iblk m c 4 t (ix4 y0 0 y2 y3)
      = V m c main_v10 (ix4 ⟨t.val / 8 * 64 + y0.val, by have : t.val < 32 := t.isLt; omega⟩ ⟨t.val % 8, by have : t.val < 32 := t.isLt; omega⟩ y2 y3) := by
  obtain ⟨e0, e1, e2, e3⟩ := idx_4 t
  show V m c main_v10 (((cfg0.win 4).blk t).view.emb (ix4 y0 0 y2 y3)) = _
  refine congrArg (V m c main_v10) (funext fun a => Fin.ext ?_)
  match a with
  | ⟨0, _⟩ => show win0_4.index t 0 * 64 + 1 * y0.val = t.val / 8 * 64 + y0.val; rw [e0] <;> omega
  | ⟨1, _⟩ => show win0_4.index t 1 * 1 + 1 * 0 = t.val % 8; rw [e1] <;> omega
  | ⟨2, _⟩ => show win0_4.index t 2 * 8 + 1 * y2.val = y2.val; rw [e2] <;> omega
  | ⟨3, _⟩ => show win0_4.index t 3 * 256 + 1 * y3.val = y3.val; rw [e3] <;> omega

theorem idx_5 : ∀ t : Fin grid0.N, win0_5.index t 0 = t.val / 8 ∧ win0_5.index t 1 = t.val % 8 ∧ win0_5.index t 2 = 0 ∧ win0_5.index t 3 = 0 := by decide +kernel

theorem blk_5 (t : Fin cfg0.N) (y0 : Fin 64) (y2 : Fin 8) (y3 : Fin 256) :
    iblk m c 5 t (ix4 y0 0 y2 y3)
      = V m c main_v12 (ix4 ⟨t.val / 8 * 64 + y0.val, by have : t.val < 32 := t.isLt; omega⟩ ⟨t.val % 8, by have : t.val < 32 := t.isLt; omega⟩ y2 y3) := by
  obtain ⟨e0, e1, e2, e3⟩ := idx_5 t
  show V m c main_v12 (((cfg0.win 5).blk t).view.emb (ix4 y0 0 y2 y3)) = _
  refine congrArg (V m c main_v12) (funext fun a => Fin.ext ?_)
  match a with
  | ⟨0, _⟩ => show win0_5.index t 0 * 64 + 1 * y0.val = t.val / 8 * 64 + y0.val; rw [e0] <;> omega
  | ⟨1, _⟩ => show win0_5.index t 1 * 1 + 1 * 0 = t.val % 8; rw [e1] <;> omega
  | ⟨2, _⟩ => show win0_5.index t 2 * 8 + 1 * y2.val = y2.val; rw [e2] <;> omega
  | ⟨3, _⟩ => show win0_5.index t 3 * 256 + 1 * y3.val = y3.val; rw [e3] <;> omega

theorem idx_6 : ∀ t : Fin grid0.N, win0_6.index t 0 = t.val % 8 ∧ win0_6.index t 1 = t.val / 8 ∧ win0_6.index t 2 = 2 := by decide +kernel

theorem blk_6 (t : Fin cfg0.N) (y1 : Fin 512) (y2 : Fin 256) :
    iblk m c 6 t (ix3 0 y1 y2)
      = V m c main_arg3 (ix3 ⟨t.val % 8, by have : t.val < 32 := t.isLt; omega⟩ ⟨t.val / 8 * 512 + y1.val, by have : t.val < 32 := t.isLt; omega⟩ ⟨2 * 256 + y2.val, by have : t.val < 32 := t.isLt; omega⟩) := by
  obtain ⟨e0, e1, e2⟩ := idx_6 t
  show V m c main_arg3 (((cfg0.win 6).blk t).view.emb (ix3 0 y1 y2)) = _
  refine congrArg (V m c main_arg3) (funext fun a => Fin.ext ?_)
  match a with
  | ⟨0, _⟩ => show win0_6.index t 0 * 1 + 1 * 0 = t.val % 8; rw [e0] <;> omega
  | ⟨1, _⟩ => show win0_6.index t 1 * 512 + 1 * y1.val = t.val / 8 * 512 + y1.val; rw [e1] <;> omega
  | ⟨2, _⟩ => show win0_6.index t 2 * 256 + 1 * y2.val = 2 * 256 + y2.val; rw [e2] <;> omega

theorem idx_7 : ∀ t : Fin grid0.N, win0_7.index t 0 = 1 ∧ win0_7.index t 1 = 0 ∧ win0_7.index t 2 = 0 := by decide +kernel

theorem blk_7 (t : Fin cfg0.N) (y2 : Fin 1024) :
    iblk m c 7 t (ix3 0 0 y2)
      = V m c main_v1 (ix3 (1 : Fin 2) 0 y2) := by
  obtain ⟨e0, e1, e2⟩ := idx_7 t
  show V m c main_v1 (((cfg0.win 7).blk t).view.emb (ix3 0 0 y2)) = _
  refine congrArg (V m c main_v1) (funext fun a => Fin.ext ?_)
  match a with
  | ⟨0, _⟩ => show win0_7.index t 0 * 1 + 1 * 0 = 1; rw [e0] <;> omega
  | ⟨1, _⟩ => show win0_7.index t 1 * 1 + 1 * 0 = 0; rw [e1] <;> omega
  | ⟨2, _⟩ => show win0_7.index t 2 * 1024 + 1 * y2.val = y2.val; rw [e2] <;> omega

theorem idx_8 : ∀ t : Fin grid0.N, win0_8.index t 0 = 1 ∧ win0_8.index t 1 = 0 ∧ win0_8.index t 2 = 0 := by decide +kernel

theorem blk_8 (t : Fin cfg0.N) (y1 : Fin 1024) (y2 : Fin 1024) :
    iblk m c 8 t (ix3 0 y1 y2)
      = V m c main_v2 (ix3 (1 : Fin 2) y1 y2) := by
  obtain ⟨e0, e1, e2⟩ := idx_8 t
  show V m c main_v2 (((cfg0.win 8).blk t).view.emb (ix3 0 y1 y2)) = _
  refine congrArg (V m c main_v2) (funext fun a => Fin.ext ?_)
  match a with
  | ⟨0, _⟩ => show win0_8.index t 0 * 1 + 1 * 0 = 1; rw [e0] <;> omega
  | ⟨1, _⟩ => show win0_8.index t 1 * 1024 + 1 * y1.val = y1.val; rw [e1] <;> omega
  | ⟨2, _⟩ => show win0_8.index t 2 * 1024 + 1 * y2.val = y2.val; rw [e2] <;> omega

theorem idx_9 : ∀ t : Fin grid0.N, win0_9.index t 0 = 1 ∧ win0_9.index t 1 = t.val % 8 ∧ win0_9.index t 2 = 2 ∧ win0_9.index t 3 = 0 ∧ win0_9.index t 4 = 0 := by decide +kernel

theorem blk_9 (t : Fin cfg0.N) (y4 : Fin 1024) :
    iblk m c 9 t (ix5 0 0 0 0 y4)
      = V m c main_v5 (ix5 (1 : Fin 2) ⟨t.val % 8, by have : t.val < 32 := t.isLt; omega⟩ (2 : Fin 6) 0 y4) := by
  obtain ⟨e0, e1, e2, e3, e4⟩ := idx_9 t
  show V m c main_v5 (((cfg0.win 9).blk t).view.emb (ix5 0 0 0 0 y4)) = _
  refine congrArg (V m c main_v5) (funext fun a => Fin.ext ?_)
  match a with
  | ⟨0, _⟩ => show win0_9.index t 0 * 1 + 1 * 0 = 1; rw [e0] <;> omega
  | ⟨1, _⟩ => show win0_9.index t 1 * 1 + 1 * 0 = t.val % 8; rw [e1] <;> omega
  | ⟨2, _⟩ => show win0_9.index t 2 * 1 + 1 * 0 = 2; rw [e2] <;> omega
  | ⟨3, _⟩ => show win0_9.index t 3 * 1 + 1 * 0 = 0; rw [e3] <;> omega
  | ⟨4, _⟩ => show win0_9.index t 4 * 1024 + 1 * y4.val = y4.val; rw [e4] <;> omega

theorem idx_10 : ∀ t : Fin grid0.N, win0_10.index t 0 = 1 ∧ win0_10.index t 1 = t.val % 8 ∧ win0_10.index t 2 = 3 ∧ win0_10.index t 3 = 0 ∧ win0_10.index t 4 = 0 := by decide +kernel

theorem blk_10 (t : Fin cfg0.N) (y4 : Fin 1024) :
    iblk m c 10 t (ix5 0 0 0 0 y4)
      = V m c main_v5 (ix5 (1 : Fin 2) ⟨t.val % 8, by have : t.val < 32 := t.isLt; omega⟩ (3 : Fin 6) 0 y4) := by
  obtain ⟨e0, e1, e2, e3, e4⟩ := idx_10 t
  show V m c main_v5 (((cfg0.win 10).blk t).view.emb (ix5 0 0 0 0 y4)) = _
  refine congrArg (V m c main_v5) (funext fun a => Fin.ext ?_)
  match a with
  | ⟨0, _⟩ => show win0_10.index t 0 * 1 + 1 * 0 = 1; rw [e0] <;> omega
  | ⟨1, _⟩ => show win0_10.index t 1 * 1 + 1 * 0 = t.val % 8; rw [e1] <;> omega
  | ⟨2, _⟩ => show win0_10.index t 2 * 1 + 1 * 0 = 3; rw [e2] <;> omega
  | ⟨3, _⟩ => show win0_10.index t 3 * 1 + 1 * 0 = 0; rw [e3] <;> omega
  | ⟨4, _⟩ => show win0_10.index t 4 * 1024 + 1 * y4.val = y4.val; rw [e4] <;> omega

theorem idx_11 : ∀ t : Fin grid0.N, win0_11.index t 0 = 1 ∧ win0_11.index t 1 = t.val % 8 ∧ win0_11.index t 2 = 4 ∧ win0_11.index t 3 = 0 ∧ win0_11.index t 4 = 0 := by decide +kernel

theorem blk_11 (t : Fin cfg0.N) (y4 : Fin 1024) :
    iblk m c 11 t (ix5 0 0 0 0 y4)
      = V m c main_v5 (ix5 (1 : Fin 2) ⟨t.val % 8, by have : t.val < 32 := t.isLt; omega⟩ (4 : Fin 6) 0 y4) := by
  obtain ⟨e0, e1, e2, e3, e4⟩ := idx_11 t
  show V m c main_v5 (((cfg0.win 11).blk t).view.emb (ix5 0 0 0 0 y4)) = _
  refine congrArg (V m c main_v5) (funext fun a => Fin.ext ?_)
  match a with
  | ⟨0, _⟩ => show win0_11.index t 0 * 1 + 1 * 0 = 1; rw [e0] <;> omega
  | ⟨1, _⟩ => show win0_11.index t 1 * 1 + 1 * 0 = t.val % 8; rw [e1] <;> omega
  | ⟨2, _⟩ => show win0_11.index t 2 * 1 + 1 * 0 = 4; rw [e2] <;> omega
  | ⟨3, _⟩ => show win0_11.index t 3 * 1 + 1 * 0 = 0; rw [e3] <;> omega
  | ⟨4, _⟩ => show win0_11.index t 4 * 1024 + 1 * y4.val = y4.val; rw [e4] <;> omega

theorem idx_12 : ∀ t : Fin grid0.N, win0_12.index t 0 = 1 ∧ win0_12.index t 1 = t.val % 8 ∧ win0_12.index t 2 = 5 ∧ win0_12.index t 3 = 0 ∧ win0_12.index t 4 = 0 := by decide +kernel

theorem blk_12 (t : Fin cfg0.N) (y4 : Fin 1024) :
    iblk m c 12 t (ix5 0 0 0 0 y4)
      = V m c main_v5 (ix5 (1 : Fin 2) ⟨t.val % 8, by have : t.val < 32 := t.isLt; omega⟩ (5 : Fin 6) 0 y4) := by
  obtain ⟨e0, e1, e2, e3, e4⟩ := idx_12 t
  show V m c main_v5 (((cfg0.win 12).blk t).view.emb (ix5 0 0 0 0 y4)) = _
  refine congrArg (V m c main_v5) (funext fun a => Fin.ext ?_)
  match a with
  | ⟨0, _⟩ => show win0_12.index t 0 * 1 + 1 * 0 = 1; rw [e0] <;> omega
  | ⟨1, _⟩ => show win0_12.index t 1 * 1 + 1 * 0 = t.val % 8; rw [e1] <;> omega
  | ⟨2, _⟩ => show win0_12.index t 2 * 1 + 1 * 0 = 5; rw [e2] <;> omega
  | ⟨3, _⟩ => show win0_12.index t 3 * 1 + 1 * 0 = 0; rw [e3] <;> omega
  | ⟨4, _⟩ => show win0_12.index t 4 * 1024 + 1 * y4.val = y4.val; rw [e4] <;> omega

theorem idx_13 : ∀ t : Fin grid0.N, win0_13.index t 0 = 1 ∧ win0_13.index t 1 = 0 ∧ win0_13.index t 2 = 0 := by decide +kernel

theorem blk_13 (t : Fin cfg0.N) (y2 : Fin 1024) :
    iblk m c 13 t (ix3 0 0 y2)
      = V m c main_v0 (ix3 (1 : Fin 2) 0 y2) := by
  obtain ⟨e0, e1, e2⟩ := idx_13 t
  show V m c main_v0 (((cfg0.win 13).blk t).view.emb (ix3 0 0 y2)) = _
  refine congrArg (V m c main_v0) (funext fun a => Fin.ext ?_)
  match a with
  | ⟨0, _⟩ => show win0_13.index t 0 * 1 + 1 * 0 = 1; rw [e0] <;> omega
  | ⟨1, _⟩ => show win0_13.index t 1 * 1 + 1 * 0 = 0; rw [e1] <;> omega
  | ⟨2, _⟩ => show win0_13.index t 2 * 1024 + 1 * y2.val = y2.val; rw [e2] <;> omega

theorem idx_14 : ∀ t : Fin grid0.N, win0_14.index t 0 = 1 ∧ win0_14.index t 1 = 0 ∧ win0_14.index t 2 = 0 := by decide +kernel

theorem blk_14 (t : Fin cfg0.N) (y1 : Fin 1024) (y2 : Fin 4096) :
    iblk m c 14 t (ix3 0 y1 y2)
      = V m c main_v3 (ix3 (1 : Fin 2) y1 y2) := by
  obtain ⟨e0, e1, e2⟩ := idx_14 t
  show V m c main_v3 (((cfg0.win 14).blk t).view.emb (ix3 0 y1 y2)) = _
  refine congrArg (V m c main_v3) (funext fun a => Fin.ext ?_)
  match a with
  | ⟨0, _⟩ => show win0_14.index t 0 * 1 + 1 * 0 = 1; rw [e0] <;> omega
  | ⟨1, _⟩ => show win0_14.index t 1 * 1024 + 1 * y1.val = y1.val; rw [e1] <;> omega
  | ⟨2, _⟩ => show win0_14.index t 2 * 4096 + 1 * y2.val = y2.val; rw [e2] <;> omega

theorem idx_15 : ∀ t : Fin grid0.N, win0_15.index t 0 = 1 ∧ win0_15.index t 1 = 0 ∧ win0_15.index t 2 = 0 := by decide +kernel

theorem blk_15 (t : Fin cfg0.N) (y1 : Fin 4096) (y2 : Fin 1024) :
    iblk m c 15 t (ix3 0 y1 y2)
      = V m c main_v4 (ix3 (1 : Fin 2) y1 y2) := by
  obtain ⟨e0, e1, e2⟩ := idx_15 t
  show V m c main_v4 (((cfg0.win 15).blk t).view.emb (ix3 0 y1 y2)) = _
  refine congrArg (V m c main_v4) (funext fun a => Fin.ext ?_)
  match a with
  | ⟨0, _⟩ => show win0_15.index t 0 * 1 + 1 * 0 = 1; rw [e0] <;> omega
  | ⟨1, _⟩ => show win0_15.index t 1 * 4096 + 1 * y1.val = y1.val; rw [e1] <;> omega
  | ⟨2, _⟩ => show win0_15.index t 2 * 1024 + 1 * y2.val = y2.val; rw [e2] <;> omega

theorem idx_16 : ∀ t : Fin grid0.N, win0_16.index t 0 = 0 ∧ win0_16.index t 1 = 0 := by decide +kernel

theorem blk_16 (t : Fin cfg0.N) (y1 : Fin 1024) :
    iblk m c 16 t (ix2 0 y1)
      = V m c main_v6 (ix2 0 y1) := by
  obtain ⟨e0, e1⟩ := idx_16 t
  show V m c main_v6 (((cfg0.win 16).blk t).view.emb (ix2 0 y1)) = _
  refine congrArg (V m c main_v6) (funext fun a => Fin.ext ?_)
  match a with
  | ⟨0, _⟩ => show win0_16.index t 0 * 1 + 1 * 0 = 0; rw [e0] <;> omega
  | ⟨1, _⟩ => show win0_16.index t 1 * 1024 + 1 * y1.val = y1.val; rw [e1] <;> omega

/-- The kernel's token: `token` of the arrays the memory holds. -/
def tokK (b : Fin 8) (T : Fin 2048) : Row :=
  token (fun i j k => m ((c : Thread nD τ).loc main_arg0) (ix3 i j k)) (fun i j k => m ((c : Thread nD τ).loc main_arg1) (ix3 i j k))
    (fun i j k => m ((c : Thread nD τ).loc main_arg2) (ix3 i j k)) (fun i j k => m ((c : Thread nD τ).loc main_arg3) (ix3 i j k))
    (fun i j k => m ((c : Thread nD τ).loc main_arg4) (ix3 i j k)) (fun i j k => m ((c : Thread nD τ).loc main_arg5) (ix3 i j k))
    (fun i j k => m ((c : Thread nD τ).loc main_arg6) (ix3 i j k)) (fun i j => m ((c : Thread nD τ).loc main_arg7) (ix2 i j))
    (fun i j k => m ((c : Thread nD τ).loc main_arg8) (ix3 i j k)) (fun i j => m ((c : Thread nD τ).loc main_arg9) (ix2 i j))
    (fun i j k => m ((c : Thread nD τ).loc main_arg10) (ix3 i j k)) (fun i j k => m ((c : Thread nD τ).loc main_arg11) (ix3 i j k))
    (fun i => m ((c : Thread nD τ).loc main_arg12) (ix1 i)) b T

end Cert.Mix

end
-- ==== Proof.MixArr.lean ====
module

public import proofs.«01_k».proof.Proof.MixWin

@[expose] public section

noncomputable section

namespace Cert.Mix

open Cert.Kernel2Ideal Cert.Kernel2Ideal.Gen Cert.Kernel2Ideal.Value Idealize.ShloMosaic Idealize.ShloMosaic.TcCoe
open Idealize.ShloMosaic.Pipeline (Dat Cfg Window)

/-! The kernel's result, token by token. -/

variable (m : (ℓ : Loc nD τ sig) → Buf (Elt Ideal) ℓ) (c : Dev nD)

/-- The sequence of the batch that point `t` works on. -/
def seqOf (t : Fin cfg0.N) : Fin 8 := ⟨t.val % 8, by omega⟩

/-- The token of that sequence that row `r` of the tile is. -/
def tokOf (t : Fin cfg0.N) (r : Fin 512) : Fin 2048 := ⟨512 * (t.val / 8) + r.val, by have : t.val < 32 := t.isLt; omega⟩

/-- The grid point that writes token `T` of sequence `b`. -/
def pointOf (b : Fin 8) (T : Fin 2048) : Fin cfg0.N := ⟨8 * (T.val / 512) + b.val, by show _ < 32; omega⟩

theorem fin1 {n : ℕ} (f : Fin n → EReal) (i j : Fin n) (h : i.val = j.val) : f i = f j := congrArg f (Fin.ext h)

theorem fin3 {k l n : ℕ} (f : Fin k → Fin l → Fin n → EReal) {i i' : Fin k} {j j' : Fin l} {q q' : Fin n} (h : i.val = i'.val) (h' : j.val = j'.val)
    (h'' : q.val = q'.val) : f i j q = f i' j' q' := by
  rw [Fin.ext h, Fin.ext h', Fin.ext h'']

/-- Row `r` of what point `t` leaves is that token's row. -/
theorem row_apply (t : Fin cfg0.N) (r : Fin 512) (n : Fin 1024) :
    tile (iblk m c 13 t) (iblk m c 10 t) (iblk m c 11 t) (cols (iblk m c 14 t)) (rows (iblk m c 15 t)) (iblk m c 12 t) (iblk m c 16 t)
      (tileMid (iblk m c 7 t) (iblk m c 1 t) (strided (iblk m c 2 t)) (X0_3 m c t) (iblk m c 6 t) (iblk m c 4 t) (iblk m c 5 t) (iblk m c 0 t) (iblk m c 9 t) (iblk m c 8 t))
      (tileSq (iblk m c 7 t) (iblk m c 1 t) (strided (iblk m c 2 t)) (X0_3 m c t) (iblk m c 6 t) (iblk m c 4 t) (iblk m c 5 t) (iblk m c 0 t) (iblk m c 9 t) (iblk m c 8 t))
      (ix3 0 r n) = (tokK m c (seqOf t) (tokOf t r)).fin n := by
  have ht : t.val < 32 := t.isLt
  have hs : (seqOf t).val = t.val % 8 := rfl
  have hT : (tokOf t r).val = 512 * (t.val / 8) + r.val := rfl
  refine tile_apply (tokK m c (seqOf t) (tokOf t r)) r _ _ _ _ _ _ _ _ _ _ _ _ _ _ _ _ _ ?_ ?_ ?_ ?_ ?_ ?_ ?_ ?_ ?_ ?_ ?_ ?_ ?_ ?_ ?_ ?_ ?_ n
  · intro k; rw [blk_7, V_1]; rfl
  · intro j; rw [blk_1, V_8]
    refine fin3 (fun i j k => m ((c : Thread nD τ).loc main_arg1) (ix3 i j k)) ?_ ?_ ?_
    · show (t.val % 8 * 256 + j.val) / 256 = t.val % 8; omega
    · show t.val / 8 * 512 + r.val = 512 * (t.val / 8) + r.val; omega
    · show (t.val % 8 * 256 + j.val) % 256 = j.val; omega
  · intro q a l h
    have e : strided (iblk m c 2 t) q (ix4 0 a 0 l) = iblk m c 2 t (ix4 0 a q l) := by
      unfold strided
      refine congrArg (iblk m c 2 t) (funext fun x => Fin.ext ?_)
      match x with
      | ⟨0, _⟩ => rfl
      | ⟨1, _⟩ => show 0 + 1 * a.val = a.val; omega
      | ⟨2, _⟩ => show q.val + 1 * 0 = q.val; omega
      | ⟨3, _⟩ => show 0 + 1 * l.val = l.val; omega
    rw [e, blk_2, V_13]
    refine fin3 (fun i j k => m ((c : Thread nD τ).loc main_arg2) (ix3 i j k)) rfl ?_ rfl
    show a.val * 32 + (t.val / 8 * 8 + q.val) = (512 * (t.val / 8) + r.val) % 64 * 32 + (512 * (t.val / 8) + r.val) / 64
    omega
  · intro l; rw [blk_3, V_main_arg3]
    refine fin3 (fun i j k => m ((c : Thread nD τ).loc main_arg3) (ix3 i j k)) rfl ?_ rfl
    show t.val / 8 * 512 + r.val = 512 * (t.val / 8) + r.val; omega
  · intro a e l h; rw [blk_4, V_10]
    refine fin3 (fun i j k => m ((c : Thread nD τ).loc main_arg4) (ix3 i j k)) rfl ?_ rfl
    show (t.val / 8 * 64 + a.val) * 8 + e.val = 512 * (t.val / 8) + r.val; omega
  · intro a e l h; rw [blk_5, V_12]
    refine fin3 (fun i j k => m ((c : Thread nD τ).loc main_arg5) (ix3 i j k)) rfl ?_ rfl
    show (t.val / 8 * 64 + a.val) * 8 + e.val = 512 * (t.val / 8) + r.val; omega
  · intro l; rw [blk_6, V_main_arg3]
    refine fin3 (fun i j k => m ((c : Thread nD τ).loc main_arg3) (ix3 i j k)) rfl ?_ ?_
    · show t.val / 8 * 512 + r.val = 512 * (t.val / 8) + r.val; omega
    · show 2 * 256 + l.val = 512 + l.val; omega
  · intro n; rw [blk_0, V_main_arg0]
    refine fin3 (fun i j k => m ((c : Thread nD τ).loc main_arg0) (ix3 i j k)) rfl ?_ rfl
    show t.val / 8 * 512 + r.val = 512 * (t.val / 8) + r.val; omega
  · intro n; rw [blk_9, V_5]; rfl
  · intro k n; rw [blk_8, V_2]; rfl
  · intro n; rw [blk_13, V_0]; rfl
  · intro n; rw [blk_10, V_5]; rfl
  · intro n; rw [blk_11, V_5]; rfl
  · intro q j k f h
    have e : cols (iblk m c 14 t) q (ix3 0 j k) = iblk m c 14 t (ix3 0 j f) := by
      unfold cols
      refine congrArg (iblk m c 14 t) (funext fun x => Fin.ext ?_)
      match x with
      | ⟨0, _⟩ => rfl
      | ⟨1, _⟩ => show 0 + 1 * j.val = j.val; omega
      | ⟨2, _⟩ => show 1024 * q.val + 1 * k.val = f.val; omega
    rw [e, blk_14, V_3]; rfl
  · intro q k n f h
    have e : rows (iblk m c 15 t) q (ix3 0 k n) = iblk m c 15 t (ix3 0 f n) := by
      unfold rows
      refine congrArg (iblk m c 15 t) (funext fun x => Fin.ext ?_)
      match x with
      | ⟨0, _⟩ => rfl
      | ⟨1, _⟩ => show 1024 * q.val + 1 * k.val = f.val; omega
      | ⟨2, _⟩ => show 0 + 1 * n.val = n.val; omega
    rw [e, blk_15, V_4]; rfl
  · intro n; rw [blk_12, V_5]; rfl
  · intro n; rw [blk_16, V_6]; rfl

theorem idx_17 : ∀ t : Fin grid0.N, win0_17.index t 0 = t.val % 8 ∧ win0_17.index t 1 = t.val / 8 ∧ win0_17.index t 2 = 0 := by decide +kernel

theorem flush_17 : ∀ t : Fin cfg0.N, (cfg0.win 17).flush t = true :=
  (by decide +kernel : ∀ t : Fin grid0.N, (cfg0.win 17).flush t = true)

/-- The array the run leaves, at a token. -/
theorem arr_apply (b : Fin 8) (T : Fin 2048) (n : Fin 1024) : (dats m 0 c).arrAt 17 cfg0.N (ix3 b T n) = (tokK m c b T).fin n := by
  have h := (blocks17 m c (pointOf b T) (flush_17 _)).trans (flushed17_A m c (pointOf b T))
  rw [out_eq] at h
  have h' := congrFun h (ix3 0 ⟨T.val % 512, by omega⟩ n)
  obtain ⟨e0, e1, e2⟩ := idx_17 (pointOf b T)
  have hl : ((cfg0.win 17).blk (pointOf b T)).view.read (Elt Ideal) ((dats m 0 c).arrAt 17 cfg0.N) (ix3 0 ⟨T.val % 512, by omega⟩ n)
      = (dats m 0 c).arrAt 17 cfg0.N (ix3 b T n) := by
    show (dats m 0 c).arrAt 17 cfg0.N (((cfg0.win 17).blk (pointOf b T)).view.emb (ix3 0 ⟨T.val % 512, by omega⟩ n)) = _
    refine congrArg ((dats m 0 c).arrAt 17 cfg0.N) (funext fun a => Fin.ext ?_)
    match a with
    | ⟨0, _⟩ => show win0_17.index (pointOf b T) 0 * 1 + 1 * 0 = b.val; rw [e0]; show (8 * (T.val / 512) + b.val) % 8 * 1 + 1 * 0 = b.val; omega
    | ⟨1, _⟩ => show win0_17.index (pointOf b T) 1 * 512 + 1 * (T.val % 512) = T.val; rw [e1]; show (8 * (T.val / 512) + b.val) / 8 * 512 + 1 * (T.val % 512) = T.val; omega
    | ⟨2, _⟩ => show win0_17.index (pointOf b T) 2 * 1024 + 1 * n.val = n.val; rw [e2]; omega
  refine hl.symm.trans (h'.trans ?_)
  refine (row_apply m c (pointOf b T) ⟨T.val % 512, by omega⟩ n).trans ?_
  have hb : seqOf (pointOf b T) = b := Fin.ext (by show (8 * (T.val / 512) + b.val) % 8 = b.val; omega)
  have hT : tokOf (pointOf b T) ⟨T.val % 512, by omega⟩ = T :=
    Fin.ext (by show 512 * ((8 * (T.val / 512) + b.val) / 8) + T.val % 512 = T.val; omega)
  rw [hb, hT]

end Cert.Mix

end
-- ==== Proof.MixRef.lean ====
module

public import proofs.«01_k».proof.Proof.Gen.Reference2Ideal.Read
public import proofs.«01_k».proof.Proof.MixRow
public import Idealize.ShloMosaic.Lib.Pointwise

@[expose] public section

noncomputable section

namespace Cert.Mix

open Cert.Reference2Ideal Cert.Reference2Ideal.Gen Cert.Reference2Ideal.Read Idealize.ShloMosaic

/-! The reference's result, token by token. -/

variable (x0 : Vec Ideal S8x2048x1024 .f32) (x1 x4 x5 : Vec Ideal S8x2048x256 .f32) (x2 : Vec Ideal S8x2048x512 .f32) (x3 : Vec Ideal S8x2048x768 .f32)
  (x6 : Vec Ideal S2x16x6144 .f32) (x7 x9 : Vec Ideal S2x1024 .f32) (x8 : Vec Ideal S2x1024x1024 .f32) (x10 : Vec Ideal S2x1024x4096 .f32)
  (x11 : Vec Ideal S2x4096x1024 .f32) (x12 : Vec Ideal S1024 .f32) (b : Fin 8) (T : Fin 2048)

/-- The reference's token: `token` of its arguments. -/
abbrev tokR : Row :=
  token (fun i j k => x0 (ix3 i j k)) (fun i j k => x1 (ix3 i j k)) (fun i j k => x2 (ix3 i j k)) (fun i j k => x3 (ix3 i j k))
    (fun i j k => x4 (ix3 i j k)) (fun i j k => x5 (ix3 i j k)) (fun i j k => x6 (ix3 i j k)) (fun i j => x7 (ix2 i j))
    (fun i j k => x8 (ix3 i j k)) (fun i j => x9 (ix2 i j)) (fun i j k => x10 (ix3 i j k)) (fun i j k => x11 (ix3 i j k)) (fun i => x12 (ix1 i)) b T

theorem ref_hyN (j : Fin 256) : val_main_v22 (F := Ideal) x1 x7 (ix3 b T j) = Row.hyN (tokR x0 x1 x4 x5 x2 x3 x6 x7 x9 x8 x10 x11 x12 b T) j := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v4, val_main_v3, val_main_cst, val_main_cst_0, val_main_cst_1]
  simp only [mul_comm _ 64]
  rfl

theorem ref_mlN (j : Fin 512) : val_main_v48 (F := Ideal) x2 x3 x7 (ix3 b T j) = Row.mlN (tokR x0 x1 x4 x5 x2 x3 x6 x7 x9 x8 x10 x11 x12 b T) j := by
  pointwise [val_main_v48, val_main_v47, val_main_v46, val_main_v45, val_main_v44, val_main_v43, val_main_v42, val_main_v5, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v4, val_main_v3, val_main_cst_2, val_main_cst_3, val_main_cst_4, val_main_cst_5, val_main_cst_6]
  simp only [mul_comm _ 128]
  rfl

theorem ref_rg (j : Fin 256) : val_main_v63 (F := Ideal) x3 x4 x5 (ix3 b T j) = Row.rg (tokR x0 x1 x4 x5 x2 x3 x6 x7 x9 x8 x10 x11 x12 b T) j := by
  pointwise [val_main_v63, val_main_v62, val_main_v61, val_main_v60, val_main_v59, val_main_v58, val_main_v57, val_main_v56, val_main_v55, val_main_v54, val_main_v53, val_main_v52, val_main_v51, val_main_v50, val_main_v49, val_main_v6, val_main_cst_7, val_main_cst_8, val_main_cst_9, val_main_cst_10]
  rw [mul_left_comm (x3 _), ← mul_assoc (Ideal.ofBits .f32 0x3F000000#32)]
  rfl

theorem ref_rgN (j : Fin 256) : val_main_v79 (F := Ideal) x3 x4 x5 x7 (ix3 b T j) = Row.rgN (tokR x0 x1 x4 x5 x2 x3 x6 x7 x9 x8 x10 x11 x12 b T) j := by
  pointwise [val_main_v79, val_main_v78, val_main_v77, val_main_v76, val_main_v75, val_main_v74, val_main_v73, val_main_v72, val_main_v71, val_main_v70, val_main_v69, val_main_v68, val_main_v67, val_main_v66, val_main_v65, val_main_v64, val_main_v4, val_main_v3, val_main_cst_11, val_main_cst_12, val_main_cst_13]
  simp only [ref_rg x0 x1 x4 x5 x2 x3 x6 x7 x9 x8 x10 x11 x12]
  simp only [mul_comm _ 64]
  rfl

theorem ref_cat (k : Fin 1024) : val_main_v80 (F := Ideal) x1 x2 x3 x4 x5 x7 (ix3 b T k) = Row.cat (tokR x0 x1 x4 x5 x2 x3 x6 x7 x9 x8 x10 x11 x12 b T) k := by
  pointwise [val_main_v80]
  simp only [ref_hyN x0 x1 x4 x5 x2 x3 x6 x7 x9 x8 x10 x11 x12, ref_mlN x0 x1 x4 x5 x2 x3 x6 x7 x9 x8 x10 x11 x12, ref_rgN x0 x1 x4 x5 x2 x3 x6 x7 x9 x8 x10 x11 x12]
  unfold Row.cat
  by_cases h : k.val < 256
  · refine (dif_pos h).trans (Eq.trans ?_ (dif_pos h).symm)
    rfl
  · refine (dif_neg h).trans (Eq.trans ?_ (dif_neg h).symm)
    by_cases h' : k.val < 768
    · refine (dif_pos (show k.val - 256 < 512 by omega)).trans (Eq.trans ?_ (dif_pos h').symm)
      rfl
    · refine (dif_neg (show ¬ k.val - 256 < 512 by omega)).trans (Eq.trans ?_ (dif_neg h').symm)
      exact congrArg _ (Fin.ext (by show k.val - 256 - 512 = k.val - 768; omega))

theorem ref_mid (n : Fin 1024) : val_main_v88 (F := Ideal) x0 x1 x2 x3 x4 x5 x6 x7 x8 (ix3 b T n) = Row.mid (tokR x0 x1 x4 x5 x2 x3 x6 x7 x9 x8 x10 x11 x12 b T) n := by
  pointwise [val_main_v88, val_main_v87, val_main_v86, val_main_v85, val_main_v84, val_main_v83, val_main_v82, val_main_v81, val_main_v2, val_main_v1, val_main_v0]
  simp only [ref_cat x0 x1 x4 x5 x2 x3 x6 x7 x9 x8 x10 x11 x12]
  rfl

theorem ref_nrm (n : Fin 1024) : val_main_v113 (F := Ideal) x0 x1 x2 x3 x4 x5 x6 x7 x8 x9 (ix3 b T n) = Row.nrm (tokR x0 x1 x4 x5 x2 x3 x6 x7 x9 x8 x10 x11 x12 b T) n := by
  pointwise [val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v2, val_main_v1, val_main_v0, val_main_cst_14, val_main_cst_15, val_main_cst_16, val_main_cst_17]
  simp only [ref_mid x0 x1 x4 x5 x2 x3 x6 x7 x9 x8 x10 x11 x12]
  rfl

theorem ref_act (k : Fin 4096) : val_main_v119 (F := Ideal) x0 x1 x2 x3 x4 x5 x6 x7 x8 x9 x10 (ix3 b T k) = Row.act (tokR x0 x1 x4 x5 x2 x3 x6 x7 x9 x8 x10 x11 x12 b T) k := by
  pointwise [val_main_v119, val_main_v118, val_main_v117, val_main_v116, val_main_call0_v0, val_main_call0_cst]
  simp only [ref_nrm x0 x1 x4 x5 x2 x3 x6 x7 x9 x8 x10 x11 x12]
  rfl

theorem ref_out (n : Fin 1024) : val_main_v126 (F := Ideal) x0 x1 x2 x3 x4 x5 x6 x7 x8 x9 x10 x11 (ix3 b T n) = Row.out (tokR x0 x1 x4 x5 x2 x3 x6 x7 x9 x8 x10 x11 x12 b T) n := by
  pointwise [val_main_v126, val_main_v125, val_main_v124, val_main_v123, val_main_v122, val_main_v121, val_main_v120, val_main_v115, val_main_v114, val_main_v2, val_main_v1, val_main_v0]
  simp only [ref_mid x0 x1 x4 x5 x2 x3 x6 x7 x9 x8 x10 x11 x12, ref_act x0 x1 x4 x5 x2 x3 x6 x7 x9 x8 x10 x11 x12]
  rfl

/-- The reference's result at a token. -/
theorem ref_fin (n : Fin 1024) : val_main_v139 (F := Ideal) x0 x1 x2 x3 x4 x5 x6 x7 x8 x9 x10 x11 x12 (ix3 b T n) = Row.fin (tokR x0 x1 x4 x5 x2 x3 x6 x7 x9 x8 x10 x11 x12 b T) n := by
  pointwise [val_main_v139, val_main_v138, val_main_v137, val_main_v136, val_main_v135, val_main_v134, val_main_v133, val_main_v132, val_main_v131, val_main_v130, val_main_v129, val_main_v128, val_main_v127, val_main_cst_18, val_main_cst_19, val_main_cst_20]
  simp only [ref_out x0 x1 x4 x5 x2 x3 x6 x7 x9 x8 x10 x11 x12]
  rfl

end Cert.Mix

end
-- ==== Proof.MixClaim.lean ====
module

public import proofs.«01_k».proof.Defs
public import proofs.«01_k».proof.Proof.MixArr
public import proofs.«01_k».proof.Proof.MixRef

@[expose] public section

noncomputable section

namespace Cert.Mix

open Idealize.ShloMosaic Idealize.ShloMosaic.TcCoe Idealize.SL.Sem

/-- Every index of the result is one token's lane. -/
theorem idx3_eta {n0 n1 n2 : ℕ} (y : (⟨3, ![n0, n1, n2]⟩ : Shape).Idx) : y = ix3 (y 0) (y 1) (y 2) := by
  funext a
  match a with
  | ⟨0, _⟩ => rfl
  | ⟨1, _⟩ => rfl
  | ⟨2, _⟩ => rfl

/-- The channel mix's kernel and reference leave the same result from the same arguments. -/
theorem agree : Cert.algebraic_Kernel2Ideal_Reference2Ideal (hKernel2Ideal := Cert.Kernel2Ideal.Gen.facts) (hReference2Ideal := Cert.Reference2Ideal.Gen.facts) := by
  intro m g m' g' _ hm
  refine ⟨fun c => (Cert.Kernel2Ideal.Gen.dats m 0 c).arrAt 17 Cert.Kernel2Ideal.cfg0.N, ?_, ?_⟩
  · exact Cert.Kernel2Ideal.Value.run_blocks m g
  · refine (θ_run Cert.Reference2Ideal.defs _ _).mono (fun r h c => ?_) (Cert.Reference2Ideal.Value.run m' g')
    obtain ⟨h, k⟩ := h c
    refine ⟨?_, k⟩
    rw [h, Cert.Reference2Ideal.Read.val_main_v139_eq]
    obtain ⟨e0, e1, e2, e3, e4, e5, e6, e7, e8, e9, e10, e11, e12⟩ := hm c
    funext y
    rw [idx3_eta y]
    refine (ref_fin _ _ _ _ _ _ _ _ _ _ _ _ _ (y 0) (y 1) (y 2)).trans ?_
    refine Eq.trans ?_ (arr_apply m c (y 0) (y 1) (y 2)).symm
    simp only [Idealize.ShloMosaic.StableHlo.launchContents_devRef, e0, e1, e2, e3, e4, e5, e6, e7, e8, e9, e10, e11, e12]
    rfl

end Cert.Mix

end
-- ==== Proof.RgMath.lean ====
module

public import Idealize.ShloMosaic.PureOps.Ideal.Laws
public import proofs.«01_k».proof.Proof.MixTile

@[expose] public section

noncomputable section

namespace Cert.Rg

open Idealize.ShloMosaic Cert.Mix

/-! The gated recurrence over the extended reals, and the equalities between the ways its gates are written. -/

/-- The recurrence's arguments by their indices: the inputs, the convolution's taps, the gates' weights and biases, the
    decay parameters and the initial states. -/
structure Args where
  z : Fin 8 → Fin 2048 → Fin 256 → EReal
  w : Fin 4 → Fin 256 → EReal
  gw : Fin 2 → Fin 2 → Fin 4 → Fin 64 → Fin 64 → EReal
  gb : Fin 2 → Fin 2 → Fin 256 → EReal
  lam : Fin 2 → Fin 256 → EReal
  h0 : Fin 2 → Fin 8 → Fin 256 → EReal

/-- The arguments that the equalities need finite are. -/
structure Args.Fine (G : Args) : Prop where
  z : ∀ b t c, ∃ r : ℝ, G.z b t c = r
  w : ∀ k c, ∃ r : ℝ, G.w k c = r
  lam : ∀ d c, G.lam d c ≠ ⊥

namespace Args

variable (G : Args)

/-- The inputs with a zero row before them and zeros after. -/
def padded (b : Fin 8) (s : ℕ) (c : Fin 256) : EReal :=
  if h : 1 ≤ s ∧ s - 1 < 2048 then G.z b ⟨s - 1, h.2⟩ c else 0

/-- The convolved inputs. -/
def conv (b : Fin 8) (t : ℕ) (c : Fin 256) : EReal :=
  G.w 0 c * G.padded b t c + G.w 1 c * G.padded b (t + 1) c + G.w 2 c * G.padded b (t + 2) c + G.w 3 c * G.padded b (t + 3) c

/-- A gate's argument: the lane's head's product, and the bias. -/
def pre (d g : Fin 2) (b : Fin 8) (t : ℕ) (j : Fin 256) : EReal :=
  ∑ i : Fin 64, G.conv b t ⟨j.val / 64 * 64 + i.val, by omega⟩ * G.gw d g ⟨j.val / 64, by omega⟩ i ⟨j.val % 64, by omega⟩ + G.gb d g j

/-- The softplus of minus the decay parameter. -/
def soft (d : Fin 2) (c : Fin 256) : EReal :=
  max (-G.lam d c) 0 + Ideal.log1p (Ideal.exp (-max (-G.lam d c) (- -G.lam d c)))

/-- The decay's logarithm. -/
def logA (d : Fin 2) (b : Fin 8) (t : ℕ) (c : Fin 256) : EReal :=
  ((-8 : ℝ) : EReal) * Ideal.logistic (G.pre d 0 b t c) * G.soft d c

/-- The decay. -/
def decay (d : Fin 2) (b : Fin 8) (t : ℕ) (c : Fin 256) : EReal := Ideal.exp (G.logA d b t c)

/-- The state's input. -/
def inp (d : Fin 2) (b : Fin 8) (t : ℕ) (c : Fin 256) : EReal :=
  Ideal.sqrt (-Ideal.expm1 (((2 : ℝ) : EReal) * G.logA d b t c)) * (Ideal.logistic (G.pre d 1 b t c) * G.conv b t c)

/-- The token that direction `d` takes at step `k`. -/
def tok (d : Fin 2) (k : ℕ) : ℕ := if d = 0 then k else 2047 - k

/-- The states of direction `d`. -/
def state (d : Fin 2) (b : Fin 8) (c : Fin 256) : ℕ → EReal
  | 0 => G.h0 d b c
  | k + 1 => G.decay d b (tok d k) c * state d b c k + G.inp d b (tok d k) c

end Args

/-! ## Finite values -/

theorem real_of_padded {G : Args} (hG : G.Fine) (b : Fin 8) (s : ℕ) (c : Fin 256) : ∃ r : ℝ, G.padded b s c = r := by
  unfold Args.padded
  split
  · exact hG.z _ _ _
  · exact ⟨0, rfl⟩

theorem real_of_conv {G : Args} (hG : G.Fine) (b : Fin 8) (t : ℕ) (c : Fin 256) : ∃ r : ℝ, G.conv b t c = r := by
  obtain ⟨w0, e0⟩ := hG.w 0 c
  obtain ⟨w1, e1⟩ := hG.w 1 c
  obtain ⟨w2, e2⟩ := hG.w 2 c
  obtain ⟨w3, e3⟩ := hG.w 3 c
  obtain ⟨p0, f0⟩ := real_of_padded hG b t c
  obtain ⟨p1, f1⟩ := real_of_padded hG b (t + 1) c
  obtain ⟨p2, f2⟩ := real_of_padded hG b (t + 2) c
  obtain ⟨p3, f3⟩ := real_of_padded hG b (t + 3) c
  refine ⟨w0 * p0 + w1 * p1 + w2 * p2 + w3 * p3, ?_⟩
  unfold Args.conv
  rw [e0, e1, e2, e3, f0, f1, f2, f3]
  norm_cast

theorem soft_real {G : Args} (hG : G.Fine) (d : Fin 2) (c : Fin 256) : ∃ s : ℝ, 0 ≤ s ∧ G.soft d c = s := by
  have h := hG.lam d c
  unfold Args.soft Ideal.log1p
  generalize G.lam d c = l at h ⊢
  induction l with
  | bot => exact absurd rfl h
  | top =>
    refine ⟨0, le_rfl, ?_⟩
    rw [EReal.neg_top, EReal.neg_bot, max_eq_right bot_le, max_eq_right (a := (⊥ : EReal)) bot_le, EReal.neg_top, zero_add]
    show Ideal.log (1 + 0) = _
    rw [add_zero]
    show (if (1 : ℝ) ≤ 0 then ⊥ else ((Real.log 1 : ℝ) : EReal)) = _
    rw [if_neg (by norm_num), Real.log_one]
  | coe x =>
    have hp : (0 : ℝ) < Real.exp (-max (-x) (- -x)) := Real.exp_pos _
    refine ⟨max (-x) 0 + Real.log (1 + Real.exp (-max (-x) (- -x))), add_nonneg (le_max_right _ _) (Real.log_nonneg (by linarith)), ?_⟩
    have e1 : max (-((x : ℝ) : EReal)) 0 = ((max (-x) 0 : ℝ) : EReal) := by
      rw [← EReal.coe_neg, ← EReal.coe_zero]; exact (EReal.coe_strictMono.monotone.map_max).symm
    have e2 : -max (-((x : ℝ) : EReal)) (- -((x : ℝ) : EReal)) = ((-max (-x) (- -x) : ℝ) : EReal) := by
      rw [← EReal.coe_neg, ← EReal.coe_neg, EReal.coe_neg (max _ _)]; exact congrArg _ (EReal.coe_strictMono.monotone.map_max).symm
    rw [e1, e2]
    show _ + Ideal.log (1 + ((Real.exp (-max (-x) (- -x)) : ℝ) : EReal)) = _
    rw [← EReal.coe_one, ← EReal.coe_add]
    show _ + (if 1 + Real.exp (-max (-x) (- -x)) ≤ 0 then ⊥ else ((Real.log (1 + Real.exp (-max (-x) (- -x))) : ℝ) : EReal)) = _
    rw [if_neg (by linarith), ← EReal.coe_add]

/-- The hyperbolic tangent is a real number between -1 and 1. -/
theorem tanh_real (x : EReal) : ∃ t : ℝ, -1 ≤ t ∧ t ≤ 1 ∧ Ideal.tanh x = t := by
  induction x with
  | bot => exact ⟨-1, le_rfl, by norm_num, rfl⟩
  | top => exact ⟨1, by norm_num, le_rfl, rfl⟩
  | coe v => exact ⟨Real.tanh v, (Real.neg_one_lt_tanh v).le, (Real.tanh_lt_one v).le, rfl⟩

/-! ## The gates as the kernel writes them -/

/-- Half of a sum is the sum of the halves. -/
theorem half_add (a b : EReal) : half * (a + b) = half * a + half * b := by
  rw [half_eq]
  exact EReal.left_distrib_of_nonneg_of_ne_top (by exact_mod_cast (by norm_num : (0 : ℝ) ≤ 1 / 2)) (EReal.coe_ne_top _) a b

theorem half_sum {n : ℕ} (f : Fin n → EReal) : half * ∑ i, f i = ∑ i, half * f i := by
  classical
  induction (Finset.univ : Finset (Fin n)) using Finset.induction_on with
  | empty => simp
  | insert a s ha ih => rw [Finset.sum_insert ha, Finset.sum_insert ha, half_add, ih]

/-- A sum over 256 lanes by heads of 64. -/
theorem sum_heads (f : Fin 256 → EReal) : ∑ k, f k = ∑ q : Fin 4, ∑ i : Fin 64, f ⟨q.val * 64 + i.val, by omega⟩ := by
  rw [← Finset.sum_product']
  refine Finset.sum_nbij' (fun k => (⟨k.val / 64, by omega⟩, ⟨k.val % 64, by omega⟩)) (fun p => ⟨p.1.val * 64 + p.2.val, by omega⟩) ?_ ?_ ?_ ?_ ?_
  · intro a _; simp
  · intro a _; simp
  · intro a _; apply Fin.ext; show a.val / 64 * 64 + a.val % 64 = a.val; omega
  · rintro ⟨p, q⟩ _
    refine Prod.ext (Fin.ext ?_) (Fin.ext ?_)
    · show (p.val * 64 + q.val) / 64 = p.val; omega
    · show (p.val * 64 + q.val) % 64 = q.val; omega
  · intro a _; refine congrArg f (Fin.ext ?_); show a.val = a.val / 64 * 64 + a.val % 64; omega

/-- The product with the block-diagonal halved weights is half of the head's product. -/
theorem half_pre (G : Args) (d g : Fin 2) (b : Fin 8) (t : ℕ) (j : Fin 256) :
    ∑ k : Fin 256, G.conv b t k * (half * G.gw d g ⟨k.val / 64, by omega⟩ ⟨k.val % 64, by omega⟩ ⟨j.val % 64, by omega⟩ * (if k.val / 64 = j.val / 64 then (1 : EReal) else 0))
      + half * G.gb d g j = half * G.pre d g b t j := by
  unfold Args.pre
  rw [half_add, half_sum]
  congr 1
  rw [sum_heads, Finset.sum_eq_single (⟨j.val / 64, by omega⟩ : Fin 4)]
  · refine Finset.sum_congr rfl fun i _ => ?_
    have e1 : (j.val / 64 * 64 + i.val) / 64 = j.val / 64 := by omega
    have e2 : (j.val / 64 * 64 + i.val) % 64 = i.val := by omega
    simp only [e1, e2, if_true, mul_one]
    rw [mul_left_comm]
  · intro q _ hq
    refine Finset.sum_eq_zero fun i _ => ?_
    have e1 : (q.val * 64 + i.val) / 64 = q.val := by omega
    have : q.val ≠ j.val / 64 := fun h => hq (Fin.ext h)
    simp only [e1, if_neg this, mul_zero]
  · intro h; exact absurd (Finset.mem_univ _) h

/-- The kernel's rate: the named constant times the softplus. -/
def rateOf (G : Args) (d : Fin 2) (c : Fin 256) : EReal := (((-4) * (Real.log 2)⁻¹ : ℝ) : EReal) * G.soft d c

/-- The kernel's decay. -/
def kdecay (G : Args) (d : Fin 2) (b : Fin 8) (t : ℕ) (c : Fin 256) : EReal :=
  Ideal.exp2 (rateOf G d c + rateOf G d c * Ideal.tanh (half * G.pre d 0 b t c))

/-- The real numbers behind a decay. -/
theorem decay_real {G : Args} (hG : G.Fine) (d : Fin 2) (b : Fin 8) (t : ℕ) (c : Fin 256) :
    ∃ v : ℝ, v ≤ 0 ∧ G.logA d b t c = v ∧ kdecay G d b t c = ((Real.exp v : ℝ) : EReal) := by
  obtain ⟨s, hs, es⟩ := soft_real hG d c
  obtain ⟨u, hu1, hu2, eu⟩ := tanh_real (half * G.pre d 0 b t c)
  refine ⟨-8 * (1 / 2 + 1 / 2 * u) * s, by nlinarith, ?_, ?_⟩
  · unfold Args.logA
    rw [← half_tanh, eu, es, half_eq]
    norm_cast
  · unfold kdecay rateOf
    rw [es, eu, ← EReal.coe_mul, ← EReal.coe_mul, ← EReal.coe_add]
    show ((Real.rpow 2 _ : ℝ) : EReal) = _
    have h2 : Real.log 2 ≠ 0 := (Real.log_pos (by norm_num)).ne'
    congr 1
    show (2 : ℝ) ^ (_ : ℝ) = _
    rw [Real.rpow_def_of_pos (by norm_num)]
    congr 1
    field_simp
    ring

theorem kdecay_eq {G : Args} (hG : G.Fine) (d : Fin 2) (b : Fin 8) (t : ℕ) (c : Fin 256) : kdecay G d b t c = G.decay d b t c := by
  obtain ⟨v, _, e, e'⟩ := decay_real hG d b t c
  rw [e', Args.decay, e]
  rfl

/-- The kernel's root of one minus a decay's square. -/
def kroot (a : EReal) : EReal := if 0 < 1 - a * a then (1 - a * a) * Ideal.rsqrt (1 - a * a) else 0

/-- The kernel's input of the state. -/
def kinp (G : Args) (d : Fin 2) (b : Fin 8) (t : ℕ) (c : Fin 256) : EReal :=
  kroot (kdecay G d b t c) * (half * G.conv b t c + half * G.conv b t c * Ideal.tanh (half * G.pre d 1 b t c))

theorem kinp_eq {G : Args} (hG : G.Fine) (d : Fin 2) (b : Fin 8) (t : ℕ) (c : Fin 256) : kinp G d b t c = G.inp d b t c := by
  obtain ⟨v, hv, e, e'⟩ := decay_real hG d b t c
  obtain ⟨x, ex⟩ := real_of_conv hG b t c
  obtain ⟨u, hu1, hu2, eu⟩ := tanh_real (half * G.pre d 1 b t c)
  unfold kinp Args.inp
  congr 1
  · rw [e, e', kroot, ← EReal.coe_mul, ← EReal.coe_mul, ← Real.exp_add, ← two_mul]
    show _ = Ideal.sqrt (-(((Real.exp (2 * v) : ℝ) : EReal) - ((1 : ℝ) : EReal)))
    rw [show (1 : EReal) = ((1 : ℝ) : EReal) from rfl, ← EReal.coe_sub, ← EReal.coe_sub, ← EReal.coe_neg, neg_sub]
    have hy : 0 ≤ 1 - Real.exp (2 * v) := by
      have : Real.exp (2 * v) ≤ 1 := Real.exp_le_one_iff.2 (by linarith)
      linarith
    generalize 1 - Real.exp (2 * v) = y at hy
    show (if (0 : EReal) < (y : EReal) then (y : EReal) * (if y < 0 then ⊥ else if y = 0 then ⊤ else (((Real.sqrt y)⁻¹ : ℝ) : EReal)) else 0)
      = if y < 0 then ⊥ else ((Real.sqrt y : ℝ) : EReal)
    rw [if_neg (not_lt.2 hy), if_neg (not_lt.2 hy)]
    by_cases h0 : y = 0
    · subst h0
      simp
    · have hp : 0 < y := lt_of_le_of_ne hy (Ne.symm h0)
      rw [if_neg h0, if_pos (by exact_mod_cast hp), ← EReal.coe_mul]
      show (((y * (Real.sqrt y)⁻¹ : ℝ)) : EReal) = _
      congr 1
      rw [← div_eq_mul_inv, Real.div_sqrt]
  · rw [← half_tanh, ex, eu, half_eq]
    norm_cast
    ring_nf

end Cert.Rg

end
-- ==== Proof.RgPad.lean ====
module

public import proofs.«01_k».proof.Proof.RgTile
public import proofs.«01_k».proof.Proof.RgMath
public import Idealize.ShloMosaic.Lib.Pipeline.ValueKit.Tiles

@[expose] public section

set_option maxRecDepth 16384

noncomputable section

namespace Cert.Rg

open Cert.KernelIdeal Cert.KernelIdeal.Gen Cert.KernelIdeal.Rg Idealize.ShloMosaic

/-! The rows a tile reads, with the rows around them, are rows of the padded inputs. -/

theorem off1_facts : ∀ i : grid0.Coords, k0_off1 i = ![256 * (i 0).val, 0, 0] := by decide +kernel
theorem off4_facts : ∀ i : grid0.Coords, k0_off4 i = ![256 * (7 - (i 0).val), 0, 0] := by decide +kernel
theorem off2_facts : ∀ i : grid0.Coords, k0_off2 i = ![256 * (i 0).val - 1, 0, 0] := by decide +kernel
theorem off5_facts : ∀ i : grid0.Coords, k0_off5 i = ![256 * (7 - (i 0).val) - 1, 0, 0] := by decide +kernel
theorem off3_facts0 : ∀ i : grid0.Coords, k0_off3 i 0#32 = ![min (256 * (i 0).val + 256) 2047, 0, 0] := by decide +kernel
theorem off3_facts1 : ∀ i : grid0.Coords, k0_off3 i 1#32 = ![min (256 * (i 0).val + 257) 2047, 0, 0] := by decide +kernel
theorem off6_facts0 : ∀ i : grid0.Coords, k0_off6 i 0#32 = ![min (256 * (7 - (i 0).val) + 256) 2047, 0, 0] := by decide +kernel
theorem off6_facts1 : ∀ i : grid0.Coords, k0_off6 i 1#32 = ![min (256 * (7 - (i 0).val) + 257) 2047, 0, 0] := by decide +kernel

/-- The masks of the rows around a tile, as integers. -/
theorem mask_before0 : ∀ i : grid0.Coords, (Scalar.extui (Scalar.cmpi .sge (Scalar.addi (Scalar.subi (row0 i) 1#32) 0#32) 0#32)).toInt = if 1 ≤ 256 * (i 0).val then 1 else 0 := by decide +kernel
theorem mask_before1 : ∀ i : grid0.Coords, (Scalar.extui (Scalar.cmpi .sge (Scalar.addi (Scalar.subi (row1 i) 1#32) 0#32) 0#32)).toInt = if 1 ≤ 256 * (7 - (i 0).val) then 1 else 0 := by decide +kernel
theorem mask_after0 : ∀ i : grid0.Coords, (Scalar.extui (Scalar.cmpi .slt (Scalar.addi (Scalar.addi (row0 i) 256#32) 0#32) 2048#32)).toInt = if 256 * (i 0).val + 256 < 2048 then 1 else 0 := by decide +kernel
theorem mask_after1 : ∀ i : grid0.Coords, (Scalar.extui (Scalar.cmpi .slt (Scalar.addi (Scalar.addi (row1 i) 256#32) 0#32) 2048#32)).toInt = if 256 * (7 - (i 0).val) + 256 < 2048 then 1 else 0 := by decide +kernel
theorem mask_last0 : ∀ i : grid0.Coords, (Scalar.extui (Scalar.cmpi .slt (Scalar.addi (Scalar.addi (row0 i) 256#32) 1#32) 2048#32)).toInt = if 256 * (i 0).val + 257 < 2048 then 1 else 0 := by decide +kernel
theorem mask_last1 : ∀ i : grid0.Coords, (Scalar.extui (Scalar.cmpi .slt (Scalar.addi (Scalar.addi (row1 i) 256#32) 1#32) 2048#32)).toInt = if 256 * (7 - (i 0).val) + 257 < 2048 then 1 else 0 := by decide +kernel

theorem pay5_apply (x : Vec Ideal S256x8x256 .f32) (f : Fin 256) (g : Fin 8) (l : Fin 256) : k0_pay5 x (ix3 f g l) = x (ix3 f g l) := by
  pointwise [k0_pay5]

theorem pay1716_apply (x : Vec Ideal S256x8x256 .f32) (f : Fin 256) (g : Fin 8) (l : Fin 256) : k0_pay17 (k0_pay16 x) (ix3 f g l) = x (ix3 f g l) := by
  pointwise [k0_pay17, k0_pay16]

theorem pay7_apply (v : BitVec 1) (x : Vec Ideal S1x8x256 .f32) (g : Fin 8) (l : Fin 256) :
    k0_pay7 (k0_pay6 x) v (ix3 0 g l) = x (ix3 0 g l) * (((Scalar.extui v).toInt : ℝ) : EReal) := by
  pointwise [k0_pay7, k0_pay6]

theorem pay8_apply (v : BitVec 32) (x : Vec Ideal S1x8x256 .f32) (g : Fin 8) (l : Fin 256) :
    k0_pay8 v x (ix3 0 g l) = x (ix3 0 g l) * (((Scalar.extui (Scalar.cmpi .slt (Scalar.addi (Scalar.addi v 256#32) 0#32) 2048#32)).toInt : ℝ) : EReal) := by
  pointwise [k0_pay8]

theorem pay9_apply (v : BitVec 32) (x : Vec Ideal S1x8x256 .f32) (g : Fin 8) (l : Fin 256) :
    k0_pay9 v x (ix3 0 g l) = x (ix3 0 g l) * (((Scalar.extui (Scalar.cmpi .slt (Scalar.addi (Scalar.addi v 256#32) 1#32) 2048#32)).toInt : ℝ) : EReal) := by
  pointwise [k0_pay9]

theorem pay18_apply (v : BitVec 32) (x : Vec Ideal S1x8x256 .f32) (g : Fin 8) (l : Fin 256) :
    k0_pay18 v x (ix3 0 g l) = x (ix3 0 g l) * (((Scalar.extui (Scalar.cmpi .sge (Scalar.addi (Scalar.subi v 1#32) 0#32) 0#32)).toInt : ℝ) : EReal) := by
  pointwise [k0_pay18]

theorem pay19_apply (v : BitVec 32) (x : Vec Ideal S1x8x256 .f32) (g : Fin 8) (l : Fin 256) :
    k0_pay19 v x (ix3 0 g l) = x (ix3 0 g l) * (((Scalar.extui (Scalar.cmpi .slt (Scalar.addi (Scalar.addi v 256#32) 0#32) 2048#32)).toInt : ℝ) : EReal) := by
  pointwise [k0_pay19]

theorem pay20_apply (v : BitVec 32) (x : Vec Ideal S1x8x256 .f32) (g : Fin 8) (l : Fin 256) :
    k0_pay20 v x (ix3 0 g l) = x (ix3 0 g l) * (((Scalar.extui (Scalar.cmpi .slt v 2048#32)).toInt : ℝ) : EReal) := by
  pointwise [k0_pay20]

section

variable {G : Args} {x1 : Vec Ideal S2048x8x256 .f32} (hx : ∀ t b c, x1 (ix3 t b c) = G.z b t c)
include hx

/-- A masked row read at `r` is row `T` of the padded inputs. -/
theorem masked_row {off : Fin 3 → ℕ} (inb : ∀ a, off a + S1x8x256.size a ≤ S2048x8x256.size a) (r T : ℕ) (M : ℤ) (hoff : off = ![r, 0, 0])
    (h : if 1 ≤ T ∧ T - 1 < 2048 then r = T - 1 ∧ M = 1 else M = 0) (b : Fin 8) (c : Fin 256) :
    View.ld (Val := Elt Ideal) (e' := .f32) x1 (Rect.unit (s := S2048x8x256) off S1x8x256.size inb) (ix3 0 b c) * (((M : ℝ)) : EReal) = G.padded b T c := by
  subst hoff
  unfold Args.padded
  split at h
  · rename_i hT
    obtain ⟨rfl, rfl⟩ := h
    rw [dif_pos hT, Int.cast_one, EReal.coe_one, mul_one, ← hx]
    refine View.ld_unit_apply_of (Val := Elt Ideal) x1 _ _ _ _ _ fun a => ?_
    match a with
    | ⟨0, _⟩ => rfl
    | ⟨1, _⟩ => exact (Nat.zero_add _).symm
    | ⟨2, _⟩ => exact (Nat.zero_add _).symm
  · rename_i hT
    subst h
    rw [dif_neg hT, Int.cast_zero, EReal.coe_zero, mul_zero]

/-- A row of a tile read from `r` is a row of the padded inputs. -/
theorem tile_row {off : Fin 3 → ℕ} (inb : ∀ a, off a + S256x8x256.size a ≤ S2048x8x256.size a) (r : ℕ) (hoff : off = ![r, 0, 0]) (hr : r + 256 ≤ 2048)
    (f : Fin 256) (b : Fin 8) (c : Fin 256) :
    View.ld (Val := Elt Ideal) (e' := .f32) x1 (Rect.unit (s := S2048x8x256) off S256x8x256.size inb) (ix3 f b c) = G.padded b (r + (f.val + 1)) c := by
  subst hoff
  unfold Args.padded
  rw [dif_pos (by omega), ← hx]
  refine View.ld_unit_apply_of (Val := Elt Ideal) x1 _ _ _ _ _ fun a => ?_
  match a with
  | ⟨0, _⟩ => rfl
  | ⟨1, _⟩ => exact (Nat.zero_add _).symm
  | ⟨2, _⟩ => exact (Nat.zero_add _).symm

omit hx in
/-- Three single rows and a tile of rows, stored one after the other, at an index. -/
theorem rows_apply (L : List (View.Piece (Elt Ideal) S259x8x256 .f32)) (p2 p1 p0 : Vec Ideal S1x8x256 .f32) (p : Vec Ideal S256x8x256 .f32)
    (s : Fin 259) (b : Fin 8) (c : Fin 256) (v : EReal)
    (h2 : s.val = 258 → p2 (ix3 0 b c) = v) (h1 : s.val = 257 → p1 (ix3 0 b c) = v) (h0 : s.val = 0 → p0 (ix3 0 b c) = v)
    (h : ∀ f : Fin 256, s.val = f.val + 1 → p (ix3 f b c) = v) :
    View.canon (Val := Elt Ideal) (s := S259x8x256) (e := .f32) (⟨Rect.unit (s := S259x8x256) ![258, 0, 0] S1x8x256.size inb_S259x8x256_S1x8x256_258_0_0, p2⟩ ::
      ⟨Rect.unit (s := S259x8x256) ![257, 0, 0] S1x8x256.size inb_S259x8x256_S1x8x256_257_0_0, p1⟩ ::
      ⟨Rect.unit (s := S259x8x256) ![0, 0, 0] S1x8x256.size inb_S259x8x256_S1x8x256_0_0_0, p0⟩ ::
      ⟨Rect.unit (s := S259x8x256) ![1, 0, 0] S256x8x256.size inb_S259x8x256_S256x8x256_1_0_0, p⟩ :: L) (ix3 s b c) = v := by
  have key : ∀ (q : ℕ) (inb : ∀ a, (![q, 0, 0] : Fin 3 → ℕ) a + S1x8x256.size a ≤ S259x8x256.size a) (w : Vec Ideal S1x8x256 .f32) (K : List (View.Piece (Elt Ideal) S259x8x256 .f32)),
      (s.val = q → w (ix3 0 b c) = v) → (s.val ≠ q → View.canon (Val := Elt Ideal) K (ix3 s b c) = v) →
      View.canon (Val := Elt Ideal) (⟨Rect.unit (s := S259x8x256) ![q, 0, 0] S1x8x256.size inb, w⟩ :: K) (ix3 s b c) = v := by
    intro q inb w K hw hK
    by_cases hs : s.val = q
    · have e : (ix3 s b c : S259x8x256.Idx) = (Rect.unit (s := S259x8x256) ![q, 0, 0] S1x8x256.size inb).emb (ix3 0 b c) := by
        funext a
        apply Fin.ext
        match a with
        | ⟨0, _⟩ => show s.val = q + 1 * 0; omega
        | ⟨1, _⟩ => show b.val = 0 + 1 * b.val; omega
        | ⟨2, _⟩ => show c.val = 0 + 1 * c.val; omega
      rw [e, View.canon_cons_emb (Val := Elt Ideal)]
      exact hw hs
    · rw [View.canon_cons_of_not_mem (Val := Elt Ideal)]
      · exact hK hs
      · show (ix3 s b c : S259x8x256.Idx) ∉ (Rect.unit (s := S259x8x256) ![q, 0, 0] S1x8x256.size inb).set
        rw [Rect.mem_set_unit]
        intro hh
        have h' : q ≤ s.val ∧ s.val < q + 1 := hh 0
        omega
  refine key _ _ _ _ h2 fun n2 => key _ _ _ _ h1 fun n1 => key _ _ _ _ h0 fun n0 => ?_
  have hs := s.isLt
  have e : (ix3 s b c : S259x8x256.Idx) = (Rect.unit (s := S259x8x256) ![1, 0, 0] S256x8x256.size inb_S259x8x256_S256x8x256_1_0_0).emb (ix3 (⟨s.val - 1, by omega⟩ : Fin 256) b c) := by
    funext a
    apply Fin.ext
    match a with
    | ⟨0, _⟩ => show s.val = 1 + 1 * (s.val - 1); omega
    | ⟨1, _⟩ => show b.val = 0 + 1 * b.val; omega
    | ⟨2, _⟩ => show c.val = 0 + 1 * c.val; omega
  rw [e, View.canon_cons_emb (Val := Elt Ideal)]
  exact h _ (by show s.val = s.val - 1 + 1; omega)

/-- The first direction's rows. -/
theorem padded0_apply (i : grid0.Coords) (s : Fin 259) (b : Fin 8) (c : Fin 256) : padded0 i x1 (ix3 s b c) = G.padded b (256 * (i 0).val + s.val) c := by
  have hi : (i 0).val < 8 := (i 0).isLt
  refine rows_apply _ _ _ _ _ s b c _ (fun hs => ?_) (fun hs => ?_) (fun hs => ?_) (fun f hs => ?_)
  · rw [pay9_apply, hs]
    refine masked_row hx _ _ _ _ (off3_facts1 i) ?_ b c
    rw [mask_last0]
    split <;> split <;> omega
  · rw [pay8_apply, hs]
    refine masked_row hx _ _ _ _ (off3_facts0 i) ?_ b c
    rw [mask_after0]
    split <;> split <;> omega
  · rw [pay7_apply, hs]
    refine masked_row hx _ _ _ _ (off2_facts i) ?_ b c
    rw [mask_before0]
    split <;> split <;> omega
  · rw [pay5_apply, hs]
    exact tile_row hx _ _ (off1_facts i) (by omega) f b c

/-- The second direction's rows. -/
theorem padded1_apply (i : grid0.Coords) (s : Fin 259) (b : Fin 8) (c : Fin 256) : padded1 i x1 (ix3 s b c) = G.padded b (256 * (7 - (i 0).val) + s.val) c := by
  have hi : (i 0).val < 8 := (i 0).isLt
  refine rows_apply _ _ _ _ _ s b c _ (fun hs => ?_) (fun hs => ?_) (fun hs => ?_) (fun f hs => ?_)
  · rw [pay20_apply, hs]
    refine masked_row hx _ _ _ _ (off6_facts1 i) ?_ b c
    rw [mask_last1]
    split <;> split <;> omega
  · rw [pay19_apply, hs]
    refine masked_row hx _ _ _ _ (off6_facts0 i) ?_ b c
    rw [mask_after1]
    split <;> split <;> omega
  · rw [pay18_apply, hs]
    refine masked_row hx _ _ _ _ (off5_facts i) ?_ b c
    rw [mask_before1]
    split <;> split <;> omega
  · rw [pay1716_apply, hs]
    exact tile_row hx _ _ (off4_facts i) (by omega) f b c

end

end Cert.Rg

end
-- ==== Proof.RgTileVal.lean ====
module

public import proofs.«01_k».proof.Proof.RgPad

@[expose] public section

set_option maxRecDepth 16384

noncomputable section

namespace Cert.Rg

open Cert.KernelIdeal Cert.KernelIdeal.Gen Cert.KernelIdeal.Rg Idealize.ShloMosaic Cert.Mix

/-! One tile of the recurrence by its indices: its decays and its inputs are those of the rows it visits. -/

/-- The blocks a tile reads hold the arguments. -/
structure Blocks (G : Args) (x1 : Vec Ideal S2048x8x256 .f32) (x2 : Vec Ideal S1x4x256 .f32) (x3 : Vec Ideal S1x256x1024 .bf16)
    (x4 : Vec Ideal S1x1x1024 .f32) (x5 : Vec Ideal S1x2x256 .f32) : Prop where
  z : ∀ t b c, x1 (ix3 t b c) = G.z b t c
  w : ∀ k c, x2 (ix3 0 k c) = G.w k c
  gw : ∀ (d g : Fin 2) (k j : Fin 256) (n : Fin 1024), n.val = 512 * d.val + 256 * g.val + j.val →
    x3 (ix3 0 k n) = half * G.gw d g ⟨k.val / 64, by omega⟩ ⟨k.val % 64, by omega⟩ ⟨j.val % 64, by omega⟩ * (if k.val / 64 = j.val / 64 then (1 : EReal) else 0)
  gb : ∀ (d g : Fin 2) (j : Fin 256) (n : Fin 1024), n.val = 512 * d.val + 256 * g.val + j.val → x4 (ix3 0 0 n) = half * G.gb d g j
  lam : ∀ d c, x5 (ix3 0 d c) = G.lam d c

/-! ## Loads at an index -/

theorem ld_tap (x2 : Vec Ideal S1x4x256 .f32) (k : Fin 4) (inb : ∀ a, (![0, k.val, 0] : Fin 3 → ℕ) a + S1x1x256.size a ≤ S1x4x256.size a) (c : Fin 256) :
    View.ld (Val := Elt Ideal) (e' := .f32) x2 (Rect.unit (s := S1x4x256) ![0, k.val, 0] S1x1x256.size inb) (ix3 0 0 c) = x2 (ix3 0 k c) := by
  refine View.ld_unit_apply_of (Val := Elt Ideal) x2 _ _ _ _ _ fun a => ?_
  match a with
  | ⟨0, _⟩ => rfl
  | ⟨1, _⟩ => rfl
  | ⟨2, _⟩ => exact (Nat.zero_add _).symm

theorem ld_rows (X : Vec Ideal S259x8x256 .f32) (q : ℕ) (hq : q ≤ 3) (inb : ∀ a, (![q, 0, 0] : Fin 3 → ℕ) a + S256x8x256.size a ≤ S259x8x256.size a)
    (f : Fin 256) (b : Fin 8) (c : Fin 256) :
    View.ld (Val := Elt Ideal) (e' := .f32) X (Rect.unit (s := S259x8x256) ![q, 0, 0] S256x8x256.size inb) (ix3 f b c) = X (ix3 ⟨q + f.val, by omega⟩ b c) := by
  refine View.ld_unit_apply_of (Val := Elt Ideal) X _ _ _ _ _ fun a => ?_
  match a with
  | ⟨0, _⟩ => rfl
  | ⟨1, _⟩ => exact (Nat.zero_add _).symm
  | ⟨2, _⟩ => exact (Nat.zero_add _).symm

theorem ld_gate (x3 : Vec Ideal S1x256x1024 .bf16) (q : ℕ) (hq : q ≤ 512) (inb : ∀ a, (![0, 0, q] : Fin 3 → ℕ) a + S1x256x512.size a ≤ S1x256x1024.size a)
    (k : Fin 256) (j : Fin 512) :
    View.ld (Val := Elt Ideal) (e' := .bf16) x3 (Rect.unit (s := S1x256x1024) ![0, 0, q] S1x256x512.size inb) (ix3 0 k j) = x3 (ix3 0 k ⟨q + j.val, by omega⟩) := by
  refine View.ld_unit_apply_of (Val := Elt Ideal) x3 _ _ _ _ _ fun a => ?_
  match a with
  | ⟨0, _⟩ => rfl
  | ⟨1, _⟩ => exact (Nat.zero_add _).symm
  | ⟨2, _⟩ => rfl

theorem ld_bias (x4 : Vec Ideal S1x1x1024 .f32) (q : ℕ) (hq : q ≤ 512) (inb : ∀ a, (![0, 0, q] : Fin 3 → ℕ) a + S1x1x512.size a ≤ S1x1x1024.size a) (j : Fin 512) :
    View.ld (Val := Elt Ideal) (e' := .f32) x4 (Rect.unit (s := S1x1x1024) ![0, 0, q] S1x1x512.size inb) (ix3 0 0 j) = x4 (ix3 0 0 ⟨q + j.val, by omega⟩) := by
  refine View.ld_unit_apply_of (Val := Elt Ideal) x4 _ _ _ _ _ fun a => ?_
  match a with
  | ⟨0, _⟩ => rfl
  | ⟨1, _⟩ => rfl
  | ⟨2, _⟩ => rfl

/-! ## The payloads at an index -/

section

variable (w0 w1 w2 w3 : Vec Ideal S1x1x256 .f32) (r0 r1 r2 r3 : Vec Ideal S256x8x256 .f32) (w : Vec Ideal S1x256x512 .bf16) (bias : Vec Ideal S1x1x512 .f32)
  (rt : FVec Ideal S2x256 .f32) (f : Fin 256) (b : Fin 8) (c : Fin 256)

theorem pay10_apply : k0_pay10 w0 r0 w1 r1 w2 r2 w3 r3 (ix3 f b c)
    = w0 (ix3 0 0 c) * r0 (ix3 f b c) + w1 (ix3 0 0 c) * r1 (ix3 f b c) + w2 (ix3 0 0 c) * r2 (ix3 f b c) + w3 (ix3 0 0 c) * r3 (ix3 f b c) := by
  pointwise [k0_pay10]

theorem pay22_apply : k0_pay22 (k0_pay21 w0 r0 w1 r1 w2 r2) w3 r3 (ix3 f b c)
    = w0 (ix3 0 0 c) * r0 (ix3 f b c) + w1 (ix3 0 0 c) * r1 (ix3 f b c) + w2 (ix3 0 0 c) * r2 (ix3 f b c) + w3 (ix3 0 0 c) * r3 (ix3 f b c) := by
  pointwise [k0_pay22, k0_pay21]

theorem pay11_apply (n : Fin 2048) (j : Fin 512) : k0_pay11 w0 r0 w1 r1 w2 r2 w3 r3 w (ix2 n j)
    = ∑ k : Fin 256, k0_pay10 w0 r0 w1 r1 w2 r2 w3 r3 (ix3 ⟨n.val / 8, by omega⟩ ⟨n.val % 8, by omega⟩ k) * w (ix3 0 k j) := by
  pointwise [k0_pay11]

theorem pay23_apply (v : FVec Ideal S256x8x256 .f32) (n : Fin 2048) (j : Fin 512) : k0_pay23 v w3 r3 w bias (ix2 n j)
    = ∑ k : Fin 256, k0_pay22 v w3 r3 (ix3 ⟨n.val / 8, by omega⟩ ⟨n.val % 8, by omega⟩ k) * w (ix3 0 k j) + bias (ix3 0 0 j) := by
  pointwise [k0_pay23]

theorem pay14_apply (p : FVec Ideal S2048x512 .f32) : k0_pay14 rt p bias (ix4 0 f b c)
    = Ideal.exp2 (rt (ix2 0 c) + rt (ix2 0 c) * Ideal.tanh (p (ix2 ⟨f.val * 8 + b.val, by omega⟩ ⟨c.val, by omega⟩) + bias (ix3 0 0 ⟨c.val, by omega⟩))) := by
  pointwise [k0_pay14, k0_pay13, k0_pay12]
  rfl

theorem pay15_apply (v : FVec Ideal S256x8x256 .f32) (p : FVec Ideal S2048x512 .f32) : k0_pay15 rt v p bias (ix4 0 f b c)
    = kroot (k0_pay14 rt p bias (ix4 0 f b c))
      * (half * v (ix3 f b c) + half * v (ix3 f b c) * Ideal.tanh (p (ix2 ⟨f.val * 8 + b.val, by omega⟩ ⟨256 + c.val, by omega⟩) + bias (ix3 0 0 ⟨256 + c.val, by omega⟩))) := by
  rw [pay14_apply]
  pointwise [k0_pay15, k0_pay13, k0_pay12]
  rfl

theorem pay28_apply (v : FVec Ideal S256x8x256 .f32) : k0_pay28 rt v w3 r3 w bias (ix4 0 f b c)
    = Ideal.exp2 (rt (ix2 1 c) + rt (ix2 1 c) * Ideal.tanh (k0_pay23 v w3 r3 w bias (ix2 ⟨f.val * 8 + b.val, by omega⟩ ⟨c.val, by omega⟩))) := by
  pointwise [k0_pay28, k0_pay25]
  rfl

theorem pay29_apply (v : FVec Ideal S256x8x256 .f32) : k0_pay29 (k0_pay24 v w3 r3 w bias) (k0_pay26 rt v w3 r3 w bias) (k0_pay27 v w3 r3) (ix4 0 f b c)
    = kroot (k0_pay28 rt v w3 r3 w bias (ix4 0 f b c))
      * (half * k0_pay22 v w3 r3 (ix3 f b c) + half * k0_pay22 v w3 r3 (ix3 f b c) * Ideal.tanh (k0_pay23 v w3 r3 w bias (ix2 ⟨f.val * 8 + b.val, by omega⟩ ⟨256 + c.val, by omega⟩))) := by
  rw [pay28_apply]
  pointwise [k0_pay29, k0_pay24, k0_pay26, k0_pay27, k0_pay25]
  rfl

theorem pay4_apply (x5 : Vec Ideal S1x2x256 .f32) (d : Fin 2) : k0_pay4 x5 (ix2 d c)
    = (((-4) * (Real.log 2)⁻¹ : ℝ) : EReal) * (max (0 - x5 (ix3 0 d c)) 0 + Ideal.log (1 + Ideal.exp (0 - max (x5 (ix3 0 d c)) (-x5 (ix3 0 d c))))) := by
  pointwise [k0_pay4]
  rfl

theorem pay30_apply (x : Vec Ideal S1x8x256 .f32) : k0_pay30 x (ix2 b c) = x (ix3 0 b c) := by pointwise [k0_pay30]
theorem pay31_apply (x : Vec Ideal S1x8x256 .f32) : k0_pay31 x (ix2 b c) = x (ix3 0 b c) := by pointwise [k0_pay31]
theorem pay36_apply (x : FVec Ideal S8x256 .f32) : k0_pay36 x (ix3 0 b c) = x (ix2 b c) := by pointwise [k0_pay36]
theorem pay37_apply (x : FVec Ideal S8x256 .f32) : k0_pay37 x (ix3 0 b c) = x (ix2 b c) := by pointwise [k0_pay37]
theorem pay32_apply (h : FVec Ideal S8x256 .f32) (A B : Vec Ideal S1x1x8x256 .f32) : k0_pay32 h A B (ix2 b c) = A (ix4 0 0 b c) * h (ix2 b c) + B (ix4 0 0 b c) := by
  pointwise [k0_pay32]
theorem pay34_apply (h : FVec Ideal S8x256 .f32) (A B : Vec Ideal S1x1x8x256 .f32) : k0_pay34 h A B (ix2 b c) = A (ix4 0 0 b c) * h (ix2 b c) + B (ix4 0 0 b c) := by
  pointwise [k0_pay34]
theorem pay1_apply (x : Vec Ideal S1x256x8x256 .f32) (g : Fin 32) (e : Fin 8) : k0_pay1 x (ix4 g b e c) = x (ix4 0 ⟨g.val * 8 + e.val, by omega⟩ b c) := by
  pointwise [k0_pay1]
theorem pay2_apply (x : Vec Ideal S1x256x8x256 .f32) (g : Fin 32) (e : Fin 8) : k0_pay2 x (ix4 g b e c) = x (ix4 0 ⟨g.val * 8 + e.val, by omega⟩ b c) := by
  pointwise [k0_pay2]

end

/-! ## The tile's values -/

section

variable {G : Args} {x1 : Vec Ideal S2048x8x256 .f32} {x2 : Vec Ideal S1x4x256 .f32} {x3 : Vec Ideal S1x256x1024 .bf16} {x4 : Vec Ideal S1x1x1024 .f32}
  {x5 : Vec Ideal S1x2x256 .f32} (hB : Blocks G x1 x2 x3 x4 x5)
include hB

theorem rate_apply (d : Fin 2) (c : Fin 256) : rate x5 (ix2 d c) = rateOf G d c := by
  have e : View.ld (Val := Elt Ideal) (e' := .f32) x5 (Rect.unit (s := S1x2x256) ![0, 0, 0] S1x2x256.size inb_S1x2x256_S1x2x256_0_0_0) (ix3 0 d c) = x5 (ix3 0 d c) := by
    refine View.ld_unit_apply_of (Val := Elt Ideal) x5 _ _ _ _ _ fun a => ?_
    match a with
    | ⟨0, _⟩ => rfl
    | ⟨1, _⟩ => exact (Nat.zero_add _).symm
    | ⟨2, _⟩ => exact (Nat.zero_add _).symm
  unfold rate
  rw [pay4_apply]
  simp only [e, hB.lam]
  unfold rateOf Args.soft Ideal.log1p
  rw [zero_sub, zero_sub, neg_neg, max_comm (G.lam d c)]

/-- Four taps of padded rows from `base` are the convolution from `base`. -/
theorem taps_eq (X : Vec Ideal S259x8x256 .f32) (base : ℕ) (hX : ∀ s b c, X (ix3 s b c) = G.padded b (base + s.val) c) (f : Fin 256) (b : Fin 8) (c : Fin 256) :
    View.ld (Val := Elt Ideal) (e' := .f32) x2 (Rect.unit (s := S1x4x256) ![0, 0, 0] S1x1x256.size inb_S1x4x256_S1x1x256_0_0_0) (ix3 0 0 c)
        * View.ld (Val := Elt Ideal) (e' := .f32) X (Rect.unit (s := S259x8x256) ![0, 0, 0] S256x8x256.size inb_S259x8x256_S256x8x256_0_0_0) (ix3 f b c)
      + View.ld (Val := Elt Ideal) (e' := .f32) x2 (Rect.unit (s := S1x4x256) ![0, 1, 0] S1x1x256.size inb_S1x4x256_S1x1x256_0_1_0) (ix3 0 0 c)
        * View.ld (Val := Elt Ideal) (e' := .f32) X (Rect.unit (s := S259x8x256) ![1, 0, 0] S256x8x256.size inb_S259x8x256_S256x8x256_1_0_0) (ix3 f b c)
      + View.ld (Val := Elt Ideal) (e' := .f32) x2 (Rect.unit (s := S1x4x256) ![0, 2, 0] S1x1x256.size inb_S1x4x256_S1x1x256_0_2_0) (ix3 0 0 c)
        * View.ld (Val := Elt Ideal) (e' := .f32) X (Rect.unit (s := S259x8x256) ![2, 0, 0] S256x8x256.size inb_S259x8x256_S256x8x256_2_0_0) (ix3 f b c)
      + View.ld (Val := Elt Ideal) (e' := .f32) x2 (Rect.unit (s := S1x4x256) ![0, 3, 0] S1x1x256.size inb_S1x4x256_S1x1x256_0_3_0) (ix3 0 0 c)
        * View.ld (Val := Elt Ideal) (e' := .f32) X (Rect.unit (s := S259x8x256) ![3, 0, 0] S256x8x256.size inb_S259x8x256_S256x8x256_3_0_0) (ix3 f b c)
      = G.conv b (base + f.val) c := by
  have t0 := (ld_tap x2 0 inb_S1x4x256_S1x1x256_0_0_0 c).trans (hB.w 0 c)
  have t1 := (ld_tap x2 1 inb_S1x4x256_S1x1x256_0_1_0 c).trans (hB.w 1 c)
  have t2 := (ld_tap x2 2 inb_S1x4x256_S1x1x256_0_2_0 c).trans (hB.w 2 c)
  have t3 := (ld_tap x2 3 inb_S1x4x256_S1x1x256_0_3_0 c).trans (hB.w 3 c)
  have r0 := (ld_rows X 0 (by omega) inb_S259x8x256_S256x8x256_0_0_0 f b c).trans (hX _ b c)
  have r1 := (ld_rows X 1 (by omega) inb_S259x8x256_S256x8x256_1_0_0 f b c).trans (hX _ b c)
  have r2 := (ld_rows X 2 (by omega) inb_S259x8x256_S256x8x256_2_0_0 f b c).trans (hX _ b c)
  have r3 := (ld_rows X 3 (by omega) inb_S259x8x256_S256x8x256_3_0_0 f b c).trans (hX _ b c)
  refine (congrArg₂ (· + ·) (congrArg₂ (· + ·) (congrArg₂ (· + ·) (congrArg₂ (· * ·) t0 r0) (congrArg₂ (· * ·) t1 r1)) (congrArg₂ (· * ·) t2 r2)) (congrArg₂ (· * ·) t3 r3)).trans ?_
  unfold Args.conv
  simp only [show base + (0 + f.val) = base + f.val by omega, show base + (1 + f.val) = base + f.val + 1 by omega,
    show base + (2 + f.val) = base + f.val + 2 by omega, show base + (3 + f.val) = base + f.val + 3 by omega]

theorem conv0_apply (i : grid0.Coords) (f : Fin 256) (b : Fin 8) (c : Fin 256) : conv0 i x1 x2 (ix3 f b c) = G.conv b (256 * (i 0).val + f.val) c := by
  unfold conv0
  rw [pay10_apply]
  exact taps_eq hB _ _ (padded0_apply hB.z i) f b c

theorem conv1_apply (i : grid0.Coords) (f : Fin 256) (b : Fin 8) (c : Fin 256) :
    k0_pay22 (taps1 i x1 x2) (View.ld x2 (Rect.unit (s := S1x4x256) ![0, 3, 0] S1x1x256.size inb_S1x4x256_S1x1x256_0_3_0)) (View.ld (padded1 i x1) (Rect.unit (s := S259x8x256) ![3, 0, 0] S256x8x256.size inb_S259x8x256_S256x8x256_3_0_0)) (ix3 f b c)
      = G.conv b (256 * (7 - (i 0).val) + f.val) c := by
  unfold taps1
  rw [pay22_apply]
  exact taps_eq hB _ _ (padded1_apply hB.z i) f b c

/-- The product with a gate's columns, and the bias: half of the gate's argument. -/
theorem gate_eq (d g : Fin 2) (b : Fin 8) (t : ℕ) (j : Fin 256) (n : Fin 1024) (hn : n.val = 512 * d.val + 256 * g.val + j.val) :
    ∑ k : Fin 256, G.conv b t k * x3 (ix3 0 k n) + x4 (ix3 0 0 n) = half * G.pre d g b t j := by
  rw [← half_pre, hB.gb d g j n hn]
  congr 1
  exact Finset.sum_congr rfl fun k _ => by rw [hB.gw d g k j n hn]

theorem gate0_apply (i : grid0.Coords) (f : Fin 256) (b : Fin 8) (g : Fin 2) (j : Fin 256) (n : Fin 512) (hn : n.val = 256 * g.val + j.val) :
    proj0 i x1 x2 x3 (ix2 ⟨f.val * 8 + b.val, by omega⟩ n) + View.ld (Val := Elt Ideal) (e' := .f32) x4 (Rect.unit (s := S1x1x1024) ![0, 0, 0] S1x1x512.size inb_S1x1x1024_S1x1x512_0_0_0) (ix3 0 0 n)
      = half * G.pre 0 g b (256 * (i 0).val + f.val) j := by
  have hf : (⟨(f.val * 8 + b.val) / 8, by omega⟩ : Fin 256) = f := Fin.ext (by show (f.val * 8 + b.val) / 8 = f.val; omega)
  have hb : (⟨(f.val * 8 + b.val) % 8, by omega⟩ : Fin 8) = b := Fin.ext (by show (f.val * 8 + b.val) % 8 = b.val; omega)
  refine Eq.trans ?_ (gate_eq hB 0 g b _ j ⟨0 + n.val, by omega⟩ (by show 0 + n.val = 512 * 0 + 256 * g.val + j.val; omega))
  refine congrArg₂ (· + ·) ?_ (ld_bias x4 0 (by omega) _ n)
  unfold proj0
  rw [pay11_apply]
  refine Finset.sum_congr rfl fun k _ => ?_
  refine congrArg₂ (· * ·) ?_ (ld_gate x3 0 (by omega) _ k n)
  refine Eq.trans ?_ (conv0_apply hB i f b k)
  simp only [hf, hb]
  rfl

theorem gate1_apply (i : grid0.Coords) (f : Fin 256) (b : Fin 8) (g : Fin 2) (j : Fin 256) (n : Fin 512) (hn : n.val = 256 * g.val + j.val) :
    k0_pay23 (taps1 i x1 x2) (View.ld x2 (Rect.unit (s := S1x4x256) ![0, 3, 0] S1x1x256.size inb_S1x4x256_S1x1x256_0_3_0)) (View.ld (padded1 i x1) (Rect.unit (s := S259x8x256) ![3, 0, 0] S256x8x256.size inb_S259x8x256_S256x8x256_3_0_0)) (View.ld x3 (Rect.unit (s := S1x256x1024) ![0, 0, 512] S1x256x512.size inb_S1x256x1024_S1x256x512_0_0_512)) (View.ld x4 (Rect.unit (s := S1x1x1024) ![0, 0, 512] S1x1x512.size inb_S1x1x1024_S1x1x512_0_0_512))
      (ix2 ⟨f.val * 8 + b.val, by omega⟩ n)
      = half * G.pre 1 g b (256 * (7 - (i 0).val) + f.val) j := by
  have hf : (⟨(f.val * 8 + b.val) / 8, by omega⟩ : Fin 256) = f := Fin.ext (by show (f.val * 8 + b.val) / 8 = f.val; omega)
  have hb : (⟨(f.val * 8 + b.val) % 8, by omega⟩ : Fin 8) = b := Fin.ext (by show (f.val * 8 + b.val) % 8 = b.val; omega)
  refine Eq.trans ?_ (gate_eq hB 1 g b _ j ⟨512 + n.val, by omega⟩ (by show 512 + n.val = 512 * 1 + 256 * g.val + j.val; omega))
  rw [pay23_apply]
  refine congrArg₂ (· + ·) ?_ (ld_bias x4 512 (by omega) _ n)
  refine Finset.sum_congr rfl fun k _ => ?_
  refine congrArg₂ (· * ·) ?_ (ld_gate x3 512 (by omega) _ k n)
  refine Eq.trans ?_ (conv1_apply hB i f b k)
  simp only [hf, hb]

omit hB in
/-- Two stored planes at an index. -/
theorem planes_apply (p1 p0 : Vec Ideal S1x256x8x256 .f32) (d : Fin 2) (f : Fin 256) (b : Fin 8) (c : Fin 256) :
    View.canon (Val := Elt Ideal) (s := S2x256x8x256) (e := .f32) [⟨Rect.unit (s := S2x256x8x256) ![1, 0, 0, 0] S1x256x8x256.size inb_S2x256x8x256_S1x256x8x256_1_0_0_0, p1⟩,
      ⟨Rect.unit (s := S2x256x8x256) ![0, 0, 0, 0] S1x256x8x256.size inb_S2x256x8x256_S1x256x8x256_0_0_0_0, p0⟩] (ix4 d f b c)
      = if d = 0 then p0 (ix4 0 f b c) else p1 (ix4 0 f b c) := by
  have emb : ∀ (q : Fin 2) (inb : ∀ a, (![q.val, 0, 0, 0] : Fin 4 → ℕ) a + S1x256x8x256.size a ≤ S2x256x8x256.size a),
      (ix4 q f b c : S2x256x8x256.Idx) = (Rect.unit (s := S2x256x8x256) ![q.val, 0, 0, 0] S1x256x8x256.size inb).emb (ix4 0 f b c) := by
    intro q inb
    funext a
    apply Fin.ext
    match a with
    | ⟨0, _⟩ => show q.val = q.val + 1 * 0; omega
    | ⟨1, _⟩ => show f.val = 0 + 1 * f.val; omega
    | ⟨2, _⟩ => show b.val = 0 + 1 * b.val; omega
    | ⟨3, _⟩ => show c.val = 0 + 1 * c.val; omega
  match d with
  | ⟨0, _⟩ =>
    refine (View.canon_cons_of_not_mem (Val := Elt Ideal) _ _ ?_).trans ?_
    · show (ix4 (0 : Fin 2) f b c : S2x256x8x256.Idx) ∉ (Rect.unit (s := S2x256x8x256) ![1, 0, 0, 0] S1x256x8x256.size inb_S2x256x8x256_S1x256x8x256_1_0_0_0).set
      rw [Rect.mem_set_unit]
      intro hh
      have h' : 1 ≤ 0 := (hh 0).1
      omega
    · refine (congrArg _ (emb 0 inb_S2x256x8x256_S1x256x8x256_0_0_0_0)).trans ?_
      exact View.canon_cons_emb (Val := Elt Ideal) (e := .f32) (Rect.unit (s := S2x256x8x256) ![0, 0, 0, 0] S1x256x8x256.size inb_S2x256x8x256_S1x256x8x256_0_0_0_0) p0 [] (ix4 0 f b c)
  | ⟨1, _⟩ =>
    refine (congrArg _ (emb 1 inb_S2x256x8x256_S1x256x8x256_1_0_0_0)).trans ?_
    exact View.canon_cons_emb (Val := Elt Ideal) (e := .f32) (Rect.unit (s := S2x256x8x256) ![1, 0, 0, 0] S1x256x8x256.size inb_S2x256x8x256_S1x256x8x256_1_0_0_0) p1 _ (ix4 0 f b c)

omit hB in
/-- A pair of stored states at an index. -/
theorem stack_apply (p : FVec Ideal S8x256 .f32 × FVec Ideal S8x256 .f32) (d : Fin 2) (b : Fin 8) (c : Fin 256) :
    stack p (ix3 d b c) = if d = 0 then p.1 (ix2 b c) else p.2 (ix2 b c) := by
  have emb : ∀ (q : Fin 2) (inb : ∀ a, (![q.val, 0, 0] : Fin 3 → ℕ) a + S1x8x256.size a ≤ S2x8x256.size a),
      (ix3 q b c : S2x8x256.Idx) = (Rect.unit (s := S2x8x256) ![q.val, 0, 0] S1x8x256.size inb).emb (ix3 0 b c) := by
    intro q inb
    funext a
    apply Fin.ext
    match a with
    | ⟨0, _⟩ => show q.val = q.val + 1 * 0; omega
    | ⟨1, _⟩ => show b.val = 0 + 1 * b.val; omega
    | ⟨2, _⟩ => show c.val = 0 + 1 * c.val; omega
  unfold stack
  match d with
  | ⟨0, _⟩ =>
    refine (View.canon_cons_of_not_mem (Val := Elt Ideal) _ _ ?_).trans ?_
    · show (ix3 (0 : Fin 2) b c : S2x8x256.Idx) ∉ (Rect.unit (s := S2x8x256) ![1, 0, 0] S1x8x256.size inb_S2x8x256_S1x8x256_1_0_0).set
      rw [Rect.mem_set_unit]
      intro hh
      have h' : 1 ≤ 0 := (hh 0).1
      omega
    · refine (congrArg _ (emb 0 inb_S2x8x256_S1x8x256_0_0_0)).trans ?_
      refine (View.canon_cons_emb (Val := Elt Ideal) (e := .f32) (Rect.unit (s := S2x8x256) ![0, 0, 0] S1x8x256.size inb_S2x8x256_S1x8x256_0_0_0) (k0_pay36 p.1) [] (ix3 0 b c)).trans ?_
      exact pay36_apply b c _
  | ⟨1, _⟩ =>
    refine (congrArg _ (emb 1 inb_S2x8x256_S1x8x256_1_0_0)).trans ?_
    refine (View.canon_cons_emb (Val := Elt Ideal) (e := .f32) (Rect.unit (s := S2x8x256) ![1, 0, 0] S1x8x256.size inb_S2x8x256_S1x8x256_1_0_0) (k0_pay37 p.2) _ (ix3 0 b c)).trans ?_
    exact pay37_apply b c _

/-- The first direction's decays in a tile. -/
theorem decays0_apply (hG : G.Fine) (i : grid0.Coords) (f : Fin 256) (b : Fin 8) (c : Fin 256) :
    decays i x1 x2 x3 x4 x5 (ix4 0 f b c) = G.decay 0 b (256 * (i 0).val + f.val) c := by
  unfold decays
  refine (planes_apply _ _ 0 f b c).trans ?_
  rw [if_pos rfl, pay14_apply, rate_apply hB, gate0_apply hB i f b 0 c ⟨c.val, by omega⟩ (by show c.val = 256 * 0 + c.val; omega)]
  exact kdecay_eq hG 0 b _ c

/-- The second direction's. -/
theorem decays1_apply (hG : G.Fine) (i : grid0.Coords) (f : Fin 256) (b : Fin 8) (c : Fin 256) :
    decays i x1 x2 x3 x4 x5 (ix4 1 f b c) = G.decay 1 b (256 * (7 - (i 0).val) + f.val) c := by
  unfold decays
  refine (planes_apply _ _ 1 f b c).trans ?_
  rw [if_neg (by decide), pay28_apply, rate_apply hB, gate1_apply hB i f b 0 c ⟨c.val, by omega⟩ (by show c.val = 256 * 0 + c.val; omega)]
  exact kdecay_eq hG 1 b _ c

/-- The first direction's inputs in a tile. -/
theorem inputs0_apply (hG : G.Fine) (i : grid0.Coords) (f : Fin 256) (b : Fin 8) (c : Fin 256) :
    inputs i x1 x2 x3 x4 x5 (ix4 0 f b c) = G.inp 0 b (256 * (i 0).val + f.val) c := by
  unfold inputs
  refine (planes_apply _ _ 0 f b c).trans ?_
  rw [if_pos rfl, pay15_apply, pay14_apply, rate_apply hB, conv0_apply hB, gate0_apply hB i f b 0 c ⟨c.val, by omega⟩ (by show c.val = 256 * 0 + c.val; omega),
    gate0_apply hB i f b 1 c ⟨256 + c.val, by omega⟩ (by show 256 + c.val = 256 * 1 + c.val; omega)]
  exact kinp_eq hG 0 b _ c

/-- The second direction's. -/
theorem inputs1_apply (hG : G.Fine) (i : grid0.Coords) (f : Fin 256) (b : Fin 8) (c : Fin 256) :
    inputs i x1 x2 x3 x4 x5 (ix4 1 f b c) = G.inp 1 b (256 * (7 - (i 0).val) + f.val) c := by
  unfold inputs
  refine (planes_apply _ _ 1 f b c).trans ?_
  rw [if_neg (by decide), pay29_apply, pay28_apply, rate_apply hB, conv1_apply hB, gate1_apply hB i f b 0 c ⟨c.val, by omega⟩ (by show c.val = 256 * 0 + c.val; omega),
    gate1_apply hB i f b 1 c ⟨256 + c.val, by omega⟩ (by show 256 + c.val = 256 * 1 + c.val; omega)]
  exact kinp_eq hG 1 b _ c

omit hB in
theorem ld_row0 (A : Vec Ideal S2x256x8x256 .f32) (k : ℕ) (h : k < k0_t1_loop.trips) (hk : k < 256) (b : Fin 8) (c : Fin 256) :
    View.ld (Val := Elt Ideal) (e' := .f32) A (Rect.unit (s := S2x256x8x256) (k0_off7 ⟨k, h⟩) S1x1x8x256.size (k0_off7_inb ⟨k, h⟩)) (ix4 0 0 b c) = A (ix4 0 ⟨k, hk⟩ b c) := by
  refine View.ld_unit_apply_of (Val := Elt Ideal) A _ _ _ _ _ fun a => ?_
  refine Eq.trans ?_ (congrArg (· + _) (congrFun (off7_facts ⟨k, h⟩) a).symm)
  match a with
  | ⟨0, _⟩ => rfl
  | ⟨1, _⟩ => rfl
  | ⟨2, _⟩ => exact (Nat.zero_add _).symm
  | ⟨3, _⟩ => exact (Nat.zero_add _).symm

omit hB in
theorem ld_row1 (A : Vec Ideal S2x256x8x256 .f32) (k : ℕ) (h : k < k0_t1_loop.trips) (b : Fin 8) (c : Fin 256) :
    View.ld (Val := Elt Ideal) (e' := .f32) A (Rect.unit (s := S2x256x8x256) (k0_off8 ⟨k, h⟩) S1x1x8x256.size (k0_off8_inb ⟨k, h⟩)) (ix4 0 0 b c) = A (ix4 1 ⟨255 - k, by omega⟩ b c) := by
  refine View.ld_unit_apply_of (Val := Elt Ideal) A _ _ _ _ _ fun a => ?_
  refine Eq.trans ?_ (congrArg (· + _) (congrFun (off8_facts ⟨k, h⟩) a).symm)
  match a with
  | ⟨0, _⟩ => rfl
  | ⟨1, _⟩ => rfl
  | ⟨2, _⟩ => exact (Nat.zero_add _).symm
  | ⟨3, _⟩ => exact (Nat.zero_add _).symm

omit hB in
theorem unstack_apply (h : Vec Ideal S2x8x256 .f32) (b : Fin 8) (c : Fin 256) :
    (unstack h).1 (ix2 b c) = h (ix3 0 b c) ∧ (unstack h).2 (ix2 b c) = h (ix3 1 b c) := by
  unfold unstack
  constructor
  · refine (pay30_apply b c _).trans (View.ld_unit_apply_of (Val := Elt Ideal) h _ _ _ _ _ fun a => ?_)
    match a with
    | ⟨0, _⟩ => rfl
    | ⟨1, _⟩ => exact (Nat.zero_add _).symm
    | ⟨2, _⟩ => exact (Nat.zero_add _).symm
  · refine (pay31_apply b c _).trans (View.ld_unit_apply_of (Val := Elt Ideal) h _ _ _ _ _ fun a => ?_)
    match a with
    | ⟨0, _⟩ => rfl
    | ⟨1, _⟩ => exact (Nat.zero_add _).symm
    | ⟨2, _⟩ => exact (Nat.zero_add _).symm

/-- The tile's states, from the states at its first step. -/
theorem tileSteps_apply (hG : G.Fine) (i : grid0.Coords) (h : Vec Ideal S2x8x256 .f32) (hh : ∀ d b c, h (ix3 d b c) = G.state d b c (256 * (i 0).val))
    (k : ℕ) (hk : k ≤ 256) (b : Fin 8) (c : Fin 256) :
    (tileSteps i x1 x2 x3 x4 x5 h k).1 (ix2 b c) = G.state 0 b c (256 * (i 0).val + k)
      ∧ (tileSteps i x1 x2 x3 x4 x5 h k).2 (ix2 b c) = G.state 1 b c (256 * (i 0).val + k) := by
  have hi : (i 0).val < 8 := (i 0).isLt
  induction k with
  | zero =>
    refine ⟨(unstack_apply h b c).1.trans (hh 0 b c), (unstack_apply h b c).2.trans (hh 1 b c)⟩
  | succ k ih =>
    have hk' : k < 256 := by omega
    have ht : k < k0_t1_loop.trips := by rw [trips_eq]; omega
    obtain ⟨i0, i1⟩ := ih (by omega)
    unfold tileSteps at i0 i1 ⊢
    rw [steps, dif_pos ht]
    constructor
    · refine (pay32_apply b c _ _ _).trans ?_
      rw [i0, ld_row0 _ k ht hk', ld_row0 _ k ht hk', decays0_apply hB hG, inputs0_apply hB hG]
      show _ = G.decay 0 b (Args.tok 0 (256 * (i 0).val + k)) c * G.state 0 b c (256 * (i 0).val + k) + G.inp 0 b (Args.tok 0 (256 * (i 0).val + k)) c
      rfl
    · refine (pay34_apply b c _ _ _).trans ?_
      rw [i1, ld_row1 _ k ht, ld_row1 _ k ht, decays1_apply hB hG, inputs1_apply hB hG]
      show _ = G.decay 1 b (Args.tok 1 (256 * (i 0).val + k)) c * G.state 1 b c (256 * (i 0).val + k) + G.inp 1 b (Args.tok 1 (256 * (i 0).val + k)) c
      have e : 256 * (7 - (i 0).val) + (255 - k) = Args.tok 1 (256 * (i 0).val + k) := by
        show _ = 2047 - (256 * (i 0).val + k)
        omega
      rw [← e]

theorem tileEnd_apply (hG : G.Fine) (i : grid0.Coords) (h : Vec Ideal S2x8x256 .f32) (hh : ∀ d b c, h (ix3 d b c) = G.state d b c (256 * (i 0).val))
    (d : Fin 2) (b : Fin 8) (c : Fin 256) : tileEnd i x1 x2 x3 x4 x5 h (ix3 d b c) = G.state d b c (256 * ((i 0).val + 1)) := by
  unfold tileEnd
  rw [stack_apply, (tileSteps_apply hB hG i h hh 256 le_rfl b c).1, (tileSteps_apply hB hG i h hh 256 le_rfl b c).2, Nat.mul_succ]
  match d with
  | ⟨0, _⟩ => rfl
  | ⟨1, _⟩ => rfl

theorem tileOut0_apply (hG : G.Fine) (i : grid0.Coords) (h : Vec Ideal S2x8x256 .f32) (hh : ∀ d b c, h (ix3 d b c) = G.state d b c (256 * (i 0).val))
    (g : Fin 32) (b e : Fin 8) (c : Fin 256) : tileOut0 i x1 x2 x3 x4 x5 h (ix4 g b e c) = G.state 0 b c (256 * (i 0).val + (g.val * 8 + e.val + 1)) := by
  unfold tileOut0
  rw [pay1_apply]
  exact (tileSteps_apply hB hG i h hh (g.val * 8 + e.val + 1) (by omega) b c).1

theorem tileOut1_apply (hG : G.Fine) (i : grid0.Coords) (h : Vec Ideal S2x8x256 .f32) (hh : ∀ d b c, h (ix3 d b c) = G.state d b c (256 * (i 0).val))
    (g : Fin 32) (b e : Fin 8) (c : Fin 256) : tileOut1 i x1 x2 x3 x4 x5 h (ix4 g b e c) = G.state 1 b c (256 * (i 0).val + (255 - (g.val * 8 + e.val) + 1)) := by
  unfold tileOut1
  rw [pay2_apply]
  exact (tileSteps_apply hB hG i h hh (255 - (g.val * 8 + e.val) + 1) (by omega) b c).2

end

end Cert.Rg

end
-- ==== Proof.RgRef.lean ====
module

public import proofs.«01_k».proof.Proof.Gen.ReferenceIdeal.Step
public import proofs.«01_k».proof.Proof.RgMath
public import Idealize.ShloMosaic.Lib.Pointwise
public import Idealize.ShloMosaic.Lib.WordCmp

@[expose] public section

set_option maxRecDepth 16384

noncomputable section

namespace Cert.Rg

open Cert.ReferenceIdeal Cert.ReferenceIdeal.Gen Cert.ReferenceIdeal.Step Idealize.ShloMosaic Cert.Mix

/-! The reference's loop is the recurrence. -/

/-- The arguments' arrays by their indices. -/
def argsOf (a0 : Vec Ideal S8x2048x256 .f32) (a1 : Vec Ideal S2x4x256 .f32) (a2 : Vec Ideal S2x2x2x4x64x64 .f32) (a3 : Vec Ideal S2x2x2x256 .f32)
    (a4 : Vec Ideal S2x2x256 .f32) (a5 : Vec Ideal S2x8x256 .f32) : Args where
  z b t c := a0 (ix3 b t c)
  w k c := a1 (ix3 0 k c)
  gw d g h i j := a2 (ix6 0 d g h i j)
  gb d g j := a3 (ix4 0 d g j)
  lam d c := a4 (ix3 0 d c)
  h0 d b c := a5 (ix3 d b c)

variable (a0 : Vec Ideal S8x2048x256 .f32) (a1 : Vec Ideal S2x4x256 .f32) (a2 : Vec Ideal S2x2x2x4x64x64 .f32) (a3 : Vec Ideal S2x2x2x256 .f32)
  (a4 : Vec Ideal S2x2x256 .f32) (a5 : Vec Ideal S2x8x256 .f32)

local notation "G" => argsOf a0 a1 a2 a3 a4 a5

theorem ref_padded (b : Fin 8) (s : Fin 2051) (c : Fin 256) : A_main_v2 (F := Ideal) a0 a1 a2 a3 a4 (ix3 b s c) = (G).padded b s.val c := by
  pointwise [A_main_v2, K_main_call0_v0, K_main_c]
  unfold Args.padded
  have e : FloatOps.sitofp (F := Ideal) FTy.f32 (0#32 : BitVec 32) = (0 : EReal) := by
    show (((0#32 : BitVec 32).toInt : ℝ) : EReal) = 0
    simp
  simp only [e]
  rfl

theorem ref_conv (b : Fin 8) (s : Fin 2048) (c : Fin 256) : A_main_v29 (F := Ideal) a0 a1 a2 a3 a4 (ix3 b s c) = (G).conv b s.val c := by
  pointwise [A_main_v29, A_main_v22, A_main_v28, A_main_v27, A_main_v26, A_main_v25, A_main_v24, A_main_v23, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4, A_main_v3, A_main_v1, A_main_v0]
  simp only [ref_padded a0 a1 a2 a3 a4 a5, Nat.add_comm _ s.val]
  rfl

theorem ref_pre (d g : Fin 2) (b : Fin 8) (s : Fin 2048) (j : Fin 256) : A_main_v40 (F := Ideal) a0 a1 a2 a3 a4 (ix5 d g b s j) = (G).pre d g b s.val j := by
  pointwise [A_main_v40, A_main_v39, A_main_v38, A_main_v37, A_main_v36, A_main_v35, A_main_v34, A_main_v33, A_main_v32, A_main_v31, A_main_v30]
  simp only [ref_conv a0 a1 a2 a3 a4 a5]
  unfold Args.pre
  refine congrArg₂ (· + ·) (Finset.sum_congr rfl fun x _ => ?_) rfl
  exact mul_comm _ _

theorem ref_gate0 (d : Fin 2) (b : Fin 8) (s : Fin 2048) (j : Fin 256) : A_main_v48 (F := Ideal) a0 a1 a2 a3 a4 (ix4 d b s j) = Ideal.logistic ((G).pre d 0 b s.val j) := by
  pointwise [A_main_v48, A_main_v46, A_main_v44, A_main_v43, A_main_v42, A_main_v41, K_main_v45, K_main_v47, K_main_cst, K_main_cst_0]
  rw [ref_pre a0 a1 a2 a3 a4 a5]
  rfl

theorem ref_gate1 (d : Fin 2) (b : Fin 8) (s : Fin 2048) (j : Fin 256) : A_main_v56 (F := Ideal) a0 a1 a2 a3 a4 (ix4 d b s j) = Ideal.logistic ((G).pre d 1 b s.val j) := by
  pointwise [A_main_v56, A_main_v54, A_main_v52, A_main_v51, A_main_v50, A_main_v49, K_main_v53, K_main_v55, K_main_cst_1, K_main_cst_2]
  rw [ref_pre a0 a1 a2 a3 a4 a5]
  rfl

theorem ref_soft (d : Fin 2) (c : Fin 256) : A_main_v62 (F := Ideal) a0 a1 a2 a3 a4 (ix2 d c) = (G).soft d c := by
  pointwise [A_main_v62, A_main_v61, A_main_v60, A_main_v59, A_main_call1_v1, A_main_call1_v3, A_main_call1_v4, A_main_call1_v6, A_main_call1_v7, A_main_call1_v8, A_main_call1_v9, A_main_call1_v10, A_main_call1_v11, K_main_call1_v0, K_main_call1_v2, K_main_call1_v5, K_main_call1_cst]
  refine (if_neg fun h => h rfl).trans ?_
  rfl

theorem minus_eight : Ideal.ofBits .f32 0xC1000000#32 = ((-8 : ℝ) : EReal) := by
  simp [Ideal.ofBits, Ideal.ieee]
  norm_num
  try rw [← EReal.coe_mul]; norm_num

theorem two_eq : Ideal.ofBits .f32 0x40000000#32 = ((2 : ℝ) : EReal) := by
  simp [Ideal.ofBits, Ideal.ieee]
  norm_num
  try rw [← EReal.coe_mul]; norm_num

theorem ref_logA (d : Fin 2) (b : Fin 8) (s : Fin 2048) (c : Fin 256) : A_main_v65 (F := Ideal) a0 a1 a2 a3 a4 (ix4 d b s c) = (G).logA d b s.val c := by
  pointwise [A_main_v65, A_main_v64, A_main_v63, A_main_v58, K_main_v57, K_main_cst_3]
  rw [ref_gate0 a0 a1 a2 a3 a4 a5, ref_soft a0 a1 a2 a3 a4 a5]
  refine congrArg (fun x => x * _ * _) minus_eight

theorem ref_inp (d : Fin 2) (b : Fin 8) (s : Fin 2048) (c : Fin 256) : A_main_v75 (F := Ideal) a0 a1 a2 a3 a4 (ix4 d b s c) = (G).inp d b s.val c := by
  pointwise [A_main_v75, A_main_v74, A_main_v73, A_main_v72, A_main_v71, A_main_v70, A_main_v69, A_main_v68, K_main_v67, K_main_cst_4]
  rw [ref_gate1 a0 a1 a2 a3 a4 a5, ref_logA a0 a1 a2 a3 a4 a5, ref_conv a0 a1 a2 a3 a4 a5]
  refine congrArg (fun x => Ideal.sqrt (-(Ideal.exp (x * _) - 1)) * _) two_eq

/-- The decays the loop reads: step by step, the second direction's tokens taken from the last on. -/
theorem ref_decays (s : Fin 2048) (d : Fin 2) (b : Fin 8) (c : Fin 256) : A_main_v85 (F := Ideal) a0 a1 a2 a3 a4 (ix4 s d b c) = (G).decay d b (Args.tok d s.val) c := by
  pointwise [A_main_v85, A_main_v84, A_main_v83, A_main_v82, A_main_v81, A_main_v80, A_main_v79, A_main_v78, A_main_v77, A_main_v76, A_main_v66]
  fin_cases d
  · refine (dif_pos (show (0 : ℕ) < 1 by decide)).trans ?_
    exact congrArg Ideal.exp (ref_logA a0 a1 a2 a3 a4 a5 0 b s c)
  · refine (dif_neg (show ¬ (1 : ℕ) < 1 by decide)).trans ?_
    refine (congrArg Ideal.exp (ref_logA a0 a1 a2 a3 a4 a5 1 b s.rev c)).trans ?_
    show Ideal.exp ((G).logA 1 b s.rev.val c) = Ideal.exp ((G).logA 1 b (2047 - s.val) c)
    rw [show s.rev.val = 2047 - s.val by rw [Fin.val_rev]; omega]

/-- The inputs the loop reads. -/
theorem ref_inputs (s : Fin 2048) (d : Fin 2) (b : Fin 8) (c : Fin 256) : A_main_v95 (F := Ideal) a0 a1 a2 a3 a4 (ix4 s d b c) = (G).inp d b (Args.tok d s.val) c := by
  pointwise [A_main_v95, A_main_v94, A_main_v93, A_main_v92, A_main_v91, A_main_v90, A_main_v89, A_main_v88, A_main_v87, A_main_v86]
  fin_cases d
  · refine (dif_pos (show (0 : ℕ) < 1 by decide)).trans ?_
    exact ref_inp a0 a1 a2 a3 a4 a5 0 b s c
  · refine (dif_neg (show ¬ (1 : ℕ) < 1 by decide)).trans ?_
    refine (ref_inp a0 a1 a2 a3 a4 a5 1 b s.rev c).trans ?_
    show (G).inp 1 b s.rev.val c = (G).inp 1 b (2047 - s.val) c
    rw [show s.rev.val = 2047 - s.val by rw [Fin.val_rev]; omega]

/-! ## One trip -/

theorem slices_at (j : ℕ) (hj : j < 2048) : S2048x2x8x256.Slices ![j, 0, 0, 0] S1x2x8x256 :=
  ⟨rfl, fun a => match a with
    | ⟨0, _⟩ => by show j + 1 ≤ 2048; omega
    | ⟨1, _⟩ => by show 0 + 2 ≤ 2; omega
    | ⟨2, _⟩ => by show 0 + 8 ≤ 8; omega
    | ⟨3, _⟩ => by show 0 + 256 ≤ 256; omega⟩

theorem starts (j : ℕ) (hj : j < 2048) (z0 z1 z2 : IVec S_ 32) (h0 : z0 = constantI S_ 32 0#32) (h1 : z1 = constantI S_ 32 0#32) (h2 : z2 = constantI S_ 32 0#32) (a : Fin 4) :
    ((![(constantI S_ 32 (BitVec.ofNat 32 j) : IVec S_ 32), z0, z1, z2] : Fin 4 → IVec S_ 32) a (Shape.Idx.first h_S_)).toInt = ((![j, 0, 0, 0] : Fin 4 → ℕ) a : Int) := by
  subst h0 h1 h2
  match a with
  | ⟨0, _⟩ => exact WordCmp.toInt_ofNat_of_lt (w := 32) (by omega)
  | ⟨1, _⟩ => rfl
  | ⟨2, _⟩ => rfl
  | ⟨3, _⟩ => rfl

theorem row_apply (x : Vec Ideal S2048x2x8x256 .f32) (j : ℕ) (hj : j < 2048) (d : Fin 2) (b : Fin 8) (c : Fin 256) :
    extractStridedSlice S1x2x8x256 ![j, 0, 0, 0] x (slices_at j hj) (ix4 0 d b c) = x (ix4 ⟨j, hj⟩ d b c) := by
  refine congrArg x (funext fun a => Fin.ext ?_)
  match a with
  | ⟨0, _⟩ => rfl
  | ⟨1, _⟩ => exact Nat.zero_add _
  | ⟨2, _⟩ => exact Nat.zero_add _
  | ⟨3, _⟩ => exact Nat.zero_add _

theorem b4_apply (st : State Ideal) (j : ℕ) (hj : j < 2048) (d : Fin 2) (b : Fin 8) (c : Fin 256) : b4 j st (ix3 d b c) = st.main_v97_0 (ix4 ⟨j, hj⟩ d b c) := by
  refine Eq.trans (b := b3 j st (ix4 0 d b c)) (by pointwise [b4]) ?_
  unfold b3
  rw [WordCmp.dynamicSlice_eq_extract S1x2x8x256 _ _ _ ![j, 0, 0, 0] (slices_at j hj) (starts j hj _ _ _ rfl rfl rfl)]
  exact row_apply _ j hj d b c

theorem b9_apply (st : State Ideal) (j : ℕ) (hj : j < 2048) (d : Fin 2) (b : Fin 8) (c : Fin 256) : b9 j st (ix3 d b c) = st.main_v97_1 (ix4 ⟨j, hj⟩ d b c) := by
  refine Eq.trans (b := b8 j st (ix4 0 d b c)) (by pointwise [b9]) ?_
  unfold b8
  rw [WordCmp.dynamicSlice_eq_extract S1x2x8x256 _ _ _ ![j, 0, 0, 0] (slices_at j hj) (starts j hj _ _ _ rfl rfl rfl)]
  exact row_apply _ j hj d b c

theorem b11_apply (st : State Ideal) (j : ℕ) (hj : j < 2048) (d : Fin 2) (b : Fin 8) (c : Fin 256) :
    b11 j st (ix3 d b c) = st.main_v97_0 (ix4 ⟨j, hj⟩ d b c) * st.main_v97_3 (ix3 d b c) + st.main_v97_1 (ix4 ⟨j, hj⟩ d b c) := by
  rw [← b4_apply st j hj, ← b9_apply st j hj]
  pointwise [b11, b10]

/-- The stored outputs after trip `j`: row `j` is the new state, the others stay. -/
theorem b16_apply (st : State Ideal) (j : ℕ) (hj : j < 2048) (t : Fin 2048) (d : Fin 2) (b : Fin 8) (c : Fin 256) :
    b16 j st (ix4 t d b c) = if t.val = j then b11 j st (ix3 d b c) else st.main_v97_4 (ix4 t d b c) := by
  unfold b16
  rw [WordCmp.dynamicUpdateSlice_eq_update _ _ _ _ ![j, 0, 0, 0] (slices_at j hj) (starts j hj _ _ _ rfl rfl rfl)]
  unfold updateSlice
  by_cases h : t.val = j
  · rw [if_pos h]
    refine (dif_pos fun a => ?_).trans ?_
    · match a with
      | ⟨0, _⟩ => show j ≤ t.val ∧ t.val < j + 1; omega
      | ⟨1, _⟩ => show 0 ≤ d.val ∧ d.val < 0 + 2; omega
      | ⟨2, _⟩ => show 0 ≤ b.val ∧ b.val < 0 + 8; omega
      | ⟨3, _⟩ => show 0 ≤ c.val ∧ c.val < 0 + 256; omega
    · refine Eq.trans (congrArg (b12 j st) (a₂ := (ix4 0 d b c : S1x2x8x256.Idx)) (funext fun a => Fin.ext ?_)) (by pointwise [b12])
      match a with
      | ⟨0, _⟩ => show t.val - j = 0; omega
      | ⟨1, _⟩ => rfl
      | ⟨2, _⟩ => rfl
      | ⟨3, _⟩ => rfl
  · rw [if_neg h]
    refine dif_neg fun hh => h ?_
    have h0 : j ≤ t.val ∧ t.val < j + 1 := hh 0
    omega

/-! ## The loop -/

/-- The loop's states. -/
def refIter : ℕ → State Ideal
  | 0 => init a5 a0 a1 a2 a3 a4
  | n + 1 => step n (refIter n)

theorem refIter_consts (n : ℕ) : (refIter a0 a1 a2 a3 a4 a5 n).main_v97_0 = A_main_v85 (F := Ideal) a0 a1 a2 a3 a4
    ∧ (refIter a0 a1 a2 a3 a4 a5 n).main_v97_1 = A_main_v95 (F := Ideal) a0 a1 a2 a3 a4 := by
  induction n with
  | zero => exact ⟨rfl, rfl⟩
  | succ n ih => exact ih

theorem refIter_state (n : ℕ) (hn : n ≤ 2048) (d : Fin 2) (b : Fin 8) (c : Fin 256) :
    (refIter a0 a1 a2 a3 a4 a5 n).main_v97_3 (ix3 d b c) = (G).state d b c n := by
  induction n with
  | zero => rfl
  | succ n ih =>
    have hj : n < 2048 := by omega
    rw [refIter, step_main_v97_3, b11_apply _ n hj, ih (by omega), (refIter_consts a0 a1 a2 a3 a4 a5 n).1, (refIter_consts a0 a1 a2 a3 a4 a5 n).2,
      ref_decays a0 a1 a2 a3 a4 a5, ref_inputs a0 a1 a2 a3 a4 a5]
    rfl

theorem refIter_out (n : ℕ) (hn : n ≤ 2048) (t : Fin 2048) (ht : t.val < n) (d : Fin 2) (b : Fin 8) (c : Fin 256) :
    (refIter a0 a1 a2 a3 a4 a5 n).main_v97_4 (ix4 t d b c) = (G).state d b c (t.val + 1) := by
  induction n with
  | zero => omega
  | succ n ih =>
    have hj : n < 2048 := by omega
    rw [refIter, step_main_v97_4, b16_apply _ n hj]
    by_cases h : t.val = n
    · rw [if_pos h, ← step_main_v97_3, ← refIter, refIter_state a0 a1 a2 a3 a4 a5 (n + 1) hn, h]
    · rw [if_neg h]
      exact ih (by omega) (by omega)

theorem ref_out0 (g : Fin 256) (b e : Fin 8) (c : Fin 256) :
    R_main_v101 (refIter a0 a1 a2 a3 a4 a5 2048) (ix4 g b e c) = (G).state 0 b c (g.val * 8 + e.val + 1) := by
  pointwise [R_main_v101]
  exact refIter_out a0 a1 a2 a3 a4 a5 2048 le_rfl _ (by show g.val * 8 + e.val < 2048; omega) 0 b c

theorem ref_out1 (g : Fin 256) (b e : Fin 8) (c : Fin 256) :
    R_main_v106 (refIter a0 a1 a2 a3 a4 a5 2048) (ix4 g b e c) = (G).state 1 b c (2047 - (g.val * 8 + e.val) + 1) := by
  pointwise [R_main_v106]
  refine (refIter_out a0 a1 a2 a3 a4 a5 2048 le_rfl (Fin.rev ⟨g.val * 8 + e.val, by omega⟩) (Fin.isLt _) 1 b c).trans ?_
  rw [show (Fin.rev (⟨g.val * 8 + e.val, by omega⟩ : Fin 2048)).val = 2047 - (g.val * 8 + e.val) by rw [Fin.val_rev]; show 2048 - (g.val * 8 + e.val + 1) = _; omega]

end Cert.Rg

end
-- ==== Proof.RgArr.lean ====
module

public import proofs.«01_k».proof.Proof.RgTileVal
public import proofs.«01_k».proof.Proof.RgRef
public import proofs.«01_k».proof.Proof.RgFrame
public import Idealize.ShloMosaic.Lib.StableHlo.ReadAt

@[expose] public section

set_option maxRecDepth 16384

noncomputable section

namespace Cert.Rg

open Cert.KernelIdeal Cert.KernelIdeal.Gen Cert.KernelIdeal.Rg Idealize.ShloMosaic Idealize.ShloMosaic.TcCoe Cert.Mix
open Idealize.ShloMosaic.Pipeline (Dat Cfg Window)

/-! The arrays the recurrence's kernel leaves, by their indices. -/

variable (m : (ℓ : Loc nD τ sig) → Buf (Elt Ideal) ℓ) (c : Dev nD)

/-- The arguments as launched. -/
abbrev argsK : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-! ## What the host operations before the call leave -/

theorem V_21 (t : Fin 2048) (b : Fin 8) (q : Fin 256) : V m c main_v21 (ix3 t b q) = m ((c : Thread nD τ).loc main_arg0) (ix3 b t q) := by
  unfold V
  after_reads_at

theorem V_20 (l : Fin 2) (n : Fin 1024) : V m c main_v20 (ix3 l 0 n)
    = ((Ideal.ofBits FTy.f32 0x3F000000#32 * m ((c : Thread nD τ).loc main_arg3) (ix4 l ⟨n.val / 512, by omega⟩ ⟨n.val / 256 % 2, by omega⟩ ⟨n.val % 256, by omega⟩) : EReal)) := by
  unfold V
  after_reads_at

theorem V_17 (l : Fin 2) (k : Fin 256) (n : Fin 1024) : V m c main_v17 (ix3 l k n)
    = (Ideal.ofBits FTy.f32 0x3F000000#32
        * m ((c : Thread nD τ).loc main_arg2)
          (ix6 l ⟨n.val / 512, by omega⟩ ⟨n.val / 256 % 2, by omega⟩ ⟨k.val / 64, by omega⟩ ⟨k.val % 64, by omega⟩ ⟨n.val % 256 % 64, by omega⟩)
        * FloatOps.uitofp (F := Ideal) FTy.f32
          (IntOp.cmpi CmpIPredicate.eq (IntOp.addi (BitVec.ofNat 32 (k.val / 64)) 0#32) (BitVec.ofNat 32 (n.val % 256 / 64))) : EReal) := by
  unfold V
  after_reads_at

theorem eye_eq (a b : ℕ) (ha : a < 4) (hb : b < 4) :
    FloatOps.uitofp (F := Ideal) FTy.f32 (IntOp.cmpi CmpIPredicate.eq (IntOp.addi (BitVec.ofNat 32 a) 0#32) (BitVec.ofNat 32 b))
      = (if a = b then (1 : EReal) else 0) := by
  have e : ∀ a b : Fin 4, IntOp.cmpi CmpIPredicate.eq (IntOp.addi (BitVec.ofNat 32 a.val) 0#32) (BitVec.ofNat 32 b.val) = if a.val = b.val then 1#1 else 0#1 := by
    decide +kernel
  rw [e ⟨a, ha⟩ ⟨b, hb⟩]
  show (((if a = b then 1#1 else 0#1 : BitVec 1).toNat : ℝ) : EReal) = _
  split <;> simp

/-! ## The windows -/

theorem idx_0 : ∀ t : Fin grid0.N, win0_0.index t 0 = 0 ∧ win0_0.index t 1 = 0 ∧ win0_0.index t 2 = 0 := by decide +kernel
theorem idx_1 : ∀ t : Fin grid0.N, win0_1.index t 0 = 0 ∧ win0_1.index t 1 = 0 ∧ win0_1.index t 2 = 0 := by decide +kernel
theorem idx_2 : ∀ t : Fin grid0.N, win0_2.index t 0 = 0 ∧ win0_2.index t 1 = 0 ∧ win0_2.index t 2 = 0 := by decide +kernel
theorem idx_3 : ∀ t : Fin grid0.N, win0_3.index t 0 = 0 ∧ win0_3.index t 1 = 0 ∧ win0_3.index t 2 = 0 := by decide +kernel
theorem idx_4 : ∀ t : Fin grid0.N, win0_4.index t 0 = 0 ∧ win0_4.index t 1 = 0 ∧ win0_4.index t 2 = 0 := by decide +kernel
theorem idx_5 : ∀ t : Fin grid0.N, win0_5.index t 0 = 0 ∧ win0_5.index t 1 = 0 ∧ win0_5.index t 2 = 0 := by decide +kernel

theorem blk_0 (t : Fin cfg0.N) (y0 : Fin 2048) (y1 : Fin 8) (y2 : Fin 256) : iblk m c 0 t (ix3 y0 y1 y2) = V m c main_v21 (ix3 y0 y1 y2) := by
  obtain ⟨e0, e1, e2⟩ := idx_0 t
  show V m c main_v21 (((cfg0.win 0).blk t).view.emb (ix3 y0 y1 y2)) = _
  refine congrArg (V m c main_v21) (funext fun a => Fin.ext ?_)
  match a with
  | ⟨0, _⟩ => show win0_0.index t 0 * 2048 + 1 * y0.val = y0.val; rw [e0] <;> omega
  | ⟨1, _⟩ => show win0_0.index t 1 * 8 + 1 * y1.val = y1.val; rw [e1] <;> omega
  | ⟨2, _⟩ => show win0_0.index t 2 * 256 + 1 * y2.val = y2.val; rw [e2] <;> omega

theorem blk_1 (t : Fin cfg0.N) (y1 : Fin 4) (y2 : Fin 256) : iblk m c 1 t (ix3 0 y1 y2) = V m c main_arg1 (ix3 0 y1 y2) := by
  obtain ⟨e0, e1, e2⟩ := idx_1 t
  show V m c main_arg1 (((cfg0.win 1).blk t).view.emb (ix3 0 y1 y2)) = _
  refine congrArg (V m c main_arg1) (funext fun a => Fin.ext ?_)
  match a with
  | ⟨0, _⟩ => show win0_1.index t 0 * 1 + 1 * 0 = 0; rw [e0]
  | ⟨1, _⟩ => show win0_1.index t 1 * 4 + 1 * y1.val = y1.val; rw [e1] <;> omega
  | ⟨2, _⟩ => show win0_1.index t 2 * 256 + 1 * y2.val = y2.val; rw [e2] <;> omega

theorem blk_2 (t : Fin cfg0.N) (y1 : Fin 256) (y2 : Fin 1024) : iblk m c 2 t (ix3 0 y1 y2) = V m c main_v17 (ix3 0 y1 y2) := by
  obtain ⟨e0, e1, e2⟩ := idx_2 t
  show V m c main_v17 (((cfg0.win 2).blk t).view.emb (ix3 0 y1 y2)) = _
  refine congrArg (V m c main_v17) (funext fun a => Fin.ext ?_)
  match a with
  | ⟨0, _⟩ => show win0_2.index t 0 * 1 + 1 * 0 = 0; rw [e0]
  | ⟨1, _⟩ => show win0_2.index t 1 * 256 + 1 * y1.val = y1.val; rw [e1] <;> omega
  | ⟨2, _⟩ => show win0_2.index t 2 * 1024 + 1 * y2.val = y2.val; rw [e2] <;> omega

theorem blk_3 (t : Fin cfg0.N) (y2 : Fin 1024) : iblk m c 3 t (ix3 0 0 y2) = V m c main_v20 (ix3 0 0 y2) := by
  obtain ⟨e0, e1, e2⟩ := idx_3 t
  show V m c main_v20 (((cfg0.win 3).blk t).view.emb (ix3 0 0 y2)) = _
  refine congrArg (V m c main_v20) (funext fun a => Fin.ext ?_)
  match a with
  | ⟨0, _⟩ => show win0_3.index t 0 * 1 + 1 * 0 = 0; rw [e0]
  | ⟨1, _⟩ => show win0_3.index t 1 * 1 + 1 * 0 = 0; rw [e1]
  | ⟨2, _⟩ => show win0_3.index t 2 * 1024 + 1 * y2.val = y2.val; rw [e2] <;> omega

theorem blk_4 (t : Fin cfg0.N) (y1 : Fin 2) (y2 : Fin 256) : iblk m c 4 t (ix3 0 y1 y2) = V m c main_arg4 (ix3 0 y1 y2) := by
  obtain ⟨e0, e1, e2⟩ := idx_4 t
  show V m c main_arg4 (((cfg0.win 4).blk t).view.emb (ix3 0 y1 y2)) = _
  refine congrArg (V m c main_arg4) (funext fun a => Fin.ext ?_)
  match a with
  | ⟨0, _⟩ => show win0_4.index t 0 * 1 + 1 * 0 = 0; rw [e0]
  | ⟨1, _⟩ => show win0_4.index t 1 * 2 + 1 * y1.val = y1.val; rw [e1] <;> omega
  | ⟨2, _⟩ => show win0_4.index t 2 * 256 + 1 * y2.val = y2.val; rw [e2] <;> omega

theorem blk_5 (t : Fin cfg0.N) (y0 : Fin 2) (y1 : Fin 8) (y2 : Fin 256) : iblk m c 5 t (ix3 y0 y1 y2) = V m c main_arg5 (ix3 y0 y1 y2) := by
  obtain ⟨e0, e1, e2⟩ := idx_5 t
  show V m c main_arg5 (((cfg0.win 5).blk t).view.emb (ix3 y0 y1 y2)) = _
  refine congrArg (V m c main_arg5) (funext fun a => Fin.ext ?_)
  match a with
  | ⟨0, _⟩ => show win0_5.index t 0 * 2 + 1 * y0.val = y0.val; rw [e0] <;> omega
  | ⟨1, _⟩ => show win0_5.index t 1 * 8 + 1 * y1.val = y1.val; rw [e1] <;> omega
  | ⟨2, _⟩ => show win0_5.index t 2 * 256 + 1 * y2.val = y2.val; rw [e2] <;> omega

/-- The blocks of every tile hold the arguments. -/
theorem blocks (t : Fin cfg0.N) : Blocks (argsK m c) (iblk m c 0 t) (iblk m c 1 t) (iblk m c 2 t) (iblk m c 3 t) (iblk m c 4 t) where
  z t' b q := by rw [blk_0, V_21]; rfl
  w k q := by rw [blk_1, V_main_arg1]; rfl
  gw d g k j n hn := by
    rw [blk_2, V_17, eye_eq _ _ (by omega) (by omega)]
    have hk : n.val / 512 = d.val := by omega
    have hg : n.val / 256 % 2 = g.val := by omega
    have hj : n.val % 256 = j.val := by omega
    simp only [hk, hg, hj]
    rfl
  gb d g j n hn := by
    rw [blk_3, V_20]
    have hk : n.val / 512 = d.val := by omega
    have hg : n.val / 256 % 2 = g.val := by omega
    have hj : n.val % 256 = j.val := by omega
    simp only [hk, hg, hj]
    rfl
  lam d q := by rw [blk_4, V_main_arg4]; rfl

/-! ## The carried state -/

theorem coord : ∀ t : Fin grid0.N, (grid0.coords t 0).val = t.val := by decide +kernel

variable (hG : (argsK m c).Fine)
include hG

theorem carry_apply (k : ℕ) (hk : k ≤ 8) (d : Fin 2) (b : Fin 8) (q : Fin 256) : carry m c k (ix3 d b q) = (argsK m c).state d b q (256 * k) := by
  induction k generalizing d b q with
  | zero => exact (blk_5 m c t0_0 d b q).trans (by rw [V_main_arg5]; rfl)
  | succ k ih =>
    have hk' : k < 8 := by omega
    have e := carry_succ m c (⟨k, hk'⟩ : Fin cfg0.N)
    have ec : (grid0.coords (⟨k, hk'⟩ : Fin grid0.N) 0).val = k := coord _
    refine (congrFun e _).trans ?_
    refine (tileEnd_apply (blocks m c _) hG _ _ (fun d b q => ?_) d b q).trans ?_
    · rw [ec]; exact ih (by omega) d b q
    · rw [ec]

theorem hcarry (t : Fin cfg0.N) (d : Fin 2) (b : Fin 8) (q : Fin 256) : carry m c t.val (ix3 d b q) = (argsK m c).state d b q (256 * (grid0.coords t 0).val) := by
  have ht : t.val < 8 := t.isLt
  rw [show (grid0.coords t 0).val = t.val from coord t]
  exact carry_apply m c hG t.val (by omega) d b q

/-! ## The arrays -/

omit hG

theorem idx_6 : ∀ t : Fin grid0.N, win0_6.index t 0 = t.val ∧ win0_6.index t 1 = 0 ∧ win0_6.index t 2 = 0 ∧ win0_6.index t 3 = 0 := by decide +kernel
theorem idx_7 : ∀ t : Fin grid0.N, win0_7.index t 0 = 7 - t.val ∧ win0_7.index t 1 = 0 ∧ win0_7.index t 2 = 0 ∧ win0_7.index t 3 = 0 := by decide +kernel
theorem idx_8 : ∀ t : Fin grid0.N, win0_8.index t 0 = 0 ∧ win0_8.index t 1 = 0 ∧ win0_8.index t 2 = 0 := by decide +kernel

theorem flush_6 : ∀ t : Fin cfg0.N, (cfg0.win 6).flush t = true :=
  (by decide +kernel : ∀ t : Fin grid0.N, (cfg0.win 6).flush t = true)
theorem flush_7 : ∀ t : Fin cfg0.N, (cfg0.win 7).flush t = true :=
  (by decide +kernel : ∀ t : Fin grid0.N, (cfg0.win 7).flush t = true)
theorem flush_8 : ∀ t : Fin cfg0.N, (cfg0.win 8).flush t = true ↔ t.val = 7 :=
  (by decide +kernel : ∀ t : Fin grid0.N, (cfg0.win 8).flush t = true ↔ t.val = 7)

theorem inj_6 : ∀ t t' : Fin cfg0.N, win0_6.index t = win0_6.index t' → t = t' :=
  (by decide +kernel : ∀ t t' : Fin grid0.N, win0_6.index t = win0_6.index t' → t = t')
theorem inj_7 : ∀ t t' : Fin cfg0.N, win0_7.index t = win0_7.index t' → t = t' :=
  (by decide +kernel : ∀ t t' : Fin grid0.N, win0_7.index t = win0_7.index t' → t = t')

theorem read_6 (t : Fin cfg0.N) : ((cfg0.win 6).blk t).view.read (Elt Ideal) ((dats m 0 c).arrAt 6 cfg0.N)
    = tileOut0 (grid0.coords t) (iblk m c 0 t) (iblk m c 1 t) (iblk m c 2 t) (iblk m c 3 t) (iblk m c 4 t) (carry m c t.val) := by
  rw [(dats m 0 c).read_blk_arrAt_eq_flushed 6 (fun t t' _ _ hne => (cfg0.win 6).disjoint_blk fun h => hne (inj_6 t t' h)) cfg0.N t t.isLt (flush_6 t)]
  show (cfg0.win 6).cut (grid0.coords t) ((dats m 0 c).after 6 t) = _
  rw [after_6]
  rfl

theorem read_7 (t : Fin cfg0.N) : ((cfg0.win 7).blk t).view.read (Elt Ideal) ((dats m 0 c).arrAt 7 cfg0.N)
    = tileOut1 (grid0.coords t) (iblk m c 0 t) (iblk m c 1 t) (iblk m c 2 t) (iblk m c 3 t) (iblk m c 4 t) (carry m c t.val) := by
  rw [(dats m 0 c).read_blk_arrAt_eq_flushed 7 (fun t t' _ _ hne => (cfg0.win 7).disjoint_blk fun h => hne (inj_7 t t' h)) cfg0.N t t.isLt (flush_7 t)]
  show (cfg0.win 7).cut (grid0.coords t) ((dats m 0 c).after 7 t) = _
  rw [after_7]
  rfl

theorem read_8 (t : Fin cfg0.N) (ht : t.val = 7) : ((cfg0.win 8).blk t).view.read (Elt Ideal) ((dats m 0 c).arrAt 8 cfg0.N)
    = tileEnd (grid0.coords t) (iblk m c 0 t) (iblk m c 1 t) (iblk m c 2 t) (iblk m c 3 t) (iblk m c 4 t) (carry m c t.val) := by
  rw [(dats m 0 c).read_blk_arrAt_eq_flushed 8 (fun t t' h h' hne => absurd (Fin.ext (((flush_8 t).1 h).trans ((flush_8 t').1 h').symm)) hne) cfg0.N t t.isLt ((flush_8 t).2 ht)]
  show (cfg0.win 8).cut (grid0.coords t) ((dats m 0 c).after 8 t) = _
  rw [after_8]
  rfl

include hG

theorem arr_6 (g : Fin 256) (b e : Fin 8) (q : Fin 256) :
    (dats m 0 c).arrAt 6 cfg0.N (ix4 g b e q) = (argsK m c).state 0 b q (g.val * 8 + e.val + 1) := by
  let t : Fin cfg0.N := ⟨g.val / 32, by show _ < 8; omega⟩
  have h := congrFun (read_6 m c t) (ix4 ⟨g.val % 32, by omega⟩ b e q)
  obtain ⟨e0, e1, e2, e3⟩ := idx_6 t
  have hl : ((cfg0.win 6).blk t).view.read (Elt Ideal) ((dats m 0 c).arrAt 6 cfg0.N) (ix4 ⟨g.val % 32, by omega⟩ b e q)
      = (dats m 0 c).arrAt 6 cfg0.N (ix4 g b e q) := by
    show (dats m 0 c).arrAt 6 cfg0.N (((cfg0.win 6).blk t).view.emb (ix4 ⟨g.val % 32, by omega⟩ b e q)) = _
    refine congrArg ((dats m 0 c).arrAt 6 cfg0.N) (funext fun a => Fin.ext ?_)
    match a with
    | ⟨0, _⟩ => show win0_6.index t 0 * 32 + 1 * (g.val % 32) = g.val; rw [e0]; show g.val / 32 * 32 + 1 * (g.val % 32) = g.val; omega
    | ⟨1, _⟩ => show win0_6.index t 1 * 8 + 1 * b.val = b.val; rw [e1] <;> omega
    | ⟨2, _⟩ => show win0_6.index t 2 * 8 + 1 * e.val = e.val; rw [e2] <;> omega
    | ⟨3, _⟩ => show win0_6.index t 3 * 256 + 1 * q.val = q.val; rw [e3] <;> omega
  refine hl.symm.trans (h.trans ?_)
  refine (tileOut0_apply (blocks m c t) hG (grid0.coords t) (carry m c t.val) (hcarry m c hG t) ⟨g.val % 32, by omega⟩ b e q).trans ?_
  rw [show (grid0.coords t 0).val = g.val / 32 from coord t]
  refine congrArg _ ?_
  show 256 * (g.val / 32) + (g.val % 32 * 8 + e.val + 1) = g.val * 8 + e.val + 1
  omega

theorem arr_7 (g : Fin 256) (b e : Fin 8) (q : Fin 256) :
    (dats m 0 c).arrAt 7 cfg0.N (ix4 g b e q) = (argsK m c).state 1 b q (2047 - (g.val * 8 + e.val) + 1) := by
  let t : Fin cfg0.N := ⟨7 - g.val / 32, by show _ < 8; omega⟩
  have h := congrFun (read_7 m c t) (ix4 ⟨g.val % 32, by omega⟩ b e q)
  obtain ⟨e0, e1, e2, e3⟩ := idx_7 t
  have hl : ((cfg0.win 7).blk t).view.read (Elt Ideal) ((dats m 0 c).arrAt 7 cfg0.N) (ix4 ⟨g.val % 32, by omega⟩ b e q)
      = (dats m 0 c).arrAt 7 cfg0.N (ix4 g b e q) := by
    show (dats m 0 c).arrAt 7 cfg0.N (((cfg0.win 7).blk t).view.emb (ix4 ⟨g.val % 32, by omega⟩ b e q)) = _
    refine congrArg ((dats m 0 c).arrAt 7 cfg0.N) (funext fun a => Fin.ext ?_)
    match a with
    | ⟨0, _⟩ => show win0_7.index t 0 * 32 + 1 * (g.val % 32) = g.val; rw [e0]; show (7 - (7 - g.val / 32)) * 32 + 1 * (g.val % 32) = g.val; omega
    | ⟨1, _⟩ => show win0_7.index t 1 * 8 + 1 * b.val = b.val; rw [e1] <;> omega
    | ⟨2, _⟩ => show win0_7.index t 2 * 8 + 1 * e.val = e.val; rw [e2] <;> omega
    | ⟨3, _⟩ => show win0_7.index t 3 * 256 + 1 * q.val = q.val; rw [e3] <;> omega
  refine hl.symm.trans (h.trans ?_)
  refine (tileOut1_apply (blocks m c t) hG (grid0.coords t) (carry m c t.val) (hcarry m c hG t) ⟨g.val % 32, by omega⟩ b e q).trans ?_
  rw [show (grid0.coords t 0).val = 7 - g.val / 32 from coord t]
  refine congrArg _ ?_
  show 256 * (7 - g.val / 32) + (255 - (g.val % 32 * 8 + e.val) + 1) = 2047 - (g.val * 8 + e.val) + 1
  omega

theorem arr_8 (d : Fin 2) (b : Fin 8) (q : Fin 256) : (dats m 0 c).arrAt 8 cfg0.N (ix3 d b q) = (argsK m c).state d b q 2048 := by
  let t : Fin cfg0.N := ⟨7, by show _ < 8; omega⟩
  have h := congrFun (read_8 m c t rfl) (ix3 d b q)
  obtain ⟨e0, e1, e2⟩ := idx_8 t
  have hl : ((cfg0.win 8).blk t).view.read (Elt Ideal) ((dats m 0 c).arrAt 8 cfg0.N) (ix3 d b q) = (dats m 0 c).arrAt 8 cfg0.N (ix3 d b q) := by
    show (dats m 0 c).arrAt 8 cfg0.N (((cfg0.win 8).blk t).view.emb (ix3 d b q)) = _
    refine congrArg ((dats m 0 c).arrAt 8 cfg0.N) (funext fun a => Fin.ext ?_)
    match a with
    | ⟨0, _⟩ => show win0_8.index t 0 * 2 + 1 * d.val = d.val; rw [e0] <;> omega
    | ⟨1, _⟩ => show win0_8.index t 1 * 8 + 1 * b.val = b.val; rw [e1] <;> omega
    | ⟨2, _⟩ => show win0_8.index t 2 * 256 + 1 * q.val = q.val; rw [e2] <;> omega
  refine hl.symm.trans (h.trans ?_)
  refine (tileEnd_apply (blocks m c t) hG (grid0.coords t) (carry m c t.val) (hcarry m c hG t) d b q).trans ?_
  rw [show (grid0.coords t 0).val = 7 from coord t]

end Cert.Rg

end
-- ==== Proof.RgRefRun.lean ====
module

public import proofs.«01_k».proof.Proof.Gen.ReferenceIdeal.Run
public import proofs.«01_k».proof.Proof.Gen.ReferenceIdeal.Step

@[expose] public section

noncomputable section

namespace Cert.Rg.Run

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v97_3) = s.main_v97_3
  f_4 : V0 (Proc.devRef .tc main_v97_4) = s.main_v97_4
  f_0 : V0 (Proc.devRef .tc main_v97_0) = s.main_v97_0
  f_1 : V0 (Proc.devRef .tc main_v97_1) = s.main_v97_1
  n_2 : V0 (Proc.devRef .tc main_v97_2) = constantI S_ 32 (BitVec.ofNat 32 j)

variable {V0 s j}

set_option maxRecDepth 8192 in
theorem al_0 (h : Holds V0 s j) : (constantI S_ 32 0#32 : (Proc.devRef .tc main_while0b_call4_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call4_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call4_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x2x8x256 (V0 (Proc.devRef .tc main_v97_0)) (fun k => (((![V0 (Proc.devRef .tc main_v97_2), constantI S_ 32 0#32, constantI S_ 32 0#32, constantI S_ 32 0#32] : Fin 4 → (⟨S_, .i32⟩ : BufTy).Contents (Elt F))) k (Shape.Idx.first h_S_)).toInt) sliceFits_S2048x2x8x256_S1x2x8x256 : (Proc.devRef .tc main_while0b_call4_v0 : DevRef τ sig).ty.Contents (Elt F)) = Cert.ReferenceIdeal.Step.b3 j s := by
  unfold Cert.ReferenceIdeal.Step.b3
  rw [← al_0 h, ← al_1 h, ← al_2 h, h.f_0, h.n_2]
  try rfl
set_option maxRecDepth 8192 in
theorem al_4 (h : Holds V0 s j) : (shapeCast S2x8x256 (Host.dynamicSlice S1x2x8x256 (V0 (Proc.devRef .tc main_v97_0)) (fun k => (((![V0 (Proc.devRef .tc main_v97_2), constantI S_ 32 0#32, constantI S_ 32 0#32, constantI S_ 32 0#32] : Fin 4 → (⟨S_, .i32⟩ : BufTy).Contents (Elt F))) k (Shape.Idx.first h_S_)).toInt) sliceFits_S2048x2x8x256_S1x2x8x256) shapeCasts_S1x2x8x256_S2x8x256 : (Proc.devRef .tc main_while0b_v107 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call5_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call5_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call5_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x2x8x256 (V0 (Proc.devRef .tc main_v97_1)) (fun k => (((![V0 (Proc.devRef .tc main_v97_2), constantI S_ 32 0#32, constantI S_ 32 0#32, constantI S_ 32 0#32] : Fin 4 → (⟨S_, .i32⟩ : BufTy).Contents (Elt F))) k (Shape.Idx.first h_S_)).toInt) sliceFits_S2048x2x8x256_S1x2x8x256 : (Proc.devRef .tc main_while0b_call5_v0 : DevRef τ sig).ty.Contents (Elt F)) = Cert.ReferenceIdeal.Step.b8 j s := by
  unfold Cert.ReferenceIdeal.Step.b8
  rw [← al_5 h, ← al_6 h, ← al_7 h, h.f_1, h.n_2]
  try rfl
set_option maxRecDepth 8192 in
theorem al_9 (h : Holds V0 s j) : (shapeCast S2x8x256 (Host.dynamicSlice S1x2x8x256 (V0 (Proc.devRef .tc main_v97_1)) (fun k => (((![V0 (Proc.devRef .tc main_v97_2), constantI S_ 32 0#32, constantI S_ 32 0#32, constantI S_ 32 0#32] : Fin 4 → (⟨S_, .i32⟩ : BufTy).Contents (Elt F))) k (Shape.Idx.first h_S_)).toInt) sliceFits_S2048x2x8x256_S1x2x8x256) shapeCasts_S1x2x8x256_S2x8x256 : (Proc.devRef .tc main_while0b_v108 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (mulf (shapeCast S2x8x256 (Host.dynamicSlice S1x2x8x256 (V0 (Proc.devRef .tc main_v97_0)) (fun k => (((![V0 (Proc.devRef .tc main_v97_2), constantI S_ 32 0#32, constantI S_ 32 0#32, constantI S_ 32 0#32] : Fin 4 → (⟨S_, .i32⟩ : BufTy).Contents (Elt F))) k (Shape.Idx.first h_S_)).toInt) sliceFits_S2048x2x8x256_S1x2x8x256) shapeCasts_S1x2x8x256_S2x8x256) (V0 (Proc.devRef .tc main_v97_3)) : (Proc.devRef .tc main_while0b_v109 : DevRef τ sig).ty.Contents (Elt F)) = Cert.ReferenceIdeal.Step.b10 j s := by
  unfold Cert.ReferenceIdeal.Step.b10
  rw [← al_4 h, h.f_3]
  try rfl
set_option maxRecDepth 8192 in
theorem al_11 (h : Holds V0 s j) : (res_main_while0b_v110 V0 : (Proc.devRef .tc main_while0b_v110 : DevRef τ sig).ty.Contents (Elt F)) = Cert.ReferenceIdeal.Step.b11 j s := by
  unfold res_main_while0b_v110 Cert.ReferenceIdeal.Step.b11
  rw [← al_10 h, ← al_9 h]
  try rfl
set_option maxRecDepth 8192 in
theorem al_12 (h : Holds V0 s j) : (broadcastInDim S1x2x8x256 ![1, 2, 3] bcast_S2x8x256_S1x2x8x256_1_2_3 (res_main_while0b_v110 V0) : (Proc.devRef .tc main_while0b_call6_v0 : DevRef τ sig).ty.Contents (Elt F)) = Cert.ReferenceIdeal.Step.b12 j s := by
  unfold Cert.ReferenceIdeal.Step.b12
  rw [← al_11 h]
  try rfl
set_option maxRecDepth 8192 in
theorem al_13 (h : Holds V0 s j) : (constantI S_ 32 0#32 : (Proc.devRef .tc main_while0b_call6_c : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call6_c_0 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call6_c_1 : DevRef τ sig).ty.Contents (Elt F)) = Cert.ReferenceIdeal.Step.b15 j s := by
  unfold Cert.ReferenceIdeal.Step.b15
  rfl
set_option maxRecDepth 8192 in
theorem al_16 (h : Holds V0 s j) : (Host.dynamicUpdateSlice (V0 (Proc.devRef .tc main_v97_4)) (broadcastInDim S1x2x8x256 ![1, 2, 3] bcast_S2x8x256_S1x2x8x256_1_2_3 (res_main_while0b_v110 V0)) (fun k => (((![V0 (Proc.devRef .tc main_v97_2), constantI S_ 32 0#32, constantI S_ 32 0#32, constantI S_ 32 0#32] : Fin 4 → (⟨S_, .i32⟩ : BufTy).Contents (Elt F))) k (Shape.Idx.first h_S_)).toInt) updateFits_S2048x2x8x256_S1x2x8x256 : (Proc.devRef .tc main_while0b_v111 : DevRef τ sig).ty.Contents (Elt F)) = Cert.ReferenceIdeal.Step.b16 j s := by
  unfold Cert.ReferenceIdeal.Step.b16
  rw [← al_12 h, ← al_13 h, ← al_14 h, ← al_15 h, h.f_4, h.n_2]
  try rfl

/-! One trip's step of the carried values is `step`, field by field; a counter steps to the next number. -/

theorem step_3 (h : Holds V0 s j) : step_main_v97_3 V0 = (step j s).main_v97_3 := by
  unfold step_main_v97_3 Cert.ReferenceIdeal.Step.step
  show id (res_main_while0b_v110 V0) = _
  rw [al_11 h]
  try rfl
theorem step_4 (h : Holds V0 s j) : step_main_v97_4 V0 = (step j s).main_v97_4 := by
  unfold step_main_v97_4 Cert.ReferenceIdeal.Step.step
  exact al_16 h
theorem step_2 (h : Holds V0 s j) : step_main_v97_2 V0 = constantI S_ 32 (BitVec.ofNat 32 (j + 1)) := by
  unfold step_main_v97_2
  rw [h.n_2]
  funext i
  show BitVec.ofNat 32 j + 1#32 = BitVec.ofNat 32 (j + 1)
  simp only [BitVec.ofNat_add]

set_option maxRecDepth 8192 in
theorem out_main_v101_holds (h : Holds V0 s j) : out_main_v101 V0 = Cert.ReferenceIdeal.Step.R_main_v101 s := by
  unfold out_main_v101 Cert.ReferenceIdeal.Step.R_main_v101
  rw [h.f_4]
  try rfl

set_option maxRecDepth 8192 in
theorem out_main_v106_holds (h : Holds V0 s j) : out_main_v106 V0 = Cert.ReferenceIdeal.Step.R_main_v106 s := by
  unfold out_main_v106 Cert.ReferenceIdeal.Step.R_main_v106
  rw [h.f_4]
  try rfl

/-- One trip keeps the valuation holding: `step` of the state, the same set-up values, the next number. -/
theorem holds_step (h : Holds V0 s j) : Holds (STEP V0) (step j s) (j + 1) where
  f_3 := (STEP_main_v97_3 V0).trans (step_3 h)
  f_4 := (STEP_main_v97_4 V0).trans (step_4 h)
  n_2 := (STEP_main_v97_2 V0).trans (step_2 h)
  f_0 := (STEP_main_v97_0 V0).trans h.f_0
  f_1 := (STEP_main_v97_1 V0).trans h.f_1

/-- The state the first trip starts from, of the memory the run starts from. -/
abbrev initState (m : (ℓ : Loc nD τ sig) → Buf (Elt F) ℓ) (c : Dev nD) : State F :=
  init (m ((c.tc : Thread nD τ).loc main_arg5)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

/-! What @main's operations before the loop leave, a group of operations at a time. -/

section Groups

open Cert.ReferenceIdeal.Step

variable (a0 : (⟨S8x2048x256, .f32⟩ : BufTy).Contents (Elt F)) (a1 : (⟨S2x4x256, .f32⟩ : BufTy).Contents (Elt F))
  (a2 : (⟨S2x2x2x4x64x64, .f32⟩ : BufTy).Contents (Elt F)) (a3 : (⟨S2x2x2x256, .f32⟩ : BufTy).Contents (Elt F)) (a4 : (⟨S2x2x256, .f32⟩ : BufTy).Contents (Elt F))

/-- What a valuation holds before group 0. -/
structure Stage0 (V : Valuation τ sig (Elt F)) : Prop where
  f_arg0 : V (Proc.devRef .tc main_arg0) = a0
  f_arg1 : V (Proc.devRef .tc main_arg1) = a1
  f_arg2 : V (Proc.devRef .tc main_arg2) = a2
  f_arg3 : V (Proc.devRef .tc main_arg3) = a3
  f_arg4 : V (Proc.devRef .tc main_arg4) = a4

/-- What a valuation holds before group 1. -/
structure Stage1 (V : Valuation τ sig (Elt F)) : Prop where
  f_v1 : V (Proc.devRef .tc main_v1) = A_main_v1 a0 a1 a2 a3 a4
  f_v2 : V (Proc.devRef .tc main_v2) = A_main_v2 a0 a1 a2 a3 a4
  f_arg2 : V (Proc.devRef .tc main_arg2) = a2
  f_arg3 : V (Proc.devRef .tc main_arg3) = a3
  f_arg4 : V (Proc.devRef .tc main_arg4) = a4

/-- What a valuation holds before group 2. -/
structure Stage2 (V : Valuation τ sig (Elt F)) : Prop where
  f_v29 : V (Proc.devRef .tc main_v29) = A_main_v29 a0 a1 a2 a3 a4
  f_v56 : V (Proc.devRef .tc main_v56) = A_main_v56 a0 a1 a2 a3 a4
  f_v58 : V (Proc.devRef .tc main_v58) = A_main_v58 a0 a1 a2 a3 a4
  f_v61 : V (Proc.devRef .tc main_v61) = A_main_v61 a0 a1 a2 a3 a4

/-- What a valuation holds before group 3. -/
structure Stage3 (V : Valuation τ sig (Elt F)) : Prop where
  f_v29 : V (Proc.devRef .tc main_v29) = A_main_v29 a0 a1 a2 a3 a4
  f_v56 : V (Proc.devRef .tc main_v56) = A_main_v56 a0 a1 a2 a3 a4
  f_v58 : V (Proc.devRef .tc main_v58) = A_main_v58 a0 a1 a2 a3 a4
  f_v62 : V (Proc.devRef .tc main_v62) = A_main_v62 a0 a1 a2 a3 a4

/-- What a valuation holds before group 4. -/
structure Stage4 (V : Valuation τ sig (Elt F)) : Prop where
  f_v75 : V (Proc.devRef .tc main_v75) = A_main_v75 a0 a1 a2 a3 a4
  f_v78 : V (Proc.devRef .tc main_v78) = A_main_v78 a0 a1 a2 a3 a4
  f_v81 : V (Proc.devRef .tc main_v81) = A_main_v81 a0 a1 a2 a3 a4

/-- What a valuation holds before group 5. -/
structure Stage5 (V : Valuation τ sig (Elt F)) : Prop where
  f_v75 : V (Proc.devRef .tc main_v75) = A_main_v75 a0 a1 a2 a3 a4
  f_v78 : V (Proc.devRef .tc main_v78) = A_main_v78 a0 a1 a2 a3 a4
  f_v82 : V (Proc.devRef .tc main_v82) = A_main_v82 a0 a1 a2 a3 a4

/-- What a valuation holds before group 6. -/
structure Stage6 (V : Valuation τ sig (Elt F)) : Prop where
  f_v85 : V (Proc.devRef .tc main_v85) = A_main_v85 a0 a1 a2 a3 a4
  f_v88 : V (Proc.devRef .tc main_v88) = A_main_v88 a0 a1 a2 a3 a4
  f_v91 : V (Proc.devRef .tc main_v91) = A_main_v91 a0 a1 a2 a3 a4

/-- What a valuation holds before group 7. -/
structure Stage7 (V : Valuation τ sig (Elt F)) : Prop where
  f_v85 : V (Proc.devRef .tc main_v85) = A_main_v85 a0 a1 a2 a3 a4
  f_v88 : V (Proc.devRef .tc main_v88) = A_main_v88 a0 a1 a2 a3 a4
  f_v92 : V (Proc.devRef .tc main_v92) = A_main_v92 a0 a1 a2 a3 a4

set_option maxRecDepth 65536

theorem stage1 (V : Valuation τ sig (Elt F)) (h : Stage0 a0 a1 a2 a3 a4 V) : Stage1 a0 a1 a2 a3 a4 (after hostOps0_1 (after hostOps0 V)) where
  f_v1 := by
    after_reads_simp
    try simp only [h.f_arg0, h.f_arg1, h.f_arg2, h.f_arg3, h.f_arg4]
    try rfl
  f_v2 := by
    after_reads_simp
    try simp only [h.f_arg0, h.f_arg1, h.f_arg2, h.f_arg3, h.f_arg4]
    try rfl
  f_arg2 := by
    after_reads_simp
    try simp only [h.f_arg0, h.f_arg1, h.f_arg2, h.f_arg3, h.f_arg4]
    try rfl
  f_arg3 := by
    after_reads_simp
    try simp only [h.f_arg0, h.f_arg1, h.f_arg2, h.f_arg3, h.f_arg4]
    try rfl
  f_arg4 := by
    after_reads_simp
    try simp only [h.f_arg0, h.f_arg1, h.f_arg2, h.f_arg3, h.f_arg4]
    try rfl

theorem stage2 (V : Valuation τ sig (Elt F)) (h : Stage1 a0 a1 a2 a3 a4 V) : Stage2 a0 a1 a2 a3 a4 (after hostOps0_2 V) where
  f_v29 := by
    after_reads_simp
    try simp only [h.f_v1, h.f_v2, h.f_arg2, h.f_arg3, h.f_arg4]
    try rfl
  f_v56 := by
    after_reads_simp
    try simp only [h.f_v1, h.f_v2, h.f_arg2, h.f_arg3, h.f_arg4]
    try rfl
  f_v58 := by
    after_reads_simp
    try simp only [h.f_v1, h.f_v2, h.f_arg2, h.f_arg3, h.f_arg4]
    try rfl
  f_v61 := by
    after_reads_simp
    try simp only [h.f_v1, h.f_v2, h.f_arg2, h.f_arg3, h.f_arg4]
    try rfl

theorem stage3 (V : Valuation τ sig (Elt F)) (h : Stage2 a0 a1 a2 a3 a4 V) : Stage3 a0 a1 a2 a3 a4 (after hostOps0_3 V) where
  f_v29 := by
    after_reads_simp
    try simp only [h.f_v29, h.f_v56, h.f_v58, h.f_v61]
    try rfl
  f_v56 := by
    after_reads_simp
    try simp only [h.f_v29, h.f_v56, h.f_v58, h.f_v61]
    try rfl
  f_v58 := by
    after_reads_simp
    try simp only [h.f_v29, h.f_v56, h.f_v58, h.f_v61]
    try rfl
  f_v62 := by
    after_reads_simp
    try simp only [h.f_v29, h.f_v56, h.f_v58, h.f_v61]
    try rfl

theorem stage4 (V : Valuation τ sig (Elt F)) (h : Stage3 a0 a1 a2 a3 a4 V) : Stage4 a0 a1 a2 a3 a4 (after hostOps0_4 V) where
  f_v75 := by
    after_reads_simp
    try simp only [h.f_v29, h.f_v56, h.f_v58, h.f_v62]
    try rfl
  f_v78 := by
    after_reads_simp
    try simp only [h.f_v29, h.f_v56, h.f_v58, h.f_v62]
    try rfl
  f_v81 := by
    after_reads_simp
    try simp only [h.f_v29, h.f_v56, h.f_v58, h.f_v62]
    try rfl

theorem stage5 (V : Valuation τ sig (Elt F)) (h : Stage4 a0 a1 a2 a3 a4 V) : Stage5 a0 a1 a2 a3 a4 (after hostOps0_5 V) where
  f_v75 := by
    after_reads_simp
    try simp only [h.f_v75, h.f_v78, h.f_v81]
    try rfl
  f_v78 := by
    after_reads_simp
    try simp only [h.f_v75, h.f_v78, h.f_v81]
    try rfl
  f_v82 := by
    after_reads_simp
    try simp only [h.f_v75, h.f_v78, h.f_v81]
    try rfl

theorem stage6 (V : Valuation τ sig (Elt F)) (h : Stage5 a0 a1 a2 a3 a4 V) : Stage6 a0 a1 a2 a3 a4 (after hostOps0_6 V) where
  f_v85 := by
    after_reads_simp
    unfold A_main_v85
    refine congrArg₂ (fun a b => concatenate S2048x2x8x256 1 [⟨S2048x1x8x256, a⟩, ⟨S2048x1x8x256, b⟩] concatenates_S2048x1x8x256_S2048x1x8x256_S2048x2x8x256_d1) ?_ ?_
    · unfold upto
      simp only [List.take_succ_cons, List.take_zero]
      after_reads_simp
      rw [h.f_v78]
      rfl
    · unfold upto
      simp only [List.take_succ_cons, List.take_zero]
      after_reads_simp
      rw [h.f_v82]
      rfl
  f_v88 := by
    after_reads_simp
    try simp only [h.f_v75, h.f_v78, h.f_v82]
    try rfl
  f_v91 := by
    after_reads_simp
    try simp only [h.f_v75, h.f_v78, h.f_v82]
    try rfl

theorem stage7 (V : Valuation τ sig (Elt F)) (h : Stage6 a0 a1 a2 a3 a4 V) : Stage7 a0 a1 a2 a3 a4 (after hostOps0_7 V) where
  f_v85 := by
    after_reads_simp
    try simp only [h.f_v85, h.f_v88, h.f_v91]
    try rfl
  f_v88 := by
    after_reads_simp
    try simp only [h.f_v85, h.f_v88, h.f_v91]
    try rfl
  f_v92 := by
    after_reads_simp
    try simp only [h.f_v85, h.f_v88, h.f_v91]
    try rfl

theorem last_0 (V : Valuation τ sig (Elt F)) (h : Stage7 a0 a1 a2 a3 a4 V) : after hostOps0_8 V (Proc.devRef .tc main_v97_0) = A_main_v85 a0 a1 a2 a3 a4 := by
  after_reads_simp
  exact h.f_v85

theorem last_1 (V : Valuation τ sig (Elt F)) (h : Stage7 a0 a1 a2 a3 a4 V) : after hostOps0_8 V (Proc.devRef .tc main_v97_1) = A_main_v95 a0 a1 a2 a3 a4 := by
  after_reads_simp
  unfold A_main_v95
  refine congrArg₂ (fun a b => concatenate S2048x2x8x256 1 [⟨S2048x1x8x256, a⟩, ⟨S2048x1x8x256, b⟩] concatenates_S2048x1x8x256_S2048x1x8x256_S2048x2x8x256_d1) ?_ ?_
  · unfold upto
    simp only [List.take_succ_cons, List.take_zero]
    after_reads_simp
    rw [h.f_v88]
    rfl
  · unfold upto
    simp only [List.take_succ_cons, List.take_zero]
    after_reads_simp
    rw [h.f_v92]
    rfl

end Groups

/-- Before the last group. -/
theorem before_last : Stage7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (after hostOps0_7 (after hostOps0_6 (after hostOps0_5 (after hostOps0_4 (after hostOps0_3 (after hostOps0_2 (after hostOps0_1 (after hostOps0 (launchContents m c))))))))) :=
  stage7 _ _ _ _ _ _ (stage6 _ _ _ _ _ _ (stage5 _ _ _ _ _ _ (stage4 _ _ _ _ _ _ (stage3 _ _ _ _ _ _ (stage2 _ _ _ _ _ _ (stage1 _ _ _ _ _ _ ⟨rfl, rfl, rfl, rfl, rfl⟩))))))

set_option maxRecDepth 65536 in
/-- What @main's operations before the loop leave: the set-up values, number 0, the initial state. -/
theorem entry_holds : Holds (entryContents preI m c) (initState m c) 0 where
  f_3 := by simp only [entryContents, afterL_cons, afterL_nil]; after_reads_simp; rfl
  f_4 := by simp only [entryContents, afterL_cons, afterL_nil]; after_reads_simp; rfl
  f_0 := last_0 _ _ _ _ _ _ (before_last m c)
  f_1 := last_1 _ _ _ _ _ _ (before_last m c)
  n_2 := by simp only [entryContents, afterL_cons, afterL_nil]; after_reads_simp; rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v101) = Cert.ReferenceIdeal.Step.R_main_v101 (it c 2048)
      ∧ r.2.mem ((c.tc : Thread nD τ).loc main_v106) = Cert.ReferenceIdeal.Step.R_main_v106 (it c 2048)
      ∧ r.2.mem ((c.tc : Thread nD τ).loc main_v97_3) = (it c 2048).main_v97_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 2048
    ⟨(h c).1.trans (out_main_v101_holds hk), (h c).2.1.trans (out_main_v106_holds hk), (h c).2.2.1.trans hk.f_3, (h c).2.2.2.1, (h c).2.2.2.2.1, (h c).2.2.2.2.2.1, (h c).2.2.2.2.2.2.1, (h c).2.2.2.2.2.2.2.1, (h c).2.2.2.2.2.2.2.2⟩) (Value.run m ρ)

end Cert.Rg.Run

end
-- ==== Proof.RgClaim.lean ====
module

public import proofs.«01_k».proof.Defs
public import proofs.«01_k».proof.Proof.Gen.Pre_rg_finite
public import proofs.«01_k».proof.Proof.RgArr
public import proofs.«01_k».proof.Proof.RgRefRun

@[expose] public section

set_option maxRecDepth 16384

noncomputable section

namespace Cert.Rg

open Idealize.ShloMosaic Idealize.ShloMosaic.TcCoe Idealize.SL.Sem

theorem idx3_eta {n0 n1 n2 : ℕ} (y : (⟨3, ![n0, n1, n2]⟩ : Shape).Idx) : y = ix3 (y 0) (y 1) (y 2) := by
  funext a
  match a with
  | ⟨0, _⟩ => rfl
  | ⟨1, _⟩ => rfl
  | ⟨2, _⟩ => rfl

theorem idx4_eta {n0 n1 n2 n3 : ℕ} (y : (⟨4, ![n0, n1, n2, n3]⟩ : Shape).Idx) : y = ix4 (y 0) (y 1) (y 2) (y 3) := by
  funext a
  match a with
  | ⟨0, _⟩ => rfl
  | ⟨1, _⟩ => rfl
  | ⟨2, _⟩ => rfl
  | ⟨3, _⟩ => rfl

theorem top_eq : Ideal.ofBits .f32 0x7F800000#32 = (⊤ : EReal) := by
  simp [Ideal.ofBits, Ideal.ieee]

theorem bot_eq : Ideal.ofBits .f32 0xFF800000#32 = (⊥ : EReal) := by
  simp [Ideal.ofBits, Ideal.ieee]

theorem of_bool {p : Prop} [Decidable p] (h : BitVec.ofBool (decide p) = 1#1) : p := by
  by_contra hp
  rw [decide_eq_false hp] at h
  exact absurd h (by decide)

/-- An entry whose absolute value is below the top is a real. -/
theorem real_of_abs (x : EReal) (h : max x (-x) < ⊤) : ∃ r : ℝ, x = r := by
  induction x with
  | bot => exact absurd h (by simp)
  | coe r => exact ⟨r, rfl⟩
  | top => exact absurd h (by simp)

/-- The precondition in the recurrence's terms. -/
theorem fine (m : (ℓ : Loc Cert.KernelIdeal.nD Cert.KernelIdeal.τ Cert.KernelIdeal.sig) → Buf (Elt Ideal) ℓ)
    (h : Cert.Pre_KernelIdeal_rg_finite (hPre_rg_finite := Cert.Pre_rg_finite.Gen.facts) m) (c : Dev Cert.KernelIdeal.nD) : (argsK m c).Fine := by
  obtain ⟨h0, h1, h2⟩ := h c
  refine ⟨fun b t q => ?_, fun k q => ?_, fun d q => ?_⟩
  · have e := congrFun h0 (ix3 b t q)
    refine real_of_abs _ (of_bool (p := _ < _) ?_)
    rw [← top_eq]
    exact e
  · have e := congrFun h1 (ix3 0 k q)
    refine real_of_abs _ (of_bool (p := _ < _) ?_)
    rw [← top_eq]
    exact e
  · have e := congrFun h2 (ix3 0 d q)
    have e' : Ideal.ofBits .f32 0xFF800000#32 < (argsK m c).lam d q := of_bool (p := _ < _) e
    rw [bot_eq] at e'
    exact ne_of_gt e'

/-- The recurrence's kernel and reference leave the same results from the same arguments, where the tokens and the filter are reals and no rate's parameter is the
    bottom. -/
theorem agree : Cert.algebraic_KernelIdeal_ReferenceIdeal_pre_rg_finite (hKernelIdeal := Cert.KernelIdeal.Gen.facts) (hReferenceIdeal := Cert.ReferenceIdeal.Gen.facts)
    (hPre_rg_finite := Cert.Pre_rg_finite.Gen.facts) := by
  intro m g m' g' hp hm
  have hG := fine m hp
  refine ⟨fun c => (Cert.KernelIdeal.Rg.dats m 0 c).arrAt 6 Cert.KernelIdeal.cfg0.N, fun c => (Cert.KernelIdeal.Rg.dats m 0 c).arrAt 7 Cert.KernelIdeal.cfg0.N,
    fun c => (Cert.KernelIdeal.Rg.dats m 0 c).arrAt 8 Cert.KernelIdeal.cfg0.N, ?_, ?_⟩
  · refine (θ_run Cert.KernelIdeal.defs _ _).mono (fun r h c => ?_) (Idealize.ShloMosaic.θ_run_and (Cert.KernelIdeal.Rg.run_main m g) (Cert.KernelIdeal.Rg.frame m g))
    obtain ⟨h, k, _⟩ := h
    exact ⟨(h c).1 6, (h c).1 7, (h c).1 8, k c⟩
  · refine (θ_run Cert.ReferenceIdeal.defs _ _).mono (fun r h c => ?_) (Run.run_iter m' g' (fun c => refIter (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))
      (fun c => rfl) (fun c n => rfl))
    obtain ⟨h0, h1, h2, k⟩ := h c
    obtain ⟨e0, e1, e2, e3, e4, e5⟩ := hm c
    refine ⟨?_, ?_, ?_, k⟩
    · rw [h0, e0, e1, e2, e3, e4, e5]
      funext y
      rw [idx4_eta y]
      exact (ref_out0 _ _ _ _ _ _ (y 0) (y 1) (y 2) (y 3)).trans (arr_6 m c (hG c) (y 0) (y 1) (y 2) (y 3)).symm
    · rw [h1, e0, e1, e2, e3, e4, e5]
      funext y
      rw [idx4_eta y]
      exact (ref_out1 _ _ _ _ _ _ (y 0) (y 1) (y 2) (y 3)).trans (arr_7 m c (hG c) (y 0) (y 1) (y 2) (y 3)).symm
    · rw [h2, e0, e1, e2, e3, e4, e5]
      funext y
      rw [idx3_eta y]
      exact (refIter_state _ _ _ _ _ _ 2048 le_rfl (y 0) (y 1) (y 2)).trans (arr_8 m c (hG c) (y 0) (y 1) (y 2)).symm

end Cert.Rg

end
-- ==== Proof.ProjWin.lean ====
module

public import proofs.«01_k».proof.Proof.ProjFrame
public import Idealize.ShloMosaic.Lib.Pointwise
public import Idealize.ShloMosaic.Lib.StableHlo.ReadAt

@[expose] public section

noncomputable section

namespace Cert.Inproj

open Cert.Kernel3Ideal Cert.Kernel3Ideal.Gen Idealize.ShloMosaic Idealize.ShloMosaic.TcCoe
open Idealize.ShloMosaic.Pipeline (Dat Cfg Window)

/-! What the windows hold of the arguments. -/

variable (m : (ℓ : Loc nD τ sig) → Buf (Elt Ideal) ℓ) (c : Dev nD)

/-! ## What the host operations before the call leave -/

theorem V_25 (b : Fin 8) (r : Fin 32) (q : Fin 64) (k : Fin 1024) : V m c main_v25 (ix4 b r q k) = m ((c : Thread nD τ).loc main_arg0) (ix3 b ⟨r.val * 64 + q.val, by omega⟩ k) := by
  unfold V
  after_reads_at

theorem V_11 (b : Fin 2) (l : Fin 1024) : V m c main_v11 (ix3 b 0 l) = m ((c : Thread nD τ).loc main_arg2) (ix2 b l) := by
  unfold V
  after_reads_at

theorem V_12 (b : Fin 2) (a : Fin 16) (q : Fin 6) (l : Fin 1024) : V m c main_v12 (ix5 b a q 0 l) = m ((c : Thread nD τ).loc main_arg1) (ix3 b a ⟨q.val * 1024 + l.val, by omega⟩) := by
  unfold V
  after_reads_at

/-- The column of the weights that column `j` of the first group is. -/
def colA (j : Fin 1792) : Fin 3344 :=
  if h : j.val < 768 then ⟨j.val, by omega⟩ else if h : j.val < 1024 then ⟨2064 + j.val, by omega⟩
    else if h : j.val < 1536 then ⟨1280 + j.val, by omega⟩ else ⟨1552 + j.val, by omega⟩

theorem colA_0 (j : Fin 1792) (h : j.val < 768) : (colA j).val = j.val := by
  unfold colA; rw [dif_pos h]

theorem colA_1 (j : Fin 1792) (h : ¬ j.val < 768) (h' : j.val < 1024) : (colA j).val = 2064 + j.val := by
  unfold colA; rw [dif_neg h, dif_pos h']

theorem colA_2 (j : Fin 1792) (h : ¬ j.val < 1024) (h' : j.val < 1536) : (colA j).val = 1280 + j.val := by
  unfold colA; rw [dif_neg (by omega), dif_neg h, dif_pos h']

theorem colA_3 (j : Fin 1792) (h : ¬ j.val < 1536) : (colA j).val = 1552 + j.val := by
  unfold colA; rw [dif_neg (by omega), dif_neg (by omega), dif_neg h]

theorem V_5 (b : Fin 2) (k : Fin 1024) (j : Fin 1792) : V m c main_v5 (ix3 b k j) = m ((c : Thread nD τ).loc main_arg3) (ix3 b k (colA j)) := by
  unfold V
  after_reads_at
  by_cases h : j.val < 768
  · rw [dif_pos h]
    after_reads_at
    exact congrArg (fun i => m ((c : Thread nD τ).loc main_arg3) (ix3 b k i)) (Fin.ext (colA_0 j h).symm)
  · rw [dif_neg h]
    by_cases h' : j.val < 1024
    · rw [dif_pos (by omega)]
      after_reads_at
      exact congrArg (fun i => m ((c : Thread nD τ).loc main_arg3) (ix3 b k i)) (Fin.ext (by rw [colA_1 j h h']; show 2832 + (j.val - 768) = 2064 + j.val; omega))
    · rw [dif_neg (by omega)]
      by_cases h'' : j.val < 1536
      · rw [dif_pos (by omega)]
        after_reads_at
        exact congrArg (fun i => m ((c : Thread nD τ).loc main_arg3) (ix3 b k i)) (Fin.ext (by rw [colA_2 j h' h'']; show 2304 + (j.val - 768 - 256) = 1280 + j.val; omega))
      · rw [dif_neg (by omega)]
        after_reads_at
        exact congrArg (fun i => m ((c : Thread nD τ).loc main_arg3) (ix3 b k i)) (Fin.ext (by rw [colA_3 j h'']; show 3088 + (j.val - 768 - 256 - 512) = 1552 + j.val; omega))

theorem V_10_lt (b : Fin 2) (k : Fin 1024) (j : Fin 1664) (h : j.val < 1536) :
    V m c main_v10 (ix3 b k j) = m ((c : Thread nD τ).loc main_arg3) (ix3 b k ⟨768 + j.val, by omega⟩) := by
  unfold V
  after_reads_at
  rw [dif_pos h]
  after_reads_at

theorem V_10_mid (b : Fin 2) (k : Fin 1024) (j : Fin 1664) (h : ¬ j.val < 1536) (h' : j.val < 1552) :
    V m c main_v10 (ix3 b k j) = m ((c : Thread nD τ).loc main_arg3) (ix3 b k ⟨1280 + j.val, by omega⟩) := by
  unfold V
  after_reads_at
  rw [dif_neg h, dif_pos (by omega)]
  after_reads_at
  exact congrArg (fun i => m ((c : Thread nD τ).loc main_arg3) (ix3 b k i)) (Fin.ext (by show 2816 + (j.val - 1536) = 1280 + j.val; omega))

theorem V_10_ge (b : Fin 2) (k : Fin 1024) (j : Fin 1664) (h : ¬ j.val < 1552) : V m c main_v10 (ix3 b k j) = (0 : EReal) := by
  unfold V
  after_reads_at
  rw [dif_neg (by omega), dif_neg (by omega)]
  after_reads_at

/-- The place in the transposed order of the tile's row `s`, as the host computes it. -/
def place (n : BitVec 32) (s : BitVec 32) : BitVec 32 :=
  have k : BitVec 32 := Scalar.select (IntOp.cmpi CmpIPredicate.eq n 0#32) (1#32) n
  have r : BitVec 32 := IntOp.remsi ArithUnit.host s k
  IntOp.addi
    (IntOp.muli
      (Scalar.select
        (IntOp.andi (IntOp.cmpi CmpIPredicate.ne (IntOp.cmpi CmpIPredicate.slt r 0#32) (IntOp.cmpi CmpIPredicate.slt k 0#32)) (IntOp.cmpi CmpIPredicate.ne r 0#32))
        (IntOp.addi r k) r)
      32#32)
    (Scalar.select
      (IntOp.andi
        (IntOp.cmpi CmpIPredicate.ne (if s = 0 then (0 : BitVec 32) else if s.msb = true then -1 else 1) (if n = 0 then 0 else if BitVec.msb n = true then -1 else 1))
        (IntOp.cmpi CmpIPredicate.ne (IntOp.remsi ArithUnit.host s n) 0#32))
      (IntOp.subi (IntOp.divsi ArithUnit.host s n) 1#32)
      (IntOp.divsi ArithUnit.host s n))

theorem place_eq : ∀ s : Fin 512, place 16#32 (BitVec.ofNat 32 s.val) = BitVec.ofNat 32 (s.val % 16 * 32 + s.val / 16) := by decide +kernel

theorem select_eq (p n : ℕ) (hp : p < 512) (hn : n < 512) :
    Scalar.select (IntOp.cmpi CmpIPredicate.eq (BitVec.ofNat 32 p) (BitVec.ofNat 32 n)) (1 : EReal) 0 = if p = n then 1 else 0 := by
  by_cases h : p = n
  · subst h
    rw [if_pos rfl, show IntOp.cmpi CmpIPredicate.eq (BitVec.ofNat 32 p) (BitVec.ofNat 32 p) = 1#1 by simp [IntOp.cmpi]]
    rfl
  · have e : (BitVec.ofNat 32 p == BitVec.ofNat 32 n) = false := by
      rw [beq_eq_false_iff_ne]
      intro he
      have := congrArg BitVec.toNat he
      rw [BitVec.toNat_ofNat, BitVec.toNat_ofNat] at this
      omega
    rw [if_neg h, show IntOp.cmpi CmpIPredicate.eq (BitVec.ofNat 32 p) (BitVec.ofNat 32 n) = 0#1 by simp only [IntOp.cmpi, e]; rfl]
    rfl

theorem V_26 (p s : Fin 512) : V m c main_v26 (ix2 p s) = if p.val = s.val % 16 * 32 + s.val / 16 then (1 : EReal) else 0 := by
  unfold V
  after_reads_at
  refine (congrArg (fun v => Scalar.select (IntOp.cmpi CmpIPredicate.eq (BitVec.ofNat 32 p.val) v) (1 : EReal) 0) (place_eq s)).trans ?_
  exact select_eq _ _ p.isLt (by omega)

end Cert.Inproj
-- ==== Proof.ProjRow.lean ====
module

public import Idealize.ShloMosaic.PureOps.Ideal
public import Mathlib.Algebra.BigOperators.Fin

@[expose] public section

noncomputable section

namespace Cert.Inproj

open Idealize.ShloMosaic

/-! One token of the input projection, as a function of the numbers it reads. -/

abbrev eps : EReal := Ideal.ofBits .f32 0x358637BD#32
abbrev n1024 : EReal := Ideal.ofBits .f32 0x44800000#32

/-- A token's row `x` normalised, with gain `g`, scale `sc` and shift `sh`. -/
def hN (x g sc sh : Fin 1024 → EReal) (k : Fin 1024) : EReal :=
  x k * Ideal.rsqrt (Ideal.div (∑ l, x l * x l) n1024 + eps) * g k * (1 + sc k) + sh k

/-- Column `j` of the projection of the token at place `T` of batch `b`. -/
def z (x : Fin 8 → Fin 2048 → Fin 1024 → EReal) (a : Fin 2 → Fin 16 → Fin 6144 → EReal) (g : Fin 2 → Fin 1024 → EReal)
    (w : Fin 2 → Fin 1024 → Fin 3344 → EReal) (b : Fin 8) (T : Fin 2048) (j : Fin 3344) : EReal :=
  ∑ k : Fin 1024, hN (x b T) (g 0) (fun k => a 0 ⟨b.val, by omega⟩ ⟨1024 + k.val, by omega⟩) (fun k => a 0 ⟨b.val, by omega⟩ ⟨k.val, by omega⟩) k * w 0 k j

end Cert.Inproj
-- ==== Proof.ProjTile.lean ====
module

public import proofs.«01_k».proof.Proof.ProjBody
public import proofs.«01_k».proof.Proof.ProjRow
public import Idealize.ShloMosaic.Lib.Pointwise

@[expose] public section

noncomputable section

namespace Cert.Inproj

open Cert.Kernel3Ideal Cert.Kernel3Ideal.Gen Cert.Kernel3Ideal.Proj Idealize.ShloMosaic

/-! What one grid point computes, read at a token. -/

theorem tile_h (v0 : Vec Ideal S1x32x16x1024 .f32) (v3 : Vec Ideal S1x1x1024 .f32) (v5 v7 : Vec Ideal S1x1x1x1x1024 .f32) (r : Fin 512) (k : Fin 1024) :
    hTile (F := Ideal) v0 v3 v5 v7 (ix2 r k)
      = hN (fun k => v0 (ix4 0 ⟨r.val / 16, by omega⟩ ⟨r.val % 16, by omega⟩ k)) (fun k => v3 (ix3 0 0 k)) (fun k => v7 (ix5 0 0 0 0 k))
          (fun k => v5 (ix5 0 0 0 0 k)) k := by
  pointwise [hTile]
  rfl

theorem tile_za (h : FVec Ideal S512x1024 .bf16) (w : Vec Ideal S1x1024x1792 .bf16) (r : Fin 512) (j : Fin 1792) :
    zaTile (F := Ideal) h w (ix2 r j) = ∑ k : Fin 1024, h (ix2 r k) * w (ix3 0 k j) := by
  pointwise [zaTile]

theorem tile_zm (p : Vec Ideal S512x512 .bf16) (h : FVec Ideal S512x1024 .bf16) (w : Vec Ideal S1x1024x1664 .bf16) (r : Fin 512) (j : Fin 1664) :
    zmTile (F := Ideal) p h w (ix2 r j) = ∑ k : Fin 1024, (∑ s : Fin 512, p (ix2 r s) * h (ix2 s k)) * w (ix3 0 k j) := by
  pointwise [zmTile]

theorem tile_outH (a : FVec Ideal S512x1792 .f32) (r : Fin 32) (q : Fin 16) (j : Fin 768) :
    outH (F := Ideal) (zhCols a) (ix4 0 r q j) = a (ix2 ⟨r.val * 16 + q.val, by omega⟩ ⟨j.val, by omega⟩) := by
  pointwise [outH, zhCols]

theorem tile_outO (a : FVec Ideal S512x1792 .f32) (r : Fin 32) (q : Fin 16) (j : Fin 768) :
    outO (F := Ideal) a (ix4 0 r q j) = a (ix2 ⟨r.val * 16 + q.val, by omega⟩ ⟨1024 + j.val, by omega⟩) := by
  pointwise [outO]

theorem tile_outR (a : FVec Ideal S512x1792 .f32) (r : Fin 32) (q : Fin 16) (j : Fin 256) :
    outR (F := Ideal) a (ix4 r q 0 j) = a (ix2 ⟨r.val * 16 + q.val, by omega⟩ ⟨768 + j.val, by omega⟩) := by
  pointwise [outR]

theorem tile_outM (a : FVec Ideal S512x1664 .f32) (r : Fin 512) (j : Fin 1536) :
    outM (F := Ideal) a (ix3 0 r j) = a (ix2 r ⟨j.val, by omega⟩) := by
  pointwise [outM]

theorem tile_outG (a : FVec Ideal S512x1664 .f32) (r : Fin 512) (j : Fin 128) :
    outG (F := Ideal) a (ix3 0 r j) = a (ix2 r ⟨1536 + j.val, by omega⟩) := by
  pointwise [outG]

end Cert.Inproj
-- ==== Proof.ProjVal.lean ====
module

public import proofs.«01_k».proof.Proof.ProjWin
public import proofs.«01_k».proof.Proof.ProjTile

@[expose] public section

noncomputable section

namespace Cert.Inproj

open Cert.Kernel3Ideal Cert.Kernel3Ideal.Gen Cert.Kernel3Ideal.Proj Idealize.ShloMosaic Idealize.ShloMosaic.TcCoe
open Idealize.ShloMosaic.Pipeline (Dat Cfg Window)

/-! The values one grid point computes, of the arguments. -/

variable (m : (ℓ : Loc nD τ sig) → Buf (Elt Ideal) ℓ) (c : Dev nD)

theorem idx_0 : ∀ t : Fin grid0.N, win0_0.index t 0 = t.val % 8 ∧ win0_0.index t 1 = 0 ∧ win0_0.index t 2 = t.val / 8 ∧ win0_0.index t 3 = 0 := by decide +kernel

theorem blk_0 (t : Fin cfg0.N) (y1 : Fin 32) (y2 : Fin 16) (y3 : Fin 1024) :
    iblk m c 0 t (ix4 (0 : Fin 1) y1 y2 y3)
      = V m c main_v25 (ix4 ⟨t.val % 8, by omega⟩ y1 ⟨t.val / 8 * 16 + y2.val, by have : t.val < 32 := t.isLt; omega⟩ y3) := by
  obtain ⟨e0, e1, e2, e3⟩ := idx_0 t
  show V m c main_v25 (((cfg0.win 0).blk t).view.emb (ix4 (0 : Fin 1) y1 y2 y3)) = _
  refine congrArg (V m c main_v25) (funext fun a => Fin.ext ?_)
  match a with
  | ⟨0, _⟩ => show win0_0.index t 0 * 1 + 1 * 0 = t.val % 8; rw [e0] <;> omega
  | ⟨1, _⟩ => show win0_0.index t 1 * 32 + 1 * y1.val = y1.val; rw [e1] <;> omega
  | ⟨2, _⟩ => show win0_0.index t 2 * 16 + 1 * y2.val = t.val / 8 * 16 + y2.val; rw [e2] <;> omega
  | ⟨3, _⟩ => show win0_0.index t 3 * 1024 + 1 * y3.val = y3.val; rw [e3] <;> omega

theorem idx_1 : ∀ t : Fin grid0.N, win0_1.index t 0 = 0 ∧ win0_1.index t 1 = t.val % 8 ∧ win0_1.index t 2 = 0 ∧ win0_1.index t 3 = 0 ∧ win0_1.index t 4 = 0 := by decide +kernel

theorem blk_1 (t : Fin cfg0.N) (y4 : Fin 1024) :
    iblk m c 1 t (ix5 (0 : Fin 1) (0 : Fin 1) (0 : Fin 1) (0 : Fin 1) y4)
      = V m c main_v12 (ix5 0 ⟨t.val % 8, by omega⟩ 0 0 y4) := by
  obtain ⟨e0, e1, e2, e3, e4⟩ := idx_1 t
  show V m c main_v12 (((cfg0.win 1).blk t).view.emb (ix5 (0 : Fin 1) (0 : Fin 1) (0 : Fin 1) (0 : Fin 1) y4)) = _
  refine congrArg (V m c main_v12) (funext fun a => Fin.ext ?_)
  match a with
  | ⟨0, _⟩ => show win0_1.index t 0 * 1 + 1 * 0 = 0; rw [e0] <;> omega
  | ⟨1, _⟩ => show win0_1.index t 1 * 1 + 1 * 0 = t.val % 8; rw [e1] <;> omega
  | ⟨2, _⟩ => show win0_1.index t 2 * 1 + 1 * 0 = 0; rw [e2] <;> omega
  | ⟨3, _⟩ => show win0_1.index t 3 * 1 + 1 * 0 = 0; rw [e3] <;> omega
  | ⟨4, _⟩ => show win0_1.index t 4 * 1024 + 1 * y4.val = y4.val; rw [e4] <;> omega

theorem idx_2 : ∀ t : Fin grid0.N, win0_2.index t 0 = 0 ∧ win0_2.index t 1 = t.val % 8 ∧ win0_2.index t 2 = 1 ∧ win0_2.index t 3 = 0 ∧ win0_2.index t 4 = 0 := by decide +kernel

theorem blk_2 (t : Fin cfg0.N) (y4 : Fin 1024) :
    iblk m c 2 t (ix5 (0 : Fin 1) (0 : Fin 1) (0 : Fin 1) (0 : Fin 1) y4)
      = V m c main_v12 (ix5 0 ⟨t.val % 8, by omega⟩ 1 0 y4) := by
  obtain ⟨e0, e1, e2, e3, e4⟩ := idx_2 t
  show V m c main_v12 (((cfg0.win 2).blk t).view.emb (ix5 (0 : Fin 1) (0 : Fin 1) (0 : Fin 1) (0 : Fin 1) y4)) = _
  refine congrArg (V m c main_v12) (funext fun a => Fin.ext ?_)
  match a with
  | ⟨0, _⟩ => show win0_2.index t 0 * 1 + 1 * 0 = 0; rw [e0] <;> omega
  | ⟨1, _⟩ => show win0_2.index t 1 * 1 + 1 * 0 = t.val % 8; rw [e1] <;> omega
  | ⟨2, _⟩ => show win0_2.index t 2 * 1 + 1 * 0 = 1; rw [e2] <;> omega
  | ⟨3, _⟩ => show win0_2.index t 3 * 1 + 1 * 0 = 0; rw [e3] <;> omega
  | ⟨4, _⟩ => show win0_2.index t 4 * 1024 + 1 * y4.val = y4.val; rw [e4] <;> omega

theorem idx_3 : ∀ t : Fin grid0.N, win0_3.index t 0 = 0 ∧ win0_3.index t 1 = 0 ∧ win0_3.index t 2 = 0 := by decide +kernel

theorem blk_3 (t : Fin cfg0.N) (y2 : Fin 1024) :
    iblk m c 3 t (ix3 (0 : Fin 1) (0 : Fin 1) y2)
      = V m c main_v11 (ix3 0 0 y2) := by
  obtain ⟨e0, e1, e2⟩ := idx_3 t
  show V m c main_v11 (((cfg0.win 3).blk t).view.emb (ix3 (0 : Fin 1) (0 : Fin 1) y2)) = _
  refine congrArg (V m c main_v11) (funext fun a => Fin.ext ?_)
  match a with
  | ⟨0, _⟩ => show win0_3.index t 0 * 1 + 1 * 0 = 0; rw [e0] <;> omega
  | ⟨1, _⟩ => show win0_3.index t 1 * 1 + 1 * 0 = 0; rw [e1] <;> omega
  | ⟨2, _⟩ => show win0_3.index t 2 * 1024 + 1 * y2.val = y2.val; rw [e2] <;> omega

theorem idx_4 : ∀ t : Fin grid0.N, win0_4.index t 0 = 0 ∧ win0_4.index t 1 = 0 ∧ win0_4.index t 2 = 0 := by decide +kernel

theorem blk_4 (t : Fin cfg0.N) (y1 : Fin 1024) (y2 : Fin 1792) :
    iblk m c 4 t (ix3 (0 : Fin 1) y1 y2)
      = V m c main_v5 (ix3 0 y1 y2) := by
  obtain ⟨e0, e1, e2⟩ := idx_4 t
  show V m c main_v5 (((cfg0.win 4).blk t).view.emb (ix3 (0 : Fin 1) y1 y2)) = _
  refine congrArg (V m c main_v5) (funext fun a => Fin.ext ?_)
  match a with
  | ⟨0, _⟩ => show win0_4.index t 0 * 1 + 1 * 0 = 0; rw [e0] <;> omega
  | ⟨1, _⟩ => show win0_4.index t 1 * 1024 + 1 * y1.val = y1.val; rw [e1] <;> omega
  | ⟨2, _⟩ => show win0_4.index t 2 * 1792 + 1 * y2.val = y2.val; rw [e2] <;> omega

theorem idx_5 : ∀ t : Fin grid0.N, win0_5.index t 0 = 0 ∧ win0_5.index t 1 = 0 ∧ win0_5.index t 2 = 0 := by decide +kernel

theorem blk_5 (t : Fin cfg0.N) (y1 : Fin 1024) (y2 : Fin 1664) :
    iblk m c 5 t (ix3 (0 : Fin 1) y1 y2)
      = V m c main_v10 (ix3 0 y1 y2) := by
  obtain ⟨e0, e1, e2⟩ := idx_5 t
  show V m c main_v10 (((cfg0.win 5).blk t).view.emb (ix3 (0 : Fin 1) y1 y2)) = _
  refine congrArg (V m c main_v10) (funext fun a => Fin.ext ?_)
  match a with
  | ⟨0, _⟩ => show win0_5.index t 0 * 1 + 1 * 0 = 0; rw [e0] <;> omega
  | ⟨1, _⟩ => show win0_5.index t 1 * 1024 + 1 * y1.val = y1.val; rw [e1] <;> omega
  | ⟨2, _⟩ => show win0_5.index t 2 * 1664 + 1 * y2.val = y2.val; rw [e2] <;> omega

theorem idx_6 : ∀ t : Fin grid0.N, win0_6.index t 0 = 0 ∧ win0_6.index t 1 = 0 := by decide +kernel

theorem blk_6 (t : Fin cfg0.N) (y0 : Fin 512) (y1 : Fin 512) :
    iblk m c 6 t (ix2 y0 y1)
      = V m c main_v26 (ix2 y0 y1) := by
  obtain ⟨e0, e1⟩ := idx_6 t
  show V m c main_v26 (((cfg0.win 6).blk t).view.emb (ix2 y0 y1)) = _
  refine congrArg (V m c main_v26) (funext fun a => Fin.ext ?_)
  match a with
  | ⟨0, _⟩ => show win0_6.index t 0 * 512 + 1 * y0.val = y0.val; rw [e0] <;> omega
  | ⟨1, _⟩ => show win0_6.index t 1 * 512 + 1 * y1.val = y1.val; rw [e1] <;> omega

/-- The kernel's projection: `z` of its arguments. -/
abbrev zK (b : Fin 8) (T : Fin 2048) (j : Fin 3344) : EReal :=
  z (fun i j k => m ((c : Thread nD τ).loc main_arg0) (ix3 i j k)) (fun i j k => m ((c : Thread nD τ).loc main_arg1) (ix3 i j k))
    (fun i j => m ((c : Thread nD τ).loc main_arg2) (ix2 i j)) (fun i j k => m ((c : Thread nD τ).loc main_arg3) (ix3 i j k)) b T j

/-- The batch that point `t` works on. -/
def batchOf (t : Fin cfg0.N) : Fin 8 := ⟨t.val % 8, by omega⟩

/-- The token that row `r` of its tile is. -/
def tokOf (t : Fin cfg0.N) (r : Fin 512) : Fin 2048 :=
  ⟨r.val / 16 * 64 + (t.val / 8 * 16 + r.val % 16), by have : t.val < 32 := t.isLt; omega⟩

/-- The row of the tile that stands at place `p` of the transposed order. -/
def srcOf (p : Fin 512) : Fin 512 := ⟨p.val % 32 * 16 + p.val / 32, by omega⟩

/-- The tile's modulated norm. -/
abbrev hAt (t : Fin cfg0.N) : FVec Ideal S512x1024 .bf16 := hTile (iblk m c 0 t) (iblk m c 3 t) (iblk m c 1 t) (iblk m c 2 t)

/-- The modulated norm of a token. -/
abbrev hK (b : Fin 8) (T : Fin 2048) (k : Fin 1024) : EReal :=
  hN (fun k => m ((c : Thread nD τ).loc main_arg0) (ix3 b T k)) (fun k => m ((c : Thread nD τ).loc main_arg2) (ix2 0 k))
    (fun k => m ((c : Thread nD τ).loc main_arg1) (ix3 0 ⟨b.val, by omega⟩ ⟨1024 + k.val, by omega⟩))
    (fun k => m ((c : Thread nD τ).loc main_arg1) (ix3 0 ⟨b.val, by omega⟩ ⟨k.val, by omega⟩)) k

theorem hN_congr {x x' g g' sc sc' sh sh' : Fin 1024 → EReal} (k : Fin 1024) (hx : x = x') (hg : g = g') (hsc : sc = sc') (hsh : sh = sh') :
    hN x g sc sh k = hN x' g' sc' sh' k := by
  rw [hx, hg, hsc, hsh]

theorem x_apply (t : Fin cfg0.N) (r : Fin 512) (k : Fin 1024) : iblk m c 0 t (ix4 (0 : Fin 1) (⟨r.val / 16, by omega⟩ : Fin 32) (⟨r.val % 16, by omega⟩ : Fin 16) k)
    = m ((c : Thread nD τ).loc main_arg0) (ix3 (batchOf t) (tokOf t r) k) :=
  (blk_0 m c t _ _ k).trans (V_25 m c _ _ _ k)

theorem g_apply (t : Fin cfg0.N) (k : Fin 1024) : iblk m c 3 t (ix3 (0 : Fin 1) (0 : Fin 1) k) = m ((c : Thread nD τ).loc main_arg2) (ix2 0 k) :=
  (blk_3 m c t k).trans (V_11 m c 0 k)

theorem sc_apply (t : Fin cfg0.N) (k : Fin 1024) : iblk m c 2 t (ix5 (0 : Fin 1) (0 : Fin 1) (0 : Fin 1) (0 : Fin 1) k)
    = m ((c : Thread nD τ).loc main_arg1) (ix3 0 ⟨(batchOf t).val, by omega⟩ ⟨1024 + k.val, by omega⟩) := by
  refine ((blk_2 m c t k).trans (V_12 m c 0 _ 1 k)).trans ?_
  refine congrArg (fun i => m ((c : Thread nD τ).loc main_arg1) (ix3 0 ⟨t.val % 8, by omega⟩ i)) (Fin.ext ?_)
  show 1 * 1024 + k.val = 1024 + k.val
  omega

theorem sh_apply (t : Fin cfg0.N) (k : Fin 1024) : iblk m c 1 t (ix5 (0 : Fin 1) (0 : Fin 1) (0 : Fin 1) (0 : Fin 1) k)
    = m ((c : Thread nD τ).loc main_arg1) (ix3 0 ⟨(batchOf t).val, by omega⟩ ⟨k.val, by omega⟩) := by
  refine ((blk_1 m c t k).trans (V_12 m c 0 _ 0 k)).trans ?_
  refine congrArg (fun i => m ((c : Thread nD τ).loc main_arg1) (ix3 0 ⟨t.val % 8, by omega⟩ i)) (Fin.ext ?_)
  show 0 * 1024 + k.val = k.val
  omega

theorem hAt_apply (t : Fin cfg0.N) (r : Fin 512) (k : Fin 1024) : hAt m c t (ix2 r k) = hK m c (batchOf t) (tokOf t r) k :=
  (tile_h _ _ _ _ r k).trans (hN_congr k (funext fun l => x_apply m c t r l) (funext fun l => g_apply m c t l) (funext fun l => sc_apply m c t l)
    (funext fun l => sh_apply m c t l))

theorem zaAt_apply (t : Fin cfg0.N) (r : Fin 512) (j : Fin 1792) :
    zaTile (hAt m c t) (iblk m c 4 t) (ix2 r j) = zK m c (batchOf t) (tokOf t r) (colA j) :=
  (tile_za _ _ r j).trans (Finset.sum_congr rfl fun k _ => congrArg₂ (fun a b : EReal => a * b) (hAt_apply m c t r k) ((blk_4 m c t k j).trans (V_5 m c 0 k j)))

omit m c in
/-- The product with the permutation picks the row that stands at the place. -/
theorem perm_sum (p : Fin 512) (P f : Fin 512 → EReal) (hP : ∀ s, P s = if p.val = s.val % 16 * 32 + s.val / 16 then 1 else 0) :
    ∑ s : Fin 512, P s * f s = f (srcOf p) := by
  have hp : p.val = (srcOf p).val % 16 * 32 + (srcOf p).val / 16 := by
    show p.val = (p.val % 32 * 16 + p.val / 32) % 16 * 32 + (p.val % 32 * 16 + p.val / 32) / 16
    omega
  rw [Finset.sum_eq_single (srcOf p)]
  · rw [hP, if_pos hp, one_mul]
  · intro s _ hs
    rw [hP, if_neg, zero_mul]
    intro h
    refine hs (Fin.ext ?_)
    show s.val = p.val % 32 * 16 + p.val / 32
    omega
  · intro h
    exact absurd (Finset.mem_univ _) h

omit m c in
theorem zm_apply (P : Vec Ideal S512x512 .bf16) (h : FVec Ideal S512x1024 .bf16) (w : Vec Ideal S1x1024x1664 .bf16) (H : Fin 512 → Fin 1024 → EReal)
    (W : Fin 1024 → Fin 1664 → EReal) (hP : ∀ p s : Fin 512, P (ix2 p s) = if p.val = s.val % 16 * 32 + s.val / 16 then (1 : EReal) else 0)
    (hh : ∀ s k, h (ix2 s k) = H s k) (hw : ∀ k j, w (ix3 0 k j) = W k j) (p : Fin 512) (j : Fin 1664) :
    zmTile P h w (ix2 p j) = ∑ k : Fin 1024, H (srcOf p) k * W k j := by
  rw [tile_zm]
  refine Finset.sum_congr rfl fun k _ => ?_
  rw [perm_sum p (fun s => P (ix2 p s)) (fun s => h (ix2 s k)) (hP p), hh, hw]

theorem zmAt_apply (t : Fin cfg0.N) (p : Fin 512) (j : Fin 1664) : zmTile (iblk m c 6 t) (hAt m c t) (iblk m c 5 t) (ix2 p j)
    = ∑ k : Fin 1024, hK m c (batchOf t) (tokOf t (srcOf p)) k * (fun (k : Fin 1024) (j : Fin 1664) => V m c main_v10 (ix3 (0 : Fin 2) k j)) k j :=
  zm_apply _ _ _ (fun s k => hK m c (batchOf t) (tokOf t s) k) _ (fun p s => (blk_6 m c t p s).trans (V_26 m c p s)) (hAt_apply m c t) (blk_5 m c t) p j

theorem zmAt_lt (t : Fin cfg0.N) (p : Fin 512) (j : Fin 1664) (h : j.val < 1536) :
    zmTile (iblk m c 6 t) (hAt m c t) (iblk m c 5 t) (ix2 p j) = zK m c (batchOf t) (tokOf t (srcOf p)) ⟨768 + j.val, by omega⟩ := by
  rw [zmAt_apply]
  simp only [V_10_lt m c _ _ j h]
  rfl

theorem zmAt_mid (t : Fin cfg0.N) (p : Fin 512) (j : Fin 1664) (h : ¬ j.val < 1536) (h' : j.val < 1552) :
    zmTile (iblk m c 6 t) (hAt m c t) (iblk m c 5 t) (ix2 p j) = zK m c (batchOf t) (tokOf t (srcOf p)) ⟨1280 + j.val, by omega⟩ := by
  rw [zmAt_apply]
  simp only [V_10_mid m c _ _ j h h']
  rfl

theorem zmAt_ge (t : Fin cfg0.N) (p : Fin 512) (j : Fin 1664) (h : ¬ j.val < 1552) :
    zmTile (iblk m c 6 t) (hAt m c t) (iblk m c 5 t) (ix2 p j) = (0 : EReal) := by
  rw [zmAt_apply]
  simp only [V_10_ge m c _ _ j h, mul_zero, Finset.sum_const_zero]

end Cert.Inproj

end
-- ==== Proof.ProjArr.lean ====
module

public import proofs.«01_k».proof.Proof.ProjVal

@[expose] public section

noncomputable section

namespace Cert.Inproj

open Cert.Kernel3Ideal Cert.Kernel3Ideal.Gen Cert.Kernel3Ideal.Proj Idealize.ShloMosaic Idealize.ShloMosaic.TcCoe
open Idealize.SL Idealize.SL.RA
open Idealize.ShloMosaic.Pipeline (Dat Cfg Window)

/-! The five arrays the run leaves, token by token. -/

variable (m : (ℓ : Loc nD τ sig) → Buf (Elt Ideal) ℓ) (c : Dev nD) (D : Dat τ (Elt Ideal) Unit ℕ (UR sig nD τ) ℕ cfg0 c)

theorem idx_7 : ∀ t : Fin grid0.N, win0_7.index t 0 = t.val % 8 ∧ win0_7.index t 1 = 0 ∧ win0_7.index t 2 = t.val / 8 ∧ win0_7.index t 3 = 0 := by decide +kernel
theorem idx_8 : ∀ t : Fin grid0.N, win0_8.index t 0 = t.val % 8 ∧ win0_8.index t 1 = 0 ∧ win0_8.index t 2 = t.val / 8 ∧ win0_8.index t 3 = 0 := by decide +kernel
theorem idx_9 : ∀ t : Fin grid0.N, win0_9.index t 0 = t.val % 8 ∧ win0_9.index t 1 = t.val / 8 ∧ win0_9.index t 2 = 0 := by decide +kernel
theorem idx_10 : ∀ t : Fin grid0.N, win0_10.index t 0 = t.val % 8 ∧ win0_10.index t 1 = t.val / 8 ∧ win0_10.index t 2 = 0 := by decide +kernel
theorem idx_11 : ∀ t : Fin grid0.N, win0_11.index t 0 = 0 ∧ win0_11.index t 1 = t.val / 8 ∧ win0_11.index t 2 = 0 ∧ win0_11.index t 3 = 0 := by decide +kernel

theorem inj_7 : ∀ t t' : Fin cfg0.N, win0_7.index t = win0_7.index t' → t = t' :=
  (by decide +kernel : ∀ t t' : Fin grid0.N, win0_7.index t = win0_7.index t' → t = t')
theorem inj_8 : ∀ t t' : Fin cfg0.N, win0_8.index t = win0_8.index t' → t = t' :=
  (by decide +kernel : ∀ t t' : Fin grid0.N, win0_8.index t = win0_8.index t' → t = t')
theorem inj_9 : ∀ t t' : Fin cfg0.N, win0_9.index t = win0_9.index t' → t = t' :=
  (by decide +kernel : ∀ t t' : Fin grid0.N, win0_9.index t = win0_9.index t' → t = t')
theorem inj_10 : ∀ t t' : Fin cfg0.N, win0_10.index t = win0_10.index t' → t = t' :=
  (by decide +kernel : ∀ t t' : Fin grid0.N, win0_10.index t = win0_10.index t' → t = t')
theorem inj_11 : ∀ t t' : Fin cfg0.N, (cfg0.win 11).flush t = true → (cfg0.win 11).flush t' = true → win0_11.index t = win0_11.index t' → t = t' :=
  (by decide +kernel : ∀ t t' : Fin grid0.N, (cfg0.win 11).flush t = true → (cfg0.win 11).flush t' = true → win0_11.index t = win0_11.index t' → t = t')

theorem read_7 (h : ∀ t, D.after 7 t = (dat m c).after 7 t) (t : Fin cfg0.N) : ((cfg0.win 7).blk t).view.read (Elt Ideal) (D.arrAt 7 cfg0.N)
    = outH (zhCols (zaTile (hAt m c t) (iblk m c 4 t))) := by
  rw [D.read_blk_arrAt_eq_flushed 7 (fun t t' _ _ hne => (cfg0.win 7).disjoint_blk fun h => hne (inj_7 t t' h)) cfg0.N t t.isLt (flush0_7 t)]
  show (cfg0.win 7).cut (grid0.coords t) (D.after 7 t) = _
  rw [h, after_7]
  rfl

theorem read_8 (h : ∀ t, D.after 8 t = (dat m c).after 8 t) (t : Fin cfg0.N) : ((cfg0.win 8).blk t).view.read (Elt Ideal) (D.arrAt 8 cfg0.N)
    = outO (zaTile (hAt m c t) (iblk m c 4 t)) := by
  rw [D.read_blk_arrAt_eq_flushed 8 (fun t t' _ _ hne => (cfg0.win 8).disjoint_blk fun h => hne (inj_8 t t' h)) cfg0.N t t.isLt (flush0_8 t)]
  show (cfg0.win 8).cut (grid0.coords t) (D.after 8 t) = _
  rw [h, after_8]
  rfl

theorem read_9 (h : ∀ t, D.after 9 t = (dat m c).after 9 t) (t : Fin cfg0.N) : ((cfg0.win 9).blk t).view.read (Elt Ideal) (D.arrAt 9 cfg0.N)
    = outM (zmTile (iblk m c 6 t) (hAt m c t) (iblk m c 5 t)) := by
  rw [D.read_blk_arrAt_eq_flushed 9 (fun t t' _ _ hne => (cfg0.win 9).disjoint_blk fun h => hne (inj_9 t t' h)) cfg0.N t t.isLt (flush0_9 t)]
  show (cfg0.win 9).cut (grid0.coords t) (D.after 9 t) = _
  rw [h, after_9]
  rfl

theorem read_10 (h : ∀ t, D.after 10 t = (dat m c).after 10 t) (t : Fin cfg0.N) : ((cfg0.win 10).blk t).view.read (Elt Ideal) (D.arrAt 10 cfg0.N)
    = outG (zmTile (iblk m c 6 t) (hAt m c t) (iblk m c 5 t)) := by
  rw [D.read_blk_arrAt_eq_flushed 10 (fun t t' _ _ hne => (cfg0.win 10).disjoint_blk fun h => hne (inj_10 t t' h)) cfg0.N t t.isLt (flush0_10 t)]
  show (cfg0.win 10).cut (grid0.coords t) (D.after 10 t) = _
  rw [h, after_10]
  rfl

theorem read_11 (t : Fin cfg0.N) (ht : (cfg0.win 11).flush t = true) : ((cfg0.win 11).blk t).view.read (Elt Ideal) (D.arrAt 11 cfg0.N) = D.after 11 t := by
  rw [D.read_blk_arrAt_eq_flushed 11 (fun t t' hf hf' hne => (cfg0.win 11).disjoint_blk fun h => hne (inj_11 t t' hf hf' h)) cfg0.N t t.isLt ht]

/-- The grid point that writes the token at row `r` and column `q` of batch `b`. -/
def pointOf (b : Fin 8) (q : Fin 64) : Fin cfg0.N := ⟨q.val / 16 * 8 + b.val, by show _ < 32; omega⟩

theorem batch_point (b : Fin 8) (q : Fin 64) : batchOf (pointOf b q) = b := Fin.ext (by show (q.val / 16 * 8 + b.val) % 8 = b.val; omega)

theorem tok_point (b : Fin 8) (r : Fin 32) (q : Fin 64) :
    tokOf (pointOf b q) ⟨r.val * 16 + q.val % 16, by omega⟩ = ⟨r.val * 64 + q.val, by omega⟩ :=
  Fin.ext (by
    show (r.val * 16 + q.val % 16) / 16 * 64 + ((q.val / 16 * 8 + b.val) / 8 * 16 + (r.val * 16 + q.val % 16) % 16) = r.val * 64 + q.val
    omega)

/-- The column of the grid that the token at place `s` of the transposed order stands in. -/
def colOf (s : Fin 2048) : Fin 64 := ⟨s.val / 32, by omega⟩

theorem place_arith (a c b : ℕ) (hb : b < 8) : (a * 16 + c % 16) / 16 * 64 + ((c / 16 * 8 + b) / 8 * 16 + (a * 16 + c % 16) % 16) = a * 64 + c := by
  have h1 : (a * 16 + c % 16) / 16 = a := by omega
  have h2 : (a * 16 + c % 16) % 16 = c % 16 := by omega
  have h3 : (c / 16 * 8 + b) / 8 = c / 16 := by omega
  rw [h1, h2, h3]
  omega

theorem tok_place (b : Fin 8) (s : Fin 2048) :
    tokOf (pointOf b (colOf s)) (srcOf ⟨s.val % 512, by omega⟩) = ⟨s.val % 32 * 64 + s.val / 32, by omega⟩ :=
  Fin.ext (by
    show (s.val % 512 % 32 * 16 + s.val % 512 / 32) / 16 * 64 + ((s.val / 32 / 16 * 8 + b.val) / 8 * 16 + (s.val % 512 % 32 * 16 + s.val % 512 / 32) % 16)
      = s.val % 32 * 64 + s.val / 32
    have h1 : s.val % 512 % 32 = s.val % 32 := by omega
    have h2 : s.val % 512 / 32 = s.val / 32 % 16 := by omega
    rw [h1, h2]
    exact place_arith _ _ _ b.isLt)

theorem zK_congr {b b' : Fin 8} {T T' : Fin 2048} {j j' : Fin 3344} (hb : b = b') (hT : T = T') (hj : j.val = j'.val) : zK m c b T j = zK m c b' T' j' := by
  rw [hb, hT, Fin.ext hj]

theorem at_7 (b : Fin 8) (r : Fin 32) (q : Fin 64) (j : Fin 768) :
    ((cfg0.win 7).blk (pointOf b q)).view.read (Elt Ideal) (D.arrAt 7 cfg0.N) (ix4 (0 : Fin 1) r (⟨q.val % 16, by omega⟩ : Fin 16) j) = D.arrAt 7 cfg0.N (ix4 b r q j) := by
  obtain ⟨e0, e1, e2, e3⟩ := idx_7 (pointOf b q)
  show D.arrAt 7 cfg0.N (((cfg0.win 7).blk (pointOf b q)).view.emb (ix4 (0 : Fin 1) r (⟨q.val % 16, by omega⟩ : Fin 16) j)) = _
  refine congrArg (D.arrAt 7 cfg0.N) (funext fun a => Fin.ext ?_)
  match a with
  | ⟨0, _⟩ => show win0_7.index (pointOf b q) 0 * 1 + 1 * 0 = b.val; rw [e0]; show (q.val / 16 * 8 + b.val) % 8 * 1 + 1 * 0 = b.val; omega
  | ⟨1, _⟩ => show win0_7.index (pointOf b q) 1 * 32 + 1 * r.val = r.val; rw [e1]; omega
  | ⟨2, _⟩ => show win0_7.index (pointOf b q) 2 * 16 + 1 * (q.val % 16) = q.val; rw [e2]; show (q.val / 16 * 8 + b.val) / 8 * 16 + 1 * (q.val % 16) = q.val; omega
  | ⟨3, _⟩ => show win0_7.index (pointOf b q) 3 * 768 + 1 * j.val = j.val; rw [e3]; omega

theorem at_8 (b : Fin 8) (r : Fin 32) (q : Fin 64) (j : Fin 768) :
    ((cfg0.win 8).blk (pointOf b q)).view.read (Elt Ideal) (D.arrAt 8 cfg0.N) (ix4 (0 : Fin 1) r (⟨q.val % 16, by omega⟩ : Fin 16) j) = D.arrAt 8 cfg0.N (ix4 b r q j) := by
  obtain ⟨e0, e1, e2, e3⟩ := idx_8 (pointOf b q)
  show D.arrAt 8 cfg0.N (((cfg0.win 8).blk (pointOf b q)).view.emb (ix4 (0 : Fin 1) r (⟨q.val % 16, by omega⟩ : Fin 16) j)) = _
  refine congrArg (D.arrAt 8 cfg0.N) (funext fun a => Fin.ext ?_)
  match a with
  | ⟨0, _⟩ => show win0_8.index (pointOf b q) 0 * 1 + 1 * 0 = b.val; rw [e0]; show (q.val / 16 * 8 + b.val) % 8 * 1 + 1 * 0 = b.val; omega
  | ⟨1, _⟩ => show win0_8.index (pointOf b q) 1 * 32 + 1 * r.val = r.val; rw [e1]; omega
  | ⟨2, _⟩ => show win0_8.index (pointOf b q) 2 * 16 + 1 * (q.val % 16) = q.val; rw [e2]; show (q.val / 16 * 8 + b.val) / 8 * 16 + 1 * (q.val % 16) = q.val; omega
  | ⟨3, _⟩ => show win0_8.index (pointOf b q) 3 * 768 + 1 * j.val = j.val; rw [e3]; omega

theorem at_9 (b : Fin 8) (s : Fin 2048) (j : Fin 1536) :
    ((cfg0.win 9).blk (pointOf b (colOf s))).view.read (Elt Ideal) (D.arrAt 9 cfg0.N) (ix3 (0 : Fin 1) (⟨s.val % 512, by omega⟩ : Fin 512) j)
      = D.arrAt 9 cfg0.N (ix3 b s j) := by
  obtain ⟨e0, e1, e2⟩ := idx_9 (pointOf b (colOf s))
  show D.arrAt 9 cfg0.N (((cfg0.win 9).blk (pointOf b (colOf s))).view.emb (ix3 (0 : Fin 1) (⟨s.val % 512, by omega⟩ : Fin 512) j)) = _
  refine congrArg (D.arrAt 9 cfg0.N) (funext fun a => Fin.ext ?_)
  match a with
  | ⟨0, _⟩ => show win0_9.index (pointOf b (colOf s)) 0 * 1 + 1 * 0 = b.val; rw [e0]; show (s.val / 32 / 16 * 8 + b.val) % 8 * 1 + 1 * 0 = b.val; omega
  | ⟨1, _⟩ => show win0_9.index (pointOf b (colOf s)) 1 * 512 + 1 * (s.val % 512) = s.val; rw [e1]; show (s.val / 32 / 16 * 8 + b.val) / 8 * 512 + 1 * (s.val % 512) = s.val; omega
  | ⟨2, _⟩ => show win0_9.index (pointOf b (colOf s)) 2 * 1536 + 1 * j.val = j.val; rw [e2]; omega

theorem at_10 (b : Fin 8) (s : Fin 2048) (j : Fin 128) :
    ((cfg0.win 10).blk (pointOf b (colOf s))).view.read (Elt Ideal) (D.arrAt 10 cfg0.N) (ix3 (0 : Fin 1) (⟨s.val % 512, by omega⟩ : Fin 512) j)
      = D.arrAt 10 cfg0.N (ix3 b s j) := by
  obtain ⟨e0, e1, e2⟩ := idx_10 (pointOf b (colOf s))
  show D.arrAt 10 cfg0.N (((cfg0.win 10).blk (pointOf b (colOf s))).view.emb (ix3 (0 : Fin 1) (⟨s.val % 512, by omega⟩ : Fin 512) j)) = _
  refine congrArg (D.arrAt 10 cfg0.N) (funext fun a => Fin.ext ?_)
  match a with
  | ⟨0, _⟩ => show win0_10.index (pointOf b (colOf s)) 0 * 1 + 1 * 0 = b.val; rw [e0]; show (s.val / 32 / 16 * 8 + b.val) % 8 * 1 + 1 * 0 = b.val; omega
  | ⟨1, _⟩ => show win0_10.index (pointOf b (colOf s)) 1 * 512 + 1 * (s.val % 512) = s.val; rw [e1]; show (s.val / 32 / 16 * 8 + b.val) / 8 * 512 + 1 * (s.val % 512) = s.val; omega
  | ⟨2, _⟩ => show win0_10.index (pointOf b (colOf s)) 2 * 128 + 1 * j.val = j.val; rw [e2]; omega

/-- The one flushing point of the column block that column `q` lies in. -/
def lastOf (q : Fin 64) : Fin cfg0.N := ⟨q.val / 16 * 8 + 7, by show _ < 32; omega⟩

theorem at_11 (b : Fin 8) (r : Fin 32) (q : Fin 64) (j : Fin 256) :
    ((cfg0.win 11).blk (lastOf q)).view.read (Elt Ideal) (D.arrAt 11 cfg0.N) (ix4 r (⟨q.val % 16, by omega⟩ : Fin 16) b j) = D.arrAt 11 cfg0.N (ix4 r q b j) := by
  obtain ⟨e0, e1, e2, e3⟩ := idx_11 (lastOf q)
  show D.arrAt 11 cfg0.N (((cfg0.win 11).blk (lastOf q)).view.emb (ix4 r (⟨q.val % 16, by omega⟩ : Fin 16) b j)) = _
  refine congrArg (D.arrAt 11 cfg0.N) (funext fun a => Fin.ext ?_)
  match a with
  | ⟨0, _⟩ => show win0_11.index (lastOf q) 0 * 32 + 1 * r.val = r.val; rw [e0]; omega
  | ⟨1, _⟩ => show win0_11.index (lastOf q) 1 * 16 + 1 * (q.val % 16) = q.val; rw [e1]; show (q.val / 16 * 8 + 7) / 8 * 16 + 1 * (q.val % 16) = q.val; omega
  | ⟨2, _⟩ => show win0_11.index (lastOf q) 2 * 8 + 1 * b.val = b.val; rw [e2]; omega
  | ⟨3, _⟩ => show win0_11.index (lastOf q) 3 * 256 + 1 * j.val = j.val; rw [e3]; omega

theorem arr_7 (h : ∀ t, D.after 7 t = (dat m c).after 7 t) (b : Fin 8) (r : Fin 32) (q : Fin 64) (j : Fin 768) :
    D.arrAt 7 cfg0.N (ix4 b r q j) = zK m c b ⟨r.val * 64 + q.val, by omega⟩ ⟨j.val, by omega⟩ := by
  refine (at_7 c D b r q j).symm.trans ((congrFun (read_7 m c D h (pointOf b q)) _).trans ?_)
  refine (tile_outH _ r ⟨q.val % 16, by omega⟩ j).trans ((zaAt_apply m c _ _ _).trans ?_)
  exact zK_congr m c (batch_point b q) (tok_point b r q) (colA_0 _ j.isLt)

theorem arr_8 (h : ∀ t, D.after 8 t = (dat m c).after 8 t) (b : Fin 8) (r : Fin 32) (q : Fin 64) (j : Fin 768) :
    D.arrAt 8 cfg0.N (ix4 b r q j)
      = zK m c b ⟨r.val * 64 + q.val, by omega⟩ (if h : j.val < 512 then ⟨2304 + j.val, by omega⟩ else ⟨2576 + j.val, by omega⟩) := by
  refine (at_8 c D b r q j).symm.trans ((congrFun (read_8 m c D h (pointOf b q)) _).trans ?_)
  refine (tile_outO _ r ⟨q.val % 16, by omega⟩ j).trans ((zaAt_apply m c _ _ _).trans ?_)
  refine zK_congr m c (batch_point b q) (tok_point b r q) ?_
  by_cases hj : j.val < 512
  · rw [dif_pos hj, colA_2 _ (by show ¬ 1024 + j.val < 1024; omega) (by show 1024 + j.val < 1536; omega)]
    show 1280 + (1024 + j.val) = 2304 + j.val
    omega
  · rw [dif_neg hj, colA_3 _ (by show ¬ 1024 + j.val < 1536; omega)]
    show 1552 + (1024 + j.val) = 2576 + j.val
    omega

theorem arr_9 (h : ∀ t, D.after 9 t = (dat m c).after 9 t) (b : Fin 8) (s : Fin 2048) (j : Fin 1536) :
    D.arrAt 9 cfg0.N (ix3 b s j) = zK m c b ⟨s.val % 32 * 64 + s.val / 32, by omega⟩ ⟨768 + j.val, by omega⟩ := by
  refine (at_9 c D b s j).symm.trans ((congrFun (read_9 m c D h _) _).trans ?_)
  refine (tile_outM _ ⟨s.val % 512, by omega⟩ j).trans ((zmAt_lt m c _ _ _ j.isLt).trans ?_)
  exact zK_congr m c (batch_point b _) (tok_place b s) rfl

theorem arr_10 (h : ∀ t, D.after 10 t = (dat m c).after 10 t) (b : Fin 8) (s : Fin 2048) (j : Fin 128) :
    D.arrAt 10 cfg0.N (ix3 b s j)
      = if h : j.val < 16 then zK m c b ⟨s.val % 32 * 64 + s.val / 32, by omega⟩ ⟨2816 + j.val, by omega⟩ else (0 : EReal) := by
  refine (at_10 c D b s j).symm.trans ((congrFun (read_10 m c D h _) _).trans ?_)
  refine (tile_outG _ ⟨s.val % 512, by omega⟩ j).trans ?_
  by_cases hj : j.val < 16
  · rw [dif_pos hj]
    refine (zmAt_mid m c _ _ _ (by show ¬ 1536 + j.val < 1536; omega) (by show 1536 + j.val < 1552; omega)).trans ?_
    exact zK_congr m c (batch_point b _) (tok_place b s) (by show 1280 + (1536 + j.val) = 2816 + j.val; omega)
  · rw [dif_neg hj]
    exact zmAt_ge m c _ _ _ (by show ¬ 1536 + j.val < 1552; omega)

theorem arr_11 (h : ∀ t, (cfg0.win 11).flush t = true → rowsIn m c t (D.after 11 t)) (b : Fin 8) (r : Fin 32) (q : Fin 64) (j : Fin 256) :
    D.arrAt 11 cfg0.N (ix4 r q b j) = zK m c b ⟨r.val * 64 + q.val, by omega⟩ ⟨2832 + j.val, by omega⟩ := by
  have hf : (cfg0.win 11).flush (lastOf q) = true := (flush0_11 _).2 (by show (q.val / 16 * 8 + 7) % 8 = 7; omega)
  refine (at_11 c D b r q j).symm.trans ((congrFun (read_11 c D (lastOf q) hf) _).trans ?_)
  refine (h (lastOf q) hf (pointOf b q) ?_ ?_ r ⟨q.val % 16, by omega⟩ b j ?_).trans ?_
  · show (q.val / 16 * 8 + b.val) / 8 = (q.val / 16 * 8 + 7) / 8; omega
  · show q.val / 16 * 8 + b.val ≤ q.val / 16 * 8 + 7; omega
  · show b.val = (q.val / 16 * 8 + b.val) % 8; omega
  refine (tile_outR _ r ⟨q.val % 16, by omega⟩ j).trans ((zaAt_apply m c _ _ _).trans ?_)
  refine zK_congr m c (batch_point b q) (tok_point b r q) ?_
  rw [colA_1 _ (by show ¬ 768 + j.val < 768; omega) (by show 768 + j.val < 1024; omega)]
  show 2064 + (768 + j.val) = 2832 + j.val
  omega

end Cert.Inproj

end
-- ==== Proof.ProjRef.lean ====
module

public import proofs.«01_k».proof.Proof.Gen.Reference3Ideal.Read
public import proofs.«01_k».proof.Proof.ProjRow
public import Idealize.ShloMosaic.Lib.Pointwise

@[expose] public section

noncomputable section

namespace Cert.Inproj

open Cert.Reference3Ideal Cert.Reference3Ideal.Gen Cert.Reference3Ideal.Read Idealize.ShloMosaic

/-! The reference's five results, token by token. -/

variable (x0 : Vec Ideal S8x2048x1024 .f32) (x1 : Vec Ideal S2x16x6144 .f32) (x2 : Vec Ideal S2x1024 .f32) (x3 : Vec Ideal S2x1024x3344 .f32)
  (b : Fin 8) (T : Fin 2048)

/-- The reference's projection: `z` of its arguments. -/
abbrev zR (b : Fin 8) (T : Fin 2048) (j : Fin 3344) : EReal :=
  z (fun i j k => x0 (ix3 i j k)) (fun i j k => x1 (ix3 i j k)) (fun i j => x2 (ix2 i j)) (fun i j k => x3 (ix3 i j k)) b T j

theorem ref_h (k : Fin 1024) : val_main_v27 (F := Ideal) x0 x1 x2 (ix3 b T k)
    = hN (fun k => x0 (ix3 b T k)) (fun k => x2 (ix2 0 k)) (fun k => x1 (ix3 0 ⟨b.val, by omega⟩ ⟨1024 + k.val, by omega⟩))
        (fun k => x1 (ix3 0 ⟨b.val, by omega⟩ ⟨k.val, by omega⟩)) k := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem ref_z (j : Fin 3344) : val_main_v30 (F := Ideal) x0 x1 x2 x3 (ix3 b T j) = zR x0 x1 x2 x3 b T j := by
  pointwise [val_main_v30, val_main_v29, val_main_v28]
  simp only [ref_h]
  rfl

theorem ref_48 (r : Fin 32) (q : Fin 64) (j : Fin 768) : val_main_v48 (F := Ideal) x0 x1 x2 x3 (ix4 b r q j)
    = zR x0 x1 x2 x3 b ⟨r.val * 64 + q.val, by omega⟩ ⟨j.val, by omega⟩ := by
  pointwise [val_main_v48, val_main_v36, val_main_v35]
  simp only [ref_z]

theorem ref_41 (r : Fin 32) (q : Fin 64) (j : Fin 768) : val_main_v41 (F := Ideal) x0 x1 x2 x3 (ix4 b r q j)
    = zR x0 x1 x2 x3 b ⟨r.val * 64 + q.val, by omega⟩ (if h : j.val < 512 then ⟨2304 + j.val, by omega⟩ else ⟨2576 + j.val, by omega⟩) := by
  pointwise [val_main_v41, val_main_v40, val_main_v39, val_main_v38, val_main_v37]
  simp only [ref_z]
  by_cases h : j.val < 512
  · rw [dif_pos h, dif_pos h]
  · rw [dif_neg h, dif_neg h]
    refine congrArg (zR x0 x1 x2 x3 b _) (Fin.ext ?_)
    show 3088 + (j.val - 512) = 2576 + j.val
    omega

theorem ref_34 (s : Fin 2048) (j : Fin 2064) : val_main_v34 (F := Ideal) x0 x1 x2 x3 (ix3 b s j)
    = zR x0 x1 x2 x3 b ⟨s.val % 32 * 64 + s.val / 32, by omega⟩ ⟨768 + j.val, by omega⟩ := by
  pointwise [val_main_v34, val_main_v33, val_main_v32, val_main_v31]
  simp only [ref_z]

theorem ref_49 (s : Fin 2048) (j : Fin 1536) : val_main_v49 (F := Ideal) x0 x1 x2 x3 (ix3 b s j)
    = zR x0 x1 x2 x3 b ⟨s.val % 32 * 64 + s.val / 32, by omega⟩ ⟨768 + j.val, by omega⟩ := by
  pointwise [val_main_v49, val_main_v42]
  simp only [ref_34]

theorem ref_44 (s : Fin 2048) (j : Fin 128) : val_main_v44 (F := Ideal) x0 x1 x2 x3 (ix3 b s j)
    = if h : j.val < 16 then zR x0 x1 x2 x3 b ⟨s.val % 32 * 64 + s.val / 32, by omega⟩ ⟨2816 + j.val, by omega⟩ else 0 := by
  pointwise [val_main_v44, val_main_v43]
  simp only [ref_34]
  by_cases h : j.val < 16
  · rw [dif_pos h, dif_pos h]
    refine congrArg (zR x0 x1 x2 x3 b _) (Fin.ext ?_)
    show 768 + (2048 + j.val) = 2816 + j.val
    omega
  · rw [dif_neg h, dif_neg h]
    show (((0#32 : BitVec 32).toInt : ℝ) : EReal) = 0
    simp

theorem ref_47 (r : Fin 32) (q : Fin 64) (j : Fin 256) : val_main_v47 (F := Ideal) x0 x1 x2 x3 (ix4 r q b j)
    = zR x0 x1 x2 x3 b ⟨r.val * 64 + q.val, by omega⟩ ⟨2832 + j.val, by omega⟩ := by
  pointwise [val_main_v47, val_main_v46, val_main_v45]
  simp only [ref_z]

end Cert.Inproj
-- ==== Proof.ProjClaim.lean ====
module

public import proofs.«01_k».proof.Defs
public import proofs.«01_k».proof.Proof.ProjArr
public import proofs.«01_k».proof.Proof.ProjRef

@[expose] public section

noncomputable section

namespace Cert.Inproj

open Idealize.ShloMosaic Idealize.ShloMosaic.TcCoe Idealize.SL.Sem
open Cert.Kernel3Ideal.Proj (dat loose holds rowsIn)

theorem idx3_eta {n0 n1 n2 : ℕ} (y : (⟨3, ![n0, n1, n2]⟩ : Shape).Idx) : y = ix3 (y 0) (y 1) (y 2) := by
  funext a
  match a with
  | ⟨0, _⟩ => rfl
  | ⟨1, _⟩ => rfl
  | ⟨2, _⟩ => rfl

theorem idx4_eta {n0 n1 n2 n3 : ℕ} (y : (⟨4, ![n0, n1, n2, n3]⟩ : Shape).Idx) : y = ix4 (y 0) (y 1) (y 2) (y 3) := by
  funext a
  match a with
  | ⟨0, _⟩ => rfl
  | ⟨1, _⟩ => rfl
  | ⟨2, _⟩ => rfl
  | ⟨3, _⟩ => rfl

section Kernel

open Cert.Kernel3Ideal Idealize.SL Idealize.SL.RA

variable (m : (ℓ : Loc nD τ sig) → Buf (Elt Ideal) ℓ) (c : Dev nD)

/-- The five results, of the arguments. -/
abbrev v0 : Buf (Elt Ideal) ((c.tc : Thread nD τ).loc main_v27_0) :=
  Cert.Reference3Ideal.Read.val_main_v48 (F := Ideal) (m ((c.tc : Thread nD τ).loc main_arg0)) (m ((c.tc : Thread nD τ).loc main_arg1)) (m ((c.tc : Thread nD τ).loc main_arg2)) (m ((c.tc : Thread nD τ).loc main_arg3))
abbrev v1 : Buf (Elt Ideal) ((c.tc : Thread nD τ).loc main_v27_1) :=
  Cert.Reference3Ideal.Read.val_main_v41 (F := Ideal) (m ((c.tc : Thread nD τ).loc main_arg0)) (m ((c.tc : Thread nD τ).loc main_arg1)) (m ((c.tc : Thread nD τ).loc main_arg2)) (m ((c.tc : Thread nD τ).loc main_arg3))
abbrev v2 : Buf (Elt Ideal) ((c.tc : Thread nD τ).loc main_v27_2) :=
  Cert.Reference3Ideal.Read.val_main_v49 (F := Ideal) (m ((c.tc : Thread nD τ).loc main_arg0)) (m ((c.tc : Thread nD τ).loc main_arg1)) (m ((c.tc : Thread nD τ).loc main_arg2)) (m ((c.tc : Thread nD τ).loc main_arg3))
abbrev v3 : Buf (Elt Ideal) ((c.tc : Thread nD τ).loc main_v27_3) :=
  Cert.Reference3Ideal.Read.val_main_v44 (F := Ideal) (m ((c.tc : Thread nD τ).loc main_arg0)) (m ((c.tc : Thread nD τ).loc main_arg1)) (m ((c.tc : Thread nD τ).loc main_arg2)) (m ((c.tc : Thread nD τ).loc main_arg3))
abbrev v4 : Buf (Elt Ideal) ((c.tc : Thread nD τ).loc main_v27_4) :=
  Cert.Reference3Ideal.Read.val_main_v47 (F := Ideal) (m ((c.tc : Thread nD τ).loc main_arg0)) (m ((c.tc : Thread nD τ).loc main_arg1)) (m ((c.tc : Thread nD τ).loc main_arg2)) (m ((c.tc : Thread nD τ).loc main_arg3))

/-- What a window of the first four results holds after a point is what the exact data state. -/
theorem leaves_exact (w : Fin cfg0.W) (hl : loose w = false) (t : Fin cfg0.N) (X : (cfg0.win w).block.Idx → Elt Ideal (cfg0.win w).elt)
    (h : (Cert.Kernel3Ideal.Proj.rdat m c).Leaves w t X) : (dat m c).Leaves w t X := by
  obtain ⟨_, _, hX⟩ := h
  unfold Cert.Kernel3Ideal.Proj.rdat at hX
  rw [(dat m c).toRRel_after_of_eq_false hl] at hX
  exact hX

variable (D : Pipeline.Dat τ (Elt Ideal) Unit ℕ (UR sig nD τ) ℕ cfg0 c)

theorem same_0 (h : ∀ t, D.after 7 t = (dat m c).after 7 t) (b : Fin 8) (r : Fin 32) (q : Fin 64) (j : Fin 768) :
    D.arrAt 7 cfg0.N (ix4 b r q j) = v0 m c (ix4 b r q j) :=
  (arr_7 m c D h b r q j).trans (ref_48 (m ((c.tc : Thread nD τ).loc main_arg0)) (m ((c.tc : Thread nD τ).loc main_arg1)) (m ((c.tc : Thread nD τ).loc main_arg2)) (m ((c.tc : Thread nD τ).loc main_arg3)) b r q j).symm

theorem same_1 (h : ∀ t, D.after 8 t = (dat m c).after 8 t) (b : Fin 8) (r : Fin 32) (q : Fin 64) (j : Fin 768) :
    D.arrAt 8 cfg0.N (ix4 b r q j) = v1 m c (ix4 b r q j) :=
  (arr_8 m c D h b r q j).trans (ref_41 (m ((c.tc : Thread nD τ).loc main_arg0)) (m ((c.tc : Thread nD τ).loc main_arg1)) (m ((c.tc : Thread nD τ).loc main_arg2)) (m ((c.tc : Thread nD τ).loc main_arg3)) b r q j).symm

theorem same_2 (h : ∀ t, D.after 9 t = (dat m c).after 9 t) (b : Fin 8) (s : Fin 2048) (j : Fin 1536) :
    D.arrAt 9 cfg0.N (ix3 b s j) = v2 m c (ix3 b s j) :=
  (arr_9 m c D h b s j).trans (ref_49 (m ((c.tc : Thread nD τ).loc main_arg0)) (m ((c.tc : Thread nD τ).loc main_arg1)) (m ((c.tc : Thread nD τ).loc main_arg2)) (m ((c.tc : Thread nD τ).loc main_arg3)) b s j).symm

theorem same_3 (h : ∀ t, D.after 10 t = (dat m c).after 10 t) (b : Fin 8) (s : Fin 2048) (j : Fin 128) :
    D.arrAt 10 cfg0.N (ix3 b s j) = v3 m c (ix3 b s j) :=
  (arr_10 m c D h b s j).trans (ref_44 (m ((c.tc : Thread nD τ).loc main_arg0)) (m ((c.tc : Thread nD τ).loc main_arg1)) (m ((c.tc : Thread nD τ).loc main_arg2)) (m ((c.tc : Thread nD τ).loc main_arg3)) b s j).symm

theorem same_4 (h : ∀ t, (cfg0.win 11).flush t = true → rowsIn m c t (D.after 11 t)) (b : Fin 8) (r : Fin 32) (q : Fin 64) (j : Fin 256) :
    D.arrAt 11 cfg0.N (ix4 r q b j) = v4 m c (ix4 r q b j) :=
  (arr_11 m c D h b r q j).trans (ref_47 (m ((c.tc : Thread nD τ).loc main_arg0)) (m ((c.tc : Thread nD τ).loc main_arg1)) (m ((c.tc : Thread nD τ).loc main_arg2)) (m ((c.tc : Thread nD τ).loc main_arg3)) b r q j).symm

theorem whole_0 (h : ∀ t, D.after 7 t = (dat m c).after 7 t) : D.arrAt 7 cfg0.N = v0 m c := by
  funext y
  exact (congrArg (D.arrAt 7 cfg0.N) (idx4_eta y)).trans ((same_0 m c D h (y 0) (y 1) (y 2) (y 3)).trans (congrArg (v0 m c) (idx4_eta y)).symm)

theorem whole_1 (h : ∀ t, D.after 8 t = (dat m c).after 8 t) : D.arrAt 8 cfg0.N = v1 m c := by
  funext y
  exact (congrArg (D.arrAt 8 cfg0.N) (idx4_eta y)).trans ((same_1 m c D h (y 0) (y 1) (y 2) (y 3)).trans (congrArg (v1 m c) (idx4_eta y)).symm)

theorem whole_2 (h : ∀ t, D.after 9 t = (dat m c).after 9 t) : D.arrAt 9 cfg0.N = v2 m c := by
  funext y
  exact (congrArg (D.arrAt 9 cfg0.N) (idx3_eta y)).trans ((same_2 m c D h (y 0) (y 1) (y 2)).trans (congrArg (v2 m c) (idx3_eta y)).symm)

theorem whole_3 (h : ∀ t, D.after 10 t = (dat m c).after 10 t) : D.arrAt 10 cfg0.N = v3 m c := by
  funext y
  exact (congrArg (D.arrAt 10 cfg0.N) (idx3_eta y)).trans ((same_3 m c D h (y 0) (y 1) (y 2)).trans (congrArg (v3 m c) (idx3_eta y)).symm)

theorem whole_4 (h : ∀ t, (cfg0.win 11).flush t = true → rowsIn m c t (D.after 11 t)) : D.arrAt 11 cfg0.N = v4 m c := by
  funext y
  exact (congrArg (D.arrAt 11 cfg0.N) (idx4_eta y)).trans ((same_4 m c D h (y 2) (y 0) (y 1) (y 3)).trans (congrArg (v4 m c) (idx4_eta y)).symm)

omit D in
theorem arrays {r : PUnit × MemSt nD τ sig (Elt Ideal)}
    (h : Pipeline.RDat.FramePost cfg0 (Cert.Kernel3Ideal.Proj.rdat m) (Cert.Kernel3Ideal.Gen.V m) r) :
    r.2.mem ((c.tc : Thread nD τ).loc main_v27_0) = v0 m c ∧ r.2.mem ((c.tc : Thread nD τ).loc main_v27_1) = v1 m c
      ∧ r.2.mem ((c.tc : Thread nD τ).loc main_v27_2) = v2 m c ∧ r.2.mem ((c.tc : Thread nD τ).loc main_v27_3) = v3 m c
      ∧ r.2.mem ((c.tc : Thread nD τ).loc main_v27_4) = v4 m c := by
  obtain ⟨after, hL, hA⟩ := h.exists_exact c
  have h7 : ∀ t, after 7 t = (dat m c).after 7 t := fun t => leaves_exact m c 7 rfl t _ (hL 7 t (Cert.Kernel3Ideal.Gen.flush0_7 t))
  have h8 : ∀ t, after 8 t = (dat m c).after 8 t := fun t => leaves_exact m c 8 rfl t _ (hL 8 t (Cert.Kernel3Ideal.Gen.flush0_8 t))
  have h9 : ∀ t, after 9 t = (dat m c).after 9 t := fun t => leaves_exact m c 9 rfl t _ (hL 9 t (Cert.Kernel3Ideal.Gen.flush0_9 t))
  have h10 : ∀ t, after 10 t = (dat m c).after 10 t := fun t => leaves_exact m c 10 rfl t _ (hL 10 t (Cert.Kernel3Ideal.Gen.flush0_10 t))
  have h11 : ∀ t, (cfg0.win 11).flush t = true → rowsIn m c t (after 11 t) := fun t hf => (dat m c).toRRel_leaves (w := 11) rfl (hL 11 t hf)
  exact ⟨(hA 7).trans (whole_0 m c _ h7), (hA 8).trans (whole_1 m c _ h8), (hA 9).trans (whole_2 m c _ h9), (hA 10).trans (whole_3 m c _ h10), (hA 11).trans (whole_4 m c _ h11)⟩

end Kernel

/-- The input projection's kernel and reference leave the same five results from the same arguments. -/
theorem agree : Cert.algebraic_Kernel3Ideal_Reference3Ideal (hKernel3Ideal := Cert.Kernel3Ideal.Gen.facts) (hReference3Ideal := Cert.Reference3Ideal.Gen.facts) := by
  intro m g m' g' _ hm
  refine ⟨fun c => v0 m c, fun c => v1 m c, fun c => v2 m c, fun c => v3 m c, fun c => v4 m c, ?_, ?_⟩
  · refine (θ_run Cert.Kernel3Ideal.defs _ _).mono (fun r h c => ?_)
      (Idealize.ShloMosaic.θ_run_and (Cert.Kernel3Ideal.Proj.run_main_quiescent m g) (Cert.Kernel3Ideal.Proj.frame m g))
    obtain ⟨⟨h, _⟩, k, _⟩ := h
    obtain ⟨h0, h1, h2, h3, h4⟩ := arrays m c h
    exact ⟨h0, h1, h2, h3, h4, k c⟩
  · refine (θ_run Cert.Reference3Ideal.defs _ _).mono (fun r h c => ?_) (Cert.Reference3Ideal.Value.run m' g')
    obtain ⟨h0, h1, h2, h3, h4, k⟩ := h c
    obtain ⟨e0, e1, e2, e3⟩ := hm c
    refine ⟨?_, ?_, ?_, ?_, ?_, k⟩
    · rw [h0, Cert.Reference3Ideal.Read.val_main_v48_eq, e0, e1, e2, e3]
    · rw [h1, Cert.Reference3Ideal.Read.val_main_v41_eq, e0, e1, e2, e3]
    · rw [h2, Cert.Reference3Ideal.Read.val_main_v49_eq, e0, e1, e2, e3]
    · rw [h3, Cert.Reference3Ideal.Read.val_main_v44_eq, e0, e1, e2, e3]
    · rw [h4, Cert.Reference3Ideal.Read.val_main_v47_eq, e0, e1, e2, e3]

end Cert.Inproj

end
-- ==== Proof.lean ====
module

public import proofs.«01_k».proof.Proof.FramesPre
public import proofs.«01_k».proof.Proof.MixClaim
public import proofs.«01_k».proof.Proof.RgClaim
public import proofs.«01_k».proof.Proof.ProjClaim
public import Idealize.ShloMosaic.Init

@[expose] public section

noncomputable section

namespace Cert.Proof

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_rg_finite.Gen.facts,
  Cert.Frames.kernel, Cert.Frames.kernel_ideal, Cert.Frames.kernel_ideal_pre, Cert.Frames.reference_ideal, Cert.Frames.reference_ideal_pre, Cert.Frames.kernel2, Cert.Frames.kernel2_ideal, Cert.Frames.reference2_ideal, Cert.Frames.kernel3, Cert.Frames.kernel3_ideal, Cert.Frames.reference3_ideal, Cert.Frames.preserves, Cert.Rg.agree, trivial, Cert.Mix.agree, trivial, Cert.Inproj.agree⟩

end Cert.Proof

end
